-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def preserves_Kernel_KernelIdeal : Prop :=
  IdealRules.named_const.Statement Cert.KernelIdeal.κ "scale_log2e" .f32 0x3E38AA3B#32 (((8 * (Real.log 2))⁻¹ : ℝ) : EReal)
  ∧ IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v44_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v6) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v6_0)) (v1 : (c : Dev Cert.Kernel13Ideal.nD) → Buf (Elt Ideal) ((c.tc : Thread Cert.Kernel13Ideal.nD Cert.Kernel13Ideal.τ).loc Cert.Kernel13Ideal.main_v6_1)) (v2 : (c : Dev Cert.Kernel13Ideal.nD) → Buf (Elt Ideal) ((c.tc : Thread Cert.Kernel13Ideal.nD Cert.Kernel13Ideal.τ).loc Cert.Kernel13Ideal.main_v6_2)) (v3 : (c : Dev Cert.Kernel13Ideal.nD) → Buf (Elt Ideal) ((c.tc : Thread Cert.Kernel13Ideal.nD Cert.Kernel13Ideal.τ).loc Cert.Kernel13Ideal.main_v6_3)) (v4 : (c : Dev Cert.Kernel13Ideal.nD) → Buf (Elt Ideal) ((c.tc : Thread Cert.Kernel13Ideal.nD Cert.Kernel13Ideal.τ).loc Cert.Kernel13Ideal.main_v6_4)) (v5 : (c : Dev Cert.Kernel13Ideal.nD) → Buf (Elt Ideal) ((c.tc : Thread Cert.Kernel13Ideal.nD Cert.Kernel13Ideal.τ).loc Cert.Kernel13Ideal.main_v6_5)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v6_0) = v0 c
          ∧ r.2.mem ((c.tc : Thread Cert.Kernel13Ideal.nD Cert.Kernel13Ideal.τ).loc Cert.Kernel13Ideal.main_v6_1) = v1 c
          ∧ r.2.mem ((c.tc : Thread Cert.Kernel13Ideal.nD Cert.Kernel13Ideal.τ).loc Cert.Kernel13Ideal.main_v6_2) = v2 c
          ∧ r.2.mem ((c.tc : Thread Cert.Kernel13Ideal.nD Cert.Kernel13Ideal.τ).loc Cert.Kernel13Ideal.main_v6_3) = v3 c
          ∧ r.2.mem ((c.tc : Thread Cert.Kernel13Ideal.nD Cert.Kernel13Ideal.τ).loc Cert.Kernel13Ideal.main_v6_4) = v4 c
          ∧ r.2.mem ((c.tc : Thread Cert.Kernel13Ideal.nD Cert.Kernel13Ideal.τ).loc Cert.Kernel13Ideal.main_v6_5) = v5 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v58) = v0 c
          ∧ r.2.mem ((c.tc : Thread Cert.Reference13Ideal.nD Cert.Reference13Ideal.τ).loc Cert.Reference13Ideal.main_v59) = v1 c
          ∧ r.2.mem ((c.tc : Thread Cert.Reference13Ideal.nD Cert.Reference13Ideal.τ).loc Cert.Reference13Ideal.main_v60) = v2 c
          ∧ r.2.mem ((c.tc : Thread Cert.Reference13Ideal.nD Cert.Reference13Ideal.τ).loc Cert.Reference13Ideal.main_v61) = v3 c
          ∧ r.2.mem ((c.tc : Thread Cert.Reference13Ideal.nD Cert.Reference13Ideal.τ).loc Cert.Reference13Ideal.main_v62) = v4 c
          ∧ r.2.mem ((c.tc : Thread Cert.Reference13Ideal.nD Cert.Reference13Ideal.τ).loc Cert.Reference13Ideal.main_v63) = v5 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v6) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v4) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v6) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v6) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v2) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0_0)) (v1 : (c : Dev Cert.Kernel22Ideal.nD) → Buf (Elt Ideal) ((c.tc : Thread Cert.Kernel22Ideal.nD Cert.Kernel22Ideal.τ).loc Cert.Kernel22Ideal.main_v0_1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0_0) = v0 c
          ∧ r.2.mem ((c.tc : Thread Cert.Kernel22Ideal.nD Cert.Kernel22Ideal.τ).loc Cert.Kernel22Ideal.main_v0_1) = v1 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v3) = v0 c
          ∧ r.2.mem ((c.tc : Thread Cert.Reference22Ideal.nD Cert.Reference22Ideal.τ).loc Cert.Reference22Ideal.main_v6) = v1 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v3) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)) →
    ∃ (v0 : (c : Dev Cert.Kernel24Ideal.nD) → Buf (Elt Ideal) ((c.tc : Thread Cert.Kernel24Ideal.nD Cert.Kernel24Ideal.τ).loc Cert.Kernel24Ideal.main_v6)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v6) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v26) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)) →
    ∃ (v0 : (c : Dev Cert.Kernel25Ideal.nD) → Buf (Elt Ideal) ((c.tc : Thread Cert.Kernel25Ideal.nD Cert.Kernel25Ideal.τ).loc Cert.Kernel25Ideal.main_v0_0)) (v1 : (c : Dev Cert.Kernel25Ideal.nD) → Buf (Elt Ideal) ((c.tc : Thread Cert.Kernel25Ideal.nD Cert.Kernel25Ideal.τ).loc Cert.Kernel25Ideal.main_v0_1)) (v2 : (c : Dev Cert.Kernel25Ideal.nD) → Buf (Elt Ideal) ((c.tc : Thread Cert.Kernel25Ideal.nD Cert.Kernel25Ideal.τ).loc Cert.Kernel25Ideal.main_v0_2)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0_0) = v0 c
          ∧ r.2.mem ((c.tc : Thread Cert.Kernel25Ideal.nD Cert.Kernel25Ideal.τ).loc Cert.Kernel25Ideal.main_v0_1) = v1 c
          ∧ r.2.mem ((c.tc : Thread Cert.Kernel25Ideal.nD Cert.Kernel25Ideal.τ).loc Cert.Kernel25Ideal.main_v0_2) = v2 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v5) = v0 c
          ∧ r.2.mem ((c.tc : Thread Cert.Reference25Ideal.nD Cert.Reference25Ideal.τ).loc Cert.Reference25Ideal.main_v27) = v1 c
          ∧ r.2.mem ((c.tc : Thread Cert.Reference25Ideal.nD Cert.Reference25Ideal.τ).loc Cert.Reference25Ideal.main_v28) = v2 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v5) = v0 c
          ∧ r.2.mem ((c.tc : Thread Cert.Reference26Ideal.nD Cert.Reference26Ideal.τ).loc Cert.Reference26Ideal.main_v27) = v1 c
          ∧ r.2.mem ((c.tc : Thread Cert.Reference26Ideal.nD Cert.Reference26Ideal.τ).loc Cert.Reference26Ideal.main_v28) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)) →
    ∃ (v0 : (c : Dev Cert.Kernel27Ideal.nD) → Buf (Elt Ideal) ((c.tc : Thread Cert.Kernel27Ideal.nD Cert.Kernel27Ideal.τ).loc Cert.Kernel27Ideal.main_v0)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0) = v0 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v3) = v0 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v6) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28)
    ∧ quiescent_Kernel28Ideal (hKernel28Ideal := hKernel28Ideal)
    ∧ quiescent_Reference28Ideal (hReference28Ideal := hReference28Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal)
-- ==== Pre_finite.lean ====
abbrev S4096x2048 : Shape := ⟨2, ![4096, 2048]⟩
abbrev S2x8x2048 : Shape := ⟨3, ![2, 8, 2048]⟩
abbrev S4096x512 : Shape := ⟨2, ![4096, 512]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2x8x2048 : S_.BroadcastsInDim S2x8x2048 (![] : Fin 0 → Fin S2x8x2048.rank)
  reducesTo_S2x8x2048_S_d0_1_2 : S2x8x2048.ReducesTo [0, 1, 2] S_

variable [Facts]

def fn {F : FTy → Type} [FloatOps F] (main_arg0 : FVec F S4096x2048 .bf16) (main_arg1 : FVec F S2x8x2048 .f32) (main_arg2 : FVec F S4096x512 .bf16) : IVec S_ 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_c : IVec S_ 1 := constantI S_ 1 1#1
  let main_v4 : IVec S_ 1 := (fun x v => Host.reduce IntOp.andi x v reducesTo_S4096x2048_S_d0_1 h_S_) main_v3 main_c
  let main_v5 : FVec F S2x8x2048 .f32 := Host.absf main_arg1
  let main_cst_0 : FVec F S_ .f32 := constant S_ .f32 0x7F800000#32
  let main_v6 : FVec F S2x8x2048 .f32 := broadcastInDim S2x8x2048 ![] bcast_S_S2x8x2048 main_cst_0
  let main_v7 : IVec S2x8x2048 1 := cmpf .olt main_v5 main_v6
  let main_c_1 : IVec S_ 1 := constantI S_ 1 1#1
  let main_v8 : IVec S_ 1 := (fun x v => Host.reduce IntOp.andi x v reducesTo_S2x8x2048_S_d0_1_2 h_S_) main_v7 main_c_1
  let main_v9 : IVec S_ 1 := andi main_v4 main_v8
  main_v9
-- ==== Kernel.lean ====
abbrev S4096x2048 : Shape := ⟨2, ![4096, 2048]⟩
abbrev S2x8x2048 : Shape := ⟨3, ![2, 8, 2048]⟩
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S2048 : Shape := ⟨1, ![2048]⟩
abbrev S2x8x2048x1 : Shape := ⟨4, ![2, 8, 2048, 1]⟩
abbrev S2x8x1x2048 : Shape := ⟨4, ![2, 8, 1, 2048]⟩
abbrev S2x8x2048x2048 : Shape := ⟨4, ![2, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x4x2x4x512 : Shape := ⟨5, ![2, 4, 2, 4, 512]⟩
abbrev S2x4x4x2x512 : Shape := ⟨5, ![2, 4, 4, 2, 512]⟩
abbrev S2x2048x8 : Shape := ⟨3, ![2, 2048, 8]⟩
abbrev S2x2048x8x128 : Shape := ⟨4, ![2, 2048, 8, 128]⟩
abbrev S2x2048x1024 : Shape := ⟨3, ![2, 2048, 1024]⟩
abbrev S4096x1024 : Shape := ⟨2, ![4096, 1024]⟩
abbrev S2048x128 : Shape := ⟨2, ![2048, 128]⟩
abbrev S512x128 : Shape := ⟨2, ![512, 128]⟩
abbrev S1x1x4x2x512 : Shape := ⟨5, ![1, 1, 4, 2, 512]⟩
abbrev S512x256 : Shape := ⟨2, ![512, 256]⟩
abbrev S2048x256 : Shape := ⟨2, ![2048, 256]⟩
abbrev S4x2x512 : Shape := ⟨3, ![4, 2, 512]⟩
abbrev S2x512x128 : Shape := ⟨3, ![2, 512, 128]⟩
abbrev S4x128x512 : Shape := ⟨3, ![4, 128, 512]⟩
abbrev S1x128 : Shape := ⟨2, ![1, 128]⟩
abbrev S1x512 : Shape := ⟨2, ![1, 512]⟩
abbrev S512x512 : Shape := ⟨2, ![512, 512]⟩
abbrev S1x1x1x2x512 : Shape := ⟨5, ![1, 1, 1, 2, 512]⟩
abbrev S2x512 : Shape := ⟨2, ![2, 512]⟩
abbrev S512 : Shape := ⟨1, ![512]⟩
abbrev S1x1x512 : Shape := ⟨3, ![1, 1, 512]⟩
abbrev S128x512 : Shape := ⟨2, ![128, 512]⟩
abbrev S1x2x512 : Shape := ⟨3, ![1, 2, 512]⟩
abbrev S1x512x128 : Shape := ⟨3, ![1, 512, 128]⟩
abbrev S1x64x512 : Shape := ⟨3, ![1, 64, 512]⟩
abbrev S64x512 : Shape := ⟨2, ![64, 512]⟩
abbrev S1x128x512 : Shape := ⟨3, ![1, 128, 512]⟩
abbrev S512x1 : Shape := ⟨2, ![512, 1]⟩

abbrev nBuf : Space → Nat
  | .hbm => 59
  | .vmem => 31
  | .smem => 0
  | _ => 0

abbrev bufTy : (tb : Table) → Fin (tcTables nBuf tb) → BufTy
  | .hbm, ⟨0, _⟩ => ⟨S4096x2048, .bf16⟩
  | .hbm, ⟨1, _⟩ => ⟨S2x8x2048, .f32⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S2x2048x8x64, .f32⟩
  | .hbm, ⟨6, _⟩ => ⟨S2x8x2048x64, .f32⟩
  | .hbm, ⟨7, _⟩ => ⟨S4096x512, .bf16⟩
  | .hbm, ⟨8, _⟩ => ⟨S4096x512, .f32⟩
  | .hbm, ⟨9, _⟩ => ⟨S2x2048x8x64, .f32⟩
  | .hbm, ⟨10, _⟩ => ⟨S2x8x2048x64, .f32⟩
  | .hbm, ⟨11, _⟩ => ⟨S2048, .i32⟩
  | .hbm, ⟨12, _⟩ => ⟨S2x8x2048x1, .f32⟩
  | .hbm, ⟨13, _⟩ => ⟨S2x8x1x2048, .f32⟩
  | .hbm, ⟨14, _⟩ => ⟨S2x8x2048x2048, .f32⟩
  | .hbm, ⟨15, _⟩ => ⟨S2x8x2048x2048, .f32⟩
  | .hbm, ⟨16, _⟩ => ⟨S2x8x2048x2048, .f32⟩
  | .hbm, ⟨17, _⟩ => ⟨S1x2048, .i32⟩
  | .hbm, ⟨18, _⟩ => ⟨S2048x1, .i32⟩
  | .hbm, ⟨19, _⟩ => ⟨S2048x2048, .i32⟩
  | .hbm, ⟨20, _⟩ => ⟨S2048x2048, .i32⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S2x8x2048x2048, .i1⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S_, .f32⟩
  | .hbm, ⟨29, _⟩ => ⟨S2x8x2048x2048, .f32⟩
  | .hbm, ⟨30, _⟩ => ⟨S2x8x2048x2048, .f32⟩
  | .hbm, ⟨31, _⟩ => ⟨S2x8x2048x2048, .f32⟩
  | .hbm, ⟨32, _⟩ => ⟨S_, .f32⟩
  | .hbm, ⟨33, _⟩ => ⟨S2x8x2048, .f32⟩
  | .hbm, ⟨34, _⟩ => ⟨S2x8x2048x1, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048, .f32⟩
  | .hbm, ⟨41, _⟩ => ⟨S2x8x2048, .f32⟩
  | .hbm, ⟨42, _⟩ => ⟨S_, .f32⟩
  | .hbm, ⟨43, _⟩ => ⟨S_, .f32⟩
  | .hbm, ⟨44, _⟩ => ⟨S2x8x2048, .f32⟩
  | .hbm, ⟨45, _⟩ => ⟨S2x8x2048, .f32⟩
  | .hbm, ⟨46, _⟩ => ⟨S2x8x2048, .f32⟩
  | .hbm, ⟨47, _⟩ => ⟨S2x4x2x4x512, .f32⟩
  | .hbm, ⟨48, _⟩ => ⟨S2x4x4x2x512, .f32⟩
  | .hbm, ⟨49, _⟩ => ⟨S2x8x2048, .f32⟩
  | .hbm, ⟨50, _⟩ => ⟨S2x8x2048, .f32⟩
  | .hbm, ⟨51, _⟩ => ⟨S2x2048x8, .f32⟩
  | .hbm, ⟨52, _⟩ => ⟨S2x2048x8x128, .f32⟩
  | .hbm, ⟨53, _⟩ => ⟨S2x2048x1024, .f32⟩
  | .hbm, ⟨54, _⟩ => ⟨S4096x1024, .f32⟩
  | .hbm, ⟨55, _⟩ => ⟨S4096x512, .f32⟩
  | .hbm, ⟨56, _⟩ => ⟨S4096x512, .bf16⟩
  | .hbm, ⟨57, _⟩ => ⟨S4096x512, .bf16⟩
  | .hbm, ⟨58, _⟩ => ⟨S4096x512, .f32⟩
  | .local _ .vmem, ⟨0, _⟩ => ⟨S2048x128, .bf16⟩
  | .local _ .vmem, ⟨1, _⟩ => ⟨S2048x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S1x1x4x2x512, .f32⟩
  | .local _ .vmem, ⟨7, _⟩ => ⟨S1x1x4x2x512, .f32⟩
  | .local _ .vmem, ⟨8, _⟩ => ⟨S2048x128, .bf16⟩
  | .local _ .vmem, ⟨9, _⟩ => ⟨S2048x128, .bf16⟩
  | .local _ .vmem, ⟨10, _⟩ => ⟨S512x256, .f32⟩
  | .local _ .vmem, ⟨11, _⟩ => ⟨S512x256, .f32⟩
  | .local _ .vmem, ⟨12, _⟩ => ⟨S2048x128, .bf16⟩
  | .local _ .vmem, ⟨13, _⟩ => ⟨S2048x128, .bf16⟩
  | .local _ .vmem, ⟨14, _⟩ => ⟨S2048x128, .bf16⟩
  | .local _ .vmem, ⟨15, _⟩ => ⟨S2048x128, .bf16⟩
  | .local _ .vmem, ⟨16, _⟩ => ⟨S2048x256, .f32⟩
  | .local _ .vmem, ⟨17, _⟩ => ⟨S2048x256, .f32⟩
  | .local _ .vmem, ⟨18, _⟩ => ⟨S2048x128, .f32⟩
  | .local _ .vmem, ⟨19, _⟩ => ⟨S2048x128, .f32⟩
  | .local _ .vmem, ⟨20, _⟩ => ⟨S512x128, .bf16⟩
  | .local _ .vmem, ⟨21, _⟩ => ⟨S512x128, .bf16⟩
  | .local _ .vmem, ⟨22, _⟩ => ⟨S512x128, .bf16⟩
  | .local _ .vmem, ⟨23, _⟩ => ⟨S512x128, .bf16⟩
  | .local _ .vmem, ⟨24, _⟩ => ⟨S512x128, .f32⟩
  | .local _ .vmem, ⟨25, _⟩ => ⟨S512x128, .f32⟩
  | .local _ .vmem, ⟨26, _⟩ => ⟨S4x2x512, .f32⟩
  | .local _ .vmem, ⟨27, _⟩ => ⟨S2x512x128, .f32⟩
  | .local _ .vmem, ⟨28, _⟩ => ⟨S2x512x128, .f32⟩
  | .local _ .vmem, ⟨29, _⟩ => ⟨S4x128x512, .f32⟩
  | .local _ .vmem, ⟨30, _⟩ => ⟨S2x512x128, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v19 : Ref sig .tc := ⟨.hbm, 26, rfl⟩
abbrev main_v20 : Ref sig .tc := ⟨.hbm, 27, rfl⟩
abbrev main_cst_0 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44_0 : Ref sig .tc := ⟨.hbm, 55, rfl⟩
abbrev main_v44_1 : Ref sig .tc := ⟨.hbm, 56, rfl⟩
abbrev main_v44_2 : Ref sig .tc := ⟨.hbm, 57, rfl⟩
abbrev main_v44_3 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_scratch3 : Ref sig .tc := ⟨.vmem, 29, rfl⟩
abbrev cc0_scratch4 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨3, ![2, 4, 4], ![false, false, false]⟩

def k0_cond1 (i : grid0.Coords) : BitVec 1 :=
  let arg2 : BitVec 32 := BitVec.ofNat 32 (i 2).val
  let c0_i32_1 : BitVec 32 := 0#32
  let v13 : BitVec 1 := Scalar.cmpi .eq arg2 c0_i32_1
  let v14 : BitVec 32 := Scalar.extui v13
  let c0_i32_2 : BitVec 32 := 0#32
  let v15 : BitVec 1 := Scalar.cmpi .ne v14 c0_i32_2
  v15

@[reducible] def k0_t1_loop : Scf.Loop 32 :=
  let c0_i32_146 : BitVec 32 := 0#32
  let c4_i32_147 : BitVec 32 := 4#32
  let v281 : BitVec 32 := Scalar.addi c0_i32_146 c4_i32_147
  let c1_i32_148 : BitVec 32 := 1#32
  ⟨c0_i32_146, v281, c1_i32_148⟩
def k0_mult1 (k0_t1 : Fin k0_t1_loop.trips) : BitVec 32 :=
  let c0_i32_146 : BitVec 32 := 0#32
  let c1_i32_148 : BitVec 32 := 1#32
  let arg21 : BitVec 32 := Scf.iv c0_i32_146 c1_i32_148 k0_t1
  let c512_i32_150 : BitVec 32 := 512#32
  let v282 : BitVec 32 := Scalar.muli arg21 c512_i32_150
  v282
def k0_off1 (k0_t1 : Fin k0_t1_loop.trips) : Fin 2 → Nat :=
  let c0_i32_146 : BitVec 32 := 0#32
  let c1_i32_148 : BitVec 32 := 1#32
  let arg21 : BitVec 32 := Scf.iv c0_i32_146 c1_i32_148 k0_t1
  let c512_i32_150 : BitVec 32 := 512#32
  let v282 : BitVec 32 := Scalar.muli arg21 c512_i32_150
  let v283 : BitVec 32 := v282
  let v284 : Index := Scalar.indexCast v283
  let c0_151 : Index := 0#32
  ![v284.toNat, 0]
@[reducible] def k0_t2_loop (k0_t1 : Fin k0_t1_loop.trips) : Scf.Loop 32 :=
  let c0_i32_155 : BitVec 32 := 0#32
  let c0_i32_146 : BitVec 32 := 0#32
  let c1_i32_148 : BitVec 32 := 1#32
  let arg21 : BitVec 32 := Scf.iv c0_i32_146 c1_i32_148 k0_t1
  let v290 : BitVec 32 := Scalar.subi arg21 c0_i32_155
  let c1_i32_156 : BitVec 32 := 1#32
  let v292 : BitVec 32 := Scalar.divsi v290 c1_i32_156
  let v293 : BitVec 32 := Scalar.muli v292 c1_i32_156
  let v294 : BitVec 32 := Scalar.addi c0_i32_155 v293
  let c1_i32_157 : BitVec 32 := 1#32
  ⟨c0_i32_155, v294, c1_i32_157⟩
def k0_mult2 (k0_t1 : Fin k0_t1_loop.trips) (k0_t2 : Fin (k0_t2_loop k0_t1).trips) : BitVec 32 :=
  let c0_i32_155 : BitVec 32 := 0#32
  let c1_i32_157 : BitVec 32 := 1#32
  let arg22 : BitVec 32 := Scf.iv c0_i32_155 c1_i32_157 k0_t2
  let c512_i32_198 : BitVec 32 := 512#32
  let v405 : BitVec 32 := Scalar.muli arg22 c512_i32_198
  v405
def k0_off2 (k0_t1 : Fin k0_t1_loop.trips) (k0_t2 : Fin (k0_t2_loop k0_t1).trips) : Fin 2 → Nat :=
  let c0_i32_155 : BitVec 32 := 0#32
  let c1_i32_157 : BitVec 32 := 1#32
  let arg22 : BitVec 32 := Scf.iv c0_i32_155 c1_i32_157 k0_t2
  let c512_i32_198 : BitVec 32 := 512#32
  let v405 : BitVec 32 := Scalar.muli arg22 c512_i32_198
  let v406 : BitVec 32 := v405
  let v407 : Index := Scalar.indexCast v406
  let c0_199 : Index := 0#32
  ![v407.toNat, 0]
def k0_off3 (k0_t1 : Fin k0_t1_loop.trips) (k0_t2 : Fin (k0_t2_loop k0_t1).trips) : Fin 2 → Nat :=
  let c0_i32_155 : BitVec 32 := 0#32
  let c1_i32_157 : BitVec 32 := 1#32
  let arg22 : BitVec 32 := Scf.iv c0_i32_155 c1_i32_157 k0_t2
  let c512_i32_198 : BitVec 32 := 512#32
  let v405 : BitVec 32 := Scalar.muli arg22 c512_i32_198
  let v406 : BitVec 32 := v405
  let v411 : Index := Scalar.indexCast v406
  let c0_201 : Index := 0#32
  ![v411.toNat, 0]
def k0_off4 (k0_t1 : Fin k0_t1_loop.trips) : Fin 5 → Nat :=
  let c0_208 : Index := 0#32
  let c0_209 : Index := 0#32
  let c0_i32_146 : BitVec 32 := 0#32
  let c1_i32_148 : BitVec 32 := 1#32
  let arg21 : BitVec 32 := Scf.iv c0_i32_146 c1_i32_148 k0_t1
  let v431 : Index := Scalar.indexCast arg21
  let c0_210 : Index := 0#32
  let c0_211 : Index := 0#32
  ![0, 0, v431.toNat, 0, 0]
@[reducible] def k0_t3_loop (k0_t1 : Fin k0_t1_loop.trips) : Scf.Loop 32 :=
  let c0_i32_155 : BitVec 32 := 0#32
  let c0_i32_146 : BitVec 32 := 0#32
  let c1_i32_148 : BitVec 32 := 1#32
  let arg21 : BitVec 32 := Scf.iv c0_i32_146 c1_i32_148 k0_t1
  let v290 : BitVec 32 := Scalar.subi arg21 c0_i32_155
  let c1_i32_156 : BitVec 32 := 1#32
  let v292 : BitVec 32 := Scalar.divsi v290 c1_i32_156
  let v293 : BitVec 32 := Scalar.muli v292 c1_i32_156
  let v294 : BitVec 32 := Scalar.addi c0_i32_155 v293
  let v291 : BitVec 32 := Scalar.addi c0_i32_155 v290
  let c1_i32_158 : BitVec 32 := 1#32
  ⟨v294, v291, c1_i32_158⟩
def k0_mult3 (k0_t1 : Fin k0_t1_loop.trips) (k0_t3 : Fin (k0_t3_loop k0_t1).trips) : BitVec 32 :=
  let c0_i32_155 : BitVec 32 := 0#32
  let c0_i32_146 : BitVec 32 := 0#32
  let c1_i32_148 : BitVec 32 := 1#32
  let arg21 : BitVec 32 := Scf.iv c0_i32_146 c1_i32_148 k0_t1
  let v290 : BitVec 32 := Scalar.subi arg21 c0_i32_155
  let c1_i32_156 : BitVec 32 := 1#32
  let v292 : BitVec 32 := Scalar.divsi v290 c1_i32_156
  let v293 : BitVec 32 := Scalar.muli v292 c1_i32_156
  let v294 : BitVec 32 := Scalar.addi c0_i32_155 v293
  let c1_i32_158 : BitVec 32 := 1#32
  let arg22 : BitVec 32 := Scf.iv v294 c1_i32_158 k0_t3
  let c512_i32_198 : BitVec 32 := 512#32
  let v405 : BitVec 32 := Scalar.muli arg22 c512_i32_198
  v405
def k0_off5 (k0_t1 : Fin k0_t1_loop.trips) (k0_t3 : Fin (k0_t3_loop k0_t1).trips) : Fin 2 → Nat :=
  let c0_i32_155 : BitVec 32 := 0#32
  let c0_i32_146 : BitVec 32 := 0#32
  let c1_i32_148 : BitVec 32 := 1#32
  let arg21 : BitVec 32 := Scf.iv c0_i32_146 c1_i32_148 k0_t1
  let v290 : BitVec 32 := Scalar.subi arg21 c0_i32_155
  let c1_i32_156 : BitVec 32 := 1#32
  let v292 : BitVec 32 := Scalar.divsi v290 c1_i32_156
  let v293 : BitVec 32 := Scalar.muli v292 c1_i32_156
  let v294 : BitVec 32 := Scalar.addi c0_i32_155 v293
  let c1_i32_158 : BitVec 32 := 1#32
  let arg22 : BitVec 32 := Scf.iv v294 c1_i32_158 k0_t3
  let c512_i32_198 : BitVec 32 := 512#32
  let v405 : BitVec 32 := Scalar.muli arg22 c512_i32_198
  let v406 : BitVec 32 := v405
  let v407 : Index := Scalar.indexCast v406
  let c0_199 : Index := 0#32
  ![v407.toNat, 0]
def k0_off6 (k0_t1 : Fin k0_t1_loop.trips) (k0_t3 : Fin (k0_t3_loop k0_t1).trips) : Fin 2 → Nat :=
  let c0_i32_155 : BitVec 32 := 0#32
  let c0_i32_146 : BitVec 32 := 0#32
  let c1_i32_148 : BitVec 32 := 1#32
  let arg21 : BitVec 32 := Scf.iv c0_i32_146 c1_i32_148 k0_t1
  let v290 : BitVec 32 := Scalar.subi arg21 c0_i32_155
  let c1_i32_156 : BitVec 32 := 1#32
  let v292 : BitVec 32 := Scalar.divsi v290 c1_i32_156
  let v293 : BitVec 32 := Scalar.muli v292 c1_i32_156
  let v294 : BitVec 32 := Scalar.addi c0_i32_155 v293
  let c1_i32_158 : BitVec 32 := 1#32
  let arg22 : BitVec 32 := Scf.iv v294 c1_i32_158 k0_t3
  let c512_i32_198 : BitVec 32 := 512#32
  let v405 : BitVec 32 := Scalar.muli arg22 c512_i32_198
  let v406 : BitVec 32 := v405
  let v411 : Index := Scalar.indexCast v406
  let c0_201 : Index := 0#32
  ![v411.toNat, 0]
def k0_off7 (k0_t1 : Fin k0_t1_loop.trips) : Fin 5 → Nat :=
  let c0_208 : Index := 0#32
  let c0_209 : Index := 0#32
  let c0_i32_146 : BitVec 32 := 0#32
  let c1_i32_148 : BitVec 32 := 1#32
  let arg21 : BitVec 32 := Scf.iv c0_i32_146 c1_i32_148 k0_t1
  let v431 : Index := Scalar.indexCast arg21
  let c0_210 : Index := 0#32
  let c0_211 : Index := 0#32
  ![0, 0, v431.toNat, 0, 0]
def k0_mult4 (k0_t1 : Fin k0_t1_loop.trips) : BitVec 32 :=
  let c0_i32_146 : BitVec 32 := 0#32
  let c1_i32_148 : BitVec 32 := 1#32
  let arg21 : BitVec 32 := Scf.iv c0_i32_146 c1_i32_148 k0_t1
  let c512_i32_159 : BitVec 32 := 512#32
  let v297 : BitVec 32 := Scalar.muli arg21 c512_i32_159
  v297
def k0_off8 (k0_t1 : Fin k0_t1_loop.trips) : Fin 2 → Nat :=
  let c0_i32_146 : BitVec 32 := 0#32
  let c1_i32_148 : BitVec 32 := 1#32
  let arg21 : BitVec 32 := Scf.iv c0_i32_146 c1_i32_148 k0_t1
  let c512_i32_159 : BitVec 32 := 512#32
  let v297 : BitVec 32 := Scalar.muli arg21 c512_i32_159
  let v298 : BitVec 32 := v297
  let v303 : Index := Scalar.indexCast v298
  let c0_162 : Index := 0#32
  ![v303.toNat, 0]
def k0_off9 (k0_t1 : Fin k0_t1_loop.trips) : Fin 5 → Nat :=
  let c0_170 : Index := 0#32
  let c0_171 : Index := 0#32
  let c0_i32_146 : BitVec 32 := 0#32
  let c1_i32_148 : BitVec 32 := 1#32
  let arg21 : BitVec 32 := Scf.iv c0_i32_146 c1_i32_148 k0_t1
  let v332 : Index := Scalar.indexCast arg21
  let c0_172 : Index := 0#32
  let c0_173 : Index := 0#32
  ![0, 0, v332.toNat, 0, 0]
def k0_off10 (k0_t1 : Fin k0_t1_loop.trips) : Fin 3 → Nat :=
  let c0_i32_146 : BitVec 32 := 0#32
  let c1_i32_148 : BitVec 32 := 1#32
  let arg21 : BitVec 32 := Scf.iv c0_i32_146 c1_i32_148 k0_t1
  let v397 : Index := Scalar.indexCast arg21
  let c0_194 : Index := 0#32
  let c0_195 : Index := 0#32
  ![v397.toNat, 0, 0]
def k0_off11 (k0_t1 : Fin k0_t1_loop.trips) : Fin 3 → Nat :=
  let c0_i32_146 : BitVec 32 := 0#32
  let c1_i32_148 : BitVec 32 := 1#32
  let arg21 : BitVec 32 := Scf.iv c0_i32_146 c1_i32_148 k0_t1
  let v401 : Index := Scalar.indexCast arg21
  let c1_196 : Index := 1#32
  let c0_197 : Index := 0#32
  ![v401.toNat, 1, 0]
def k0_mult5 (i : grid0.Coords) : BitVec 32 :=
  let arg2 : BitVec 32 := BitVec.ofNat 32 (i 2).val
  let c512_i32_17 : BitVec 32 := 512#32
  let v33 : BitVec 32 := Scalar.muli arg2 c512_i32_17
  v33
def k0_off12 (i : grid0.Coords) : Fin 2 → Nat :=
  let arg2 : BitVec 32 := BitVec.ofNat 32 (i 2).val
  let c512_i32_17 : BitVec 32 := 512#32
  let v33 : BitVec 32 := Scalar.muli arg2 c512_i32_17
  let v34 : BitVec 32 := v33
  let v35 : Index := Scalar.indexCast v34
  let c0_18 : Index := 0#32
  ![v35.toNat, 0]
def k0_off13 (i : grid0.Coords) : Fin 5 → Nat :=
  let c0_29 : Index := 0#32
  let c0_30 : Index := 0#32
  let arg2 : BitVec 32 := BitVec.ofNat 32 (i 2).val
  let v67 : Index := Scalar.indexCast arg2
  let c0_31 : Index := 0#32
  let c0_32 : Index := 0#32
  ![0, 0, v67.toNat, 0, 0]
def k0_off14 (i : grid0.Coords) : Fin 3 → Nat :=
  let arg2 : BitVec 32 := BitVec.ofNat 32 (i 2).val
  let v79 : Index := Scalar.indexCast arg2
  let c0_35 : Index := 0#32
  let c0_36 : Index := 0#32
  ![v79.toNat, 0, 0]
def k0_off15 (i : grid0.Coords) : Fin 3 → Nat :=
  let arg2 : BitVec 32 := BitVec.ofNat 32 (i 2).val
  let v117 : Index := Scalar.indexCast arg2
  let c0_58 : Index := 0#32
  let c0_59 : Index := 0#32
  ![v117.toNat, 0, 0]
def k0_off16 (i : grid0.Coords) : Fin 3 → Nat :=
  let arg2 : BitVec 32 := BitVec.ofNat 32 (i 2).val
  let v205 : Index := Scalar.indexCast arg2
  let c64 : Index := 64#32
  let c0_100 : Index := 0#32
  ![v205.toNat, 64, 0]
@[reducible] def k0_t4_loop (i : grid0.Coords) : Scf.Loop 32 :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_106 : BitVec 32 := 1#32
  ⟨v215, v220, c1_i32_106⟩
def k0_mult6 (i : grid0.Coords) (k0_t4 : Fin (k0_t4_loop i).trips) : BitVec 32 :=
  let arg2 : BitVec 32 := BitVec.ofNat 32 (i 2).val
  let c1_i32 : BitVec 32 := 1#32
  let v215 : BitVec 32 := Scalar.addi arg2 c1_i32
  let c1_i32_106 : BitVec 32 := 1#32
  let arg21 : BitVec 32 := Scf.iv v215 c1_i32_106 k0_t4
  let c512_i32_142 : BitVec 32 := 512#32
  let v277 : BitVec 32 := Scalar.muli arg21 c512_i32_142
  v277
def k0_off17 (i : grid0.Coords) (k0_t4 : Fin (k0_t4_loop i).trips) : Fin 2 → Nat :=
  let arg2 : BitVec 32 := BitVec.ofNat 32 (i 2).val
  let c1_i32 : BitVec 32 := 1#32
  let v215 : BitVec 32 := Scalar.addi arg2 c1_i32
  let c1_i32_106 : BitVec 32 := 1#32
  let arg21 : BitVec 32 := Scf.iv v215 c1_i32_106 k0_t4
  let c512_i32_142 : BitVec 32 := 512#32
  let v277 : BitVec 32 := Scalar.muli arg21 c512_i32_142
  let v278 : BitVec 32 := v277
  let v279 : Index := Scalar.indexCast v278
  let c0_143 : Index := 0#32
  ![v279.toNat, 0]
def k0_off18 (i : grid0.Coords) (k0_t4 : Fin (k0_t4_loop i).trips) : Fin 5 → Nat :=
  let c0_153 : Index := 0#32
  let c0_154 : Index := 0#32
  let arg2 : BitVec 32 := BitVec.ofNat 32 (i 2).val
  let c1_i32 : BitVec 32 := 1#32
  let v215 : BitVec 32 := Scalar.addi arg2 c1_i32
  let c1_i32_106 : BitVec 32 := 1#32
  let arg21 : BitVec 32 := Scf.iv v215 c1_i32_106 k0_t4
  let v302 : Index := Scalar.indexCast arg21
  let c0_155 : Index := 0#32
  let c0_156 : Index := 0#32
  ![0, 0, v302.toNat, 0, 0]
def k0_off19 (i : grid0.Coords) (k0_t4 : Fin (k0_t4_loop i).trips) : Fin 3 → Nat :=
  let arg2 : BitVec 32 := BitVec.ofNat 32 (i 2).val
  let c1_i32 : BitVec 32 := 1#32
  let v215 : BitVec 32 := Scalar.addi arg2 c1_i32
  let c1_i32_106 : BitVec 32 := 1#32
  let arg21 : BitVec 32 := Scf.iv v215 c1_i32_106 k0_t4
  let v314 : Index := Scalar.indexCast arg21
  let c0_159 : Index := 0#32
  let c0_160 : Index := 0#32
  ![v314.toNat, 0, 0]
def k0_off20 (i : grid0.Coords) (k0_t4 : Fin (k0_t4_loop i).trips) : Fin 3 → Nat :=
  let arg2 : BitVec 32 := BitVec.ofNat 32 (i 2).val
  let c1_i32 : BitVec 32 := 1#32
  let v215 : BitVec 32 := Scalar.addi arg2 c1_i32
  let c1_i32_106 : BitVec 32 := 1#32
  let arg21 : BitVec 32 := Scf.iv v215 c1_i32_106 k0_t4
  let v352 : Index := Scalar.indexCast arg21
  let c0_182 : Index := 0#32
  let c0_183 : Index := 0#32
  ![v352.toNat, 0, 0]
def k0_off21 (i : grid0.Coords) (k0_t4 : Fin (k0_t4_loop i).trips) : Fin 3 → Nat :=
  let arg2 : BitVec 32 := BitVec.ofNat 32 (i 2).val
  let c1_i32 : BitVec 32 := 1#32
  let v215 : BitVec 32 := Scalar.addi arg2 c1_i32
  let c1_i32_106 : BitVec 32 := 1#32
  let arg21 : BitVec 32 := Scf.iv v215 c1_i32_106 k0_t4
  let v431 : Index := Scalar.indexCast arg21
  let c64_224 : Index := 64#32
  let c0_225 : Index := 0#32
  ![v431.toNat, 64, 0]
@[reducible] def k0_t5_loop (i : grid0.Coords) : Scf.Loop 32 :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let v217 : BitVec 32 := Scalar.addi v215 v216
  let c1_i32_107 : BitVec 32 := 1#32
  ⟨v220, v217, c1_i32_107⟩
def k0_mult7 (i : grid0.Coords) (k0_t5 : Fin (k0_t5_loop i).trips) : BitVec 32 :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_107 : BitVec 32 := 1#32
  let arg21 : BitVec 32 := Scf.iv v220 c1_i32_107 k0_t5
  let c512_i32_142 : BitVec 32 := 512#32
  let v277 : BitVec 32 := Scalar.muli arg21 c512_i32_142
  v277
def k0_off22 (i : grid0.Coords) (k0_t5 : Fin (k0_t5_loop i).trips) : Fin 2 → Nat :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_107 : BitVec 32 := 1#32
  let arg21 : BitVec 32 := Scf.iv v220 c1_i32_107 k0_t5
  let c512_i32_142 : BitVec 32 := 512#32
  let v277 : BitVec 32 := Scalar.muli arg21 c512_i32_142
  let v278 : BitVec 32 := v277
  let v279 : Index := Scalar.indexCast v278
  let c0_143 : Index := 0#32
  ![v279.toNat, 0]
def k0_off23 (i : grid0.Coords) (k0_t5 : Fin (k0_t5_loop i).trips) : Fin 5 → Nat :=
  let c0_153 : Index := 0#32
  let c0_154 : Index := 0#32
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_107 : BitVec 32 := 1#32
  let arg21 : BitVec 32 := Scf.iv v220 c1_i32_107 k0_t5
  let v302 : Index := Scalar.indexCast arg21
  let c0_155 : Index := 0#32
  let c0_156 : Index := 0#32
  ![0, 0, v302.toNat, 0, 0]
def k0_off24 (i : grid0.Coords) (k0_t5 : Fin (k0_t5_loop i).trips) : Fin 3 → Nat :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_107 : BitVec 32 := 1#32
  let arg21 : BitVec 32 := Scf.iv v220 c1_i32_107 k0_t5
  let v314 : Index := Scalar.indexCast arg21
  let c0_159 : Index := 0#32
  let c0_160 : Index := 0#32
  ![v314.toNat, 0, 0]
def k0_off25 (i : grid0.Coords) (k0_t5 : Fin (k0_t5_loop i).trips) : Fin 3 → Nat :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_107 : BitVec 32 := 1#32
  let arg21 : BitVec 32 := Scf.iv v220 c1_i32_107 k0_t5
  let v352 : Index := Scalar.indexCast arg21
  let c0_182 : Index := 0#32
  let c0_183 : Index := 0#32
  ![v352.toNat, 0, 0]
def k0_off26 (i : grid0.Coords) (k0_t5 : Fin (k0_t5_loop i).trips) : Fin 3 → Nat :=
  let arg2 : BitVec 32 := BitVec.ofNat 32 (i 2).val
  let c1_i32 : BitVec 32 := 1#32
  let v215 : BitVec 32 := Scalar.addi arg2 c1_i32
  let c4_i32 : BitVec 32 := 4#32
  let v216 : BitVec 32 := Scalar.subi c4_i32 v215
  let c1_i32_105 : BitVec 32 := 1#32
  let v218 : BitVec 32 := Scalar.divsi v216 c1_i32_105
  let v219 : BitVec 32 := Scalar.muli v218 c1_i32_105
  let v220 : BitVec 32 := Scalar.addi v215 v219
  let c1_i32_107 : BitVec 32 := 1#32
  let arg21 : BitVec 32 := Scf.iv v220 c1_i32_107 k0_t5
  let v431 : Index := Scalar.indexCast arg21
  let c64_224 : Index := 64#32
  let c0_225 : Index := 0#32
  ![v431.toNat, 64, 0]
def k0_cond2 (i : grid0.Coords) : BitVec 1 :=
  let arg2 : BitVec 32 := BitVec.ofNat 32 (i 2).val
  let c3_i32 : BitVec 32 := 3#32
  let v221 : BitVec 1 := Scalar.cmpi .eq arg2 c3_i32
  let v222 : BitVec 32 := Scalar.extui v221
  let c0_i32_108 : BitVec 32 := 0#32
  let v223 : BitVec 1 := Scalar.cmpi .ne v222 c0_i32_108
  v223

@[reducible] def k0_t6_loop : Scf.Loop 32 :=
  let c0_i32_142 : BitVec 32 := 0#32
  let c4_i32_143 : BitVec 32 := 4#32
  let v277 : BitVec 32 := Scalar.addi c0_i32_142 c4_i32_143
  let c1_i32_144 : BitVec 32 := 1#32
  ⟨c0_i32_142, v277, c1_i32_144⟩
def k0_off27 (k0_t6 : Fin k0_t6_loop.trips) : Fin 3 → Nat :=
  let c0_i32_142 : BitVec 32 := 0#32
  let c1_i32_144 : BitVec 32 := 1#32
  let arg21 : BitVec 32 := Scf.iv c0_i32_142 c1_i32_144 k0_t6
  let v278 : Index := Scalar.indexCast arg21
  let c0_146 : Index := 0#32
  let c0_147 : Index := 0#32
  ![v278.toNat, 0, 0]
def k0_mult8 (k0_t6 : Fin k0_t6_loop.trips) : BitVec 32 :=
  let c0_i32_142 : BitVec 32 := 0#32
  let c1_i32_144 : BitVec 32 := 1#32
  let arg21 : BitVec 32 := Scf.iv c0_i32_142 c1_i32_144 k0_t6
  let c512_i32_148 : BitVec 32 := 512#32
  let v282 : BitVec 32 := Scalar.muli arg21 c512_i32_148
  v282
def k0_off28 (k0_t6 : Fin k0_t6_loop.trips) : Fin 2 → Nat :=
  let c0_i32_142 : BitVec 32 := 0#32
  let c1_i32_144 : BitVec 32 := 1#32
  let arg21 : BitVec 32 := Scf.iv c0_i32_142 c1_i32_144 k0_t6
  let c512_i32_148 : BitVec 32 := 512#32
  let v282 : BitVec 32 := Scalar.muli arg21 c512_i32_148
  let v283 : BitVec 32 := v282
  let v284 : Index := Scalar.indexCast v283
  let c0_149 : Index := 0#32
  ![v284.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c4_i32_0 : BitVec 32 := 4#32
  let v2 : BitVec 32 := Scalar.addi c4_i32_0 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x4x2x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S2048x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]
-- ==== KernelIdeal.lean ====
variable {F : FTy → Type} [FloatOps F] [Named F]
def κ : String → Option EReal := fun
  | "mask" => some ⊥
  | "scale_log2e" => some (((8 * (Real.log 2))⁻¹ : ℝ) : EReal)
  | _ => none
-- ==== ReferenceIdeal.lean ====
abbrev S4096x2048 : Shape := ⟨2, ![4096, 2048]⟩
abbrev S2x8x2048 : Shape := ⟨3, ![2, 8, 2048]⟩
abbrev S4096x512 : Shape := ⟨2, ![4096, 512]⟩
abbrev S2x2048x8x64 : Shape := ⟨4, ![2, 2048, 8, 64]⟩
abbrev S2x8x2048x64 : Shape := ⟨4, ![2, 8, 2048, 64]⟩
abbrev S2048 : Shape := ⟨1, ![2048]⟩
abbrev S2x8x2048x1 : Shape := ⟨4, ![2, 8, 2048, 1]⟩
abbrev S2x8x1x2048 : Shape := ⟨4, ![2, 8, 1, 2048]⟩
abbrev S2x8x2048x2048 : Shape := ⟨4, ![2, 8, 2048, 2048]⟩
abbrev S1x2048 : Shape := ⟨2, ![1, 2048]⟩
abbrev S2048x1 : Shape := ⟨2, ![2048, 1]⟩
abbrev S2048x2048 : Shape := ⟨2, ![2048, 2048]⟩
abbrev S_ : Shape := ⟨0, ![]⟩
abbrev S2x8x64x2048 : Shape := ⟨4, ![2, 8, 64, 2048]⟩

abbrev nBuf : Space → Nat
  | .hbm => 120
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2x8x2048, .f32⟩
  | .hbm, ⟨2, _⟩ => ⟨S4096x512, .bf16⟩
  | .hbm, ⟨3, _⟩ => ⟨S4096x512, .bf16⟩
  | .hbm, ⟨4, _⟩ => ⟨S4096x512, .f32⟩
  | .hbm, ⟨5, _⟩ => ⟨S2x2048x8x64, .f32⟩
  | .hbm, ⟨6, _⟩ => ⟨S2x8x2048x64, .f32⟩
  | .hbm, ⟨7, _⟩ => ⟨S4096x512, .bf16⟩
  | .hbm, ⟨8, _⟩ => ⟨S4096x512, .f32⟩
  | .hbm, ⟨9, _⟩ => ⟨S2x2048x8x64, .f32⟩
  | .hbm, ⟨10, _⟩ => ⟨S2x8x2048x64, .f32⟩
  | .hbm, ⟨11, _⟩ => ⟨S4096x512, .bf16⟩
  | .hbm, ⟨12, _⟩ => ⟨S4096x512, .f32⟩
  | .hbm, ⟨13, _⟩ => ⟨S2x2048x8x64, .f32⟩
  | .hbm, ⟨14, _⟩ => ⟨S2x8x2048x64, .f32⟩
  | .hbm, ⟨15, _⟩ => ⟨S2048, .i32⟩
  | .hbm, ⟨16, _⟩ => ⟨S2x8x2048x1, .f32⟩
  | .hbm, ⟨17, _⟩ => ⟨S2x8x1x2048, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S1x2048, .i32⟩
  | .hbm, ⟨22, _⟩ => ⟨S2048x1, .i32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x8x2048x2048, .i1⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048x2048, .f32⟩
  | .hbm, ⟨33, _⟩ => ⟨S2x8x2048x2048, .f32⟩
  | .hbm, ⟨34, _⟩ => ⟨S_, .f32⟩
  | .hbm, ⟨35, _⟩ => ⟨S2x8x2048x2048, .f32⟩
  | .hbm, ⟨36, _⟩ => ⟨S2x8x2048x2048, .f32⟩
  | .hbm, ⟨37, _⟩ => ⟨S2x8x2048x2048, .f32⟩
  | .hbm, ⟨38, _⟩ => ⟨S_, .f32⟩
  | .hbm, ⟨39, _⟩ => ⟨S2x8x2048, .f32⟩
  | .hbm, ⟨40, _⟩ => ⟨S2x8x2048x1, .f32⟩
  | .hbm, ⟨41, _⟩ => ⟨S2x8x2048x2048, .f32⟩
  | .hbm, ⟨42, _⟩ => ⟨S2x8x2048x2048, .i1⟩
  | .hbm, ⟨43, _⟩ => ⟨S2x8x2048x2048, .f32⟩
  | .hbm, ⟨44, _⟩ => ⟨S_, .f32⟩
  | .hbm, ⟨45, _⟩ => ⟨S2x8x2048, .f32⟩
  | .hbm, ⟨46, _⟩ => ⟨S_, .f32⟩
  | .hbm, ⟨47, _⟩ => ⟨S2x8x2048, .f32⟩
  | .hbm, ⟨48, _⟩ => ⟨S2x8x2048, .f32⟩
  | .hbm, ⟨49, _⟩ => ⟨S_, .f32⟩
  | .hbm, ⟨50, _⟩ => ⟨S2x8x2048, .f32⟩
  | .hbm, ⟨51, _⟩ => ⟨S2x8x2048, .i1⟩
  | .hbm, ⟨52, _⟩ => ⟨S_, .f32⟩
  | .hbm, ⟨53, _⟩ => ⟨S2x8x2048, .f32⟩
  | .hbm, ⟨54, _⟩ => ⟨S2x8x2048, .i1⟩
  | .hbm, ⟨55, _⟩ => ⟨S_, .f32⟩
  | .hbm, ⟨56, _⟩ => ⟨S2x8x2048, .f32⟩
  | .hbm, ⟨57, _⟩ => ⟨S_, .f32⟩
  | .hbm, ⟨58, _⟩ => ⟨S2x8x2048, .f32⟩
  | .hbm, ⟨59, _⟩ => ⟨S_, .f32⟩
  | .hbm, ⟨60, _⟩ => ⟨S2x8x2048, .f32⟩
  | .hbm, ⟨61, _⟩ => ⟨S2x8x2048, .f32⟩
  | .hbm, ⟨62, _⟩ => ⟨S2x8x2048, .f32⟩
  | .hbm, ⟨63, _⟩ => ⟨S2x8x2048x1, .f32⟩
  | .hbm, ⟨64, _⟩ => ⟨S2x8x2048x2048, .f32⟩
  | .hbm, ⟨65, _⟩ => ⟨S2x8x2048x2048, .f32⟩
  | .hbm, ⟨66, _⟩ => ⟨S2x8x2048x2048, .f32⟩
  | .hbm, ⟨67, _⟩ => ⟨S_, .f32⟩
  | .hbm, ⟨68, _⟩ => ⟨S2x8x2048, .f32⟩
  | .hbm, ⟨69, _⟩ => ⟨S2x8x2048x1, .f32⟩
  | .hbm, ⟨70, _⟩ => ⟨S2x8x2048x2048, .f32⟩
  | .hbm, ⟨71, _⟩ => ⟨S2x8x2048x2048, .f32⟩
  | .hbm, ⟨72, _⟩ => ⟨S2x8x2048x1, .f32⟩
  | .hbm, ⟨73, _⟩ => ⟨S_, .f32⟩
  | .hbm, ⟨74, _⟩ => ⟨S2x8x2048x1, .f32⟩
  | .hbm, ⟨75, _⟩ => ⟨S2x8x2048x1, .f32⟩
  | .hbm, ⟨76, _⟩ => ⟨S2x8x2048x64, .f32⟩
  | .hbm, ⟨77, _⟩ => ⟨S4096x512, .f32⟩
  | .hbm, ⟨78, _⟩ => ⟨S2x2048x8x64, .f32⟩
  | .hbm, ⟨79, _⟩ => ⟨S2x8x2048x64, .f32⟩
  | .hbm, ⟨80, _⟩ => ⟨S2x8x64x2048, .f32⟩
  | .hbm, ⟨81, _⟩ => ⟨S2x8x2048x64, .f32⟩
  | .hbm, ⟨82, _⟩ => ⟨S2x8x2048x2048, .f32⟩
  | .hbm, ⟨83, _⟩ => ⟨S2x8x2048x2048, .f32⟩
  | .hbm, ⟨84, _⟩ => ⟨S2x8x2048x2048, .f32⟩
  | .hbm, ⟨85, _⟩ => ⟨S2x8x2048x2048, .f32⟩
  | .hbm, ⟨86, _⟩ => ⟨S_, .f32⟩
  | .hbm, ⟨87, _⟩ => ⟨S2x8x2048, .f32⟩
  | .hbm, ⟨88, _⟩ => ⟨S2x8x2048x1, .f32⟩
  | .hbm, ⟨89, _⟩ => ⟨S2x8x2048x1, .f32⟩
  | .hbm, ⟨90, _⟩ => ⟨S2x8x2048x2048, .f32⟩
  | .hbm, ⟨91, _⟩ => ⟨S2x8x2048x2048, .f32⟩
  | .hbm, ⟨92, _⟩ => ⟨S_, .f32⟩
  | .hbm, ⟨93, _⟩ => ⟨S2x8x2048, .f32⟩
  | .hbm, ⟨94, _⟩ => ⟨S2x8x2048x2048, .f32⟩
  | .hbm, ⟨95, _⟩ => ⟨S2x8x2048x2048, .f32⟩
  | .hbm, ⟨96, _⟩ => ⟨S2x8x2048x2048, .f32⟩
  | .hbm, ⟨97, _⟩ => ⟨S_, .f32⟩
  | .hbm, ⟨98, _⟩ => ⟨S2x8x2048x2048, .f32⟩
  | .hbm, ⟨99, _⟩ => ⟨S2x8x2048x2048, .f32⟩
  | .hbm, ⟨100, _⟩ => ⟨S2x8x2048x64, .f32⟩
  | .hbm, ⟨101, _⟩ => ⟨S2x8x2048x64, .f32⟩
  | .hbm, ⟨102, _⟩ => ⟨S_, .f32⟩
  | .hbm, ⟨103, _⟩ => ⟨S2x8x2048x2048, .f32⟩
  | .hbm, ⟨104, _⟩ => ⟨S2x8x2048x2048, .f32⟩
  | .hbm, ⟨105, _⟩ => ⟨S_, .f32⟩
  | .hbm, ⟨106, _⟩ => ⟨S2x8x2048, .f32⟩
  | .hbm, ⟨107, _⟩ => ⟨S2x8x2048x1, .f32⟩
  | .hbm, ⟨108, _⟩ => ⟨S2x8x2048x2048, .f32⟩
  | .hbm, ⟨109, _⟩ => ⟨S_, .f32⟩
  | .hbm, ⟨110, _⟩ => ⟨S2x8x2048, .f32⟩
  | .hbm, ⟨111, _⟩ => ⟨S2x8x1x2048, .f32⟩
  | .hbm, ⟨112, _⟩ => ⟨S_, .f32⟩
  | .hbm, ⟨113, _⟩ => ⟨S2x8x2048, .f32⟩
  | .hbm, ⟨114, _⟩ => ⟨S_, .f32⟩
  | .hbm, ⟨115, _⟩ => ⟨S2x8x2048, .f32⟩
  | .hbm, ⟨116, _⟩ => ⟨S2x8x2048, .f32⟩
  | .hbm, ⟨117, _⟩ => ⟨S2x2048x8x64, .f32⟩
  | .hbm, ⟨118, _⟩ => ⟨S4096x512, .f32⟩
  | .hbm, ⟨119, _⟩ => ⟨S4096x512, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_cst : Ref sig .tc := ⟨.hbm, 26, rfl⟩
abbrev main_call0_v0 : Ref sig .tc := ⟨.hbm, 27, rfl⟩
abbrev main_v23_1 : Ref sig .tc := ⟨.hbm, 28, rfl⟩
abbrev main_call0_v2 : Ref sig .tc := ⟨.hbm, 29, rfl⟩
abbrev main_v23_0 : Ref sig .tc := ⟨.hbm, 30, rfl⟩
abbrev main_call0_cst : Ref sig .tc := ⟨.hbm, 31, rfl⟩
abbrev main_v23_2 : Ref sig .tc := ⟨.hbm, 32, rfl⟩
abbrev main_v24 : Ref sig .tc := ⟨.hbm, 33, rfl⟩
abbrev main_cst_0 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_1 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_cst_4 : Ref sig .tc := ⟨.hbm, 49, rfl⟩
abbrev main_v36 : Ref sig .tc := ⟨.hbm, 50, rfl⟩
abbrev main_v37 : Ref sig .tc := ⟨.hbm, 51, rfl⟩
abbrev main_cst_5 : Ref sig .tc := ⟨.hbm, 52, rfl⟩
abbrev main_v38 : Ref sig .tc := ⟨.hbm, 53, rfl⟩
abbrev main_v39 : Ref sig .tc := ⟨.hbm, 54, rfl⟩
abbrev main_cst_6 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_9 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_10 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_11 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_12 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_cst_13 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_call1_cst : Ref sig .tc := ⟨.hbm, 102, rfl⟩
abbrev main_call1_v0 : Ref sig .tc := ⟨.hbm, 103, rfl⟩
abbrev main_v79 : Ref sig .tc := ⟨.hbm, 104, rfl⟩
abbrev main_cst_14 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_cst_15 : Ref sig .tc := ⟨.hbm, 109, rfl⟩
abbrev main_v83 : Ref sig .tc := ⟨.hbm, 110, rfl⟩
abbrev main_v84 : Ref sig .tc := ⟨.hbm, 111, rfl⟩
abbrev main_cst_16 : Ref sig .tc := ⟨.hbm, 112, rfl⟩
abbrev main_v85 : Ref sig .tc := ⟨.hbm, 113, rfl⟩
abbrev main_cst_17 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x4096, .f32⟩
  | .hbm, ⟨9, _⟩ => ⟨S4096x4096, .i1⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S_, .f32⟩
  | .hbm, ⟨14, _⟩ => ⟨S4096x4096, .f32⟩
  | .hbm, ⟨15, _⟩ => ⟨S4096x4096, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S_, .f32⟩
  | .hbm, ⟨3, _⟩ => ⟨S4096x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S1024x4096 : Shape := ⟨2, ![1024, 4096]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S1024x4096, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S_, .f32⟩
  | .hbm, ⟨3, _⟩ => ⟨S1024x4096, .f32⟩
  | .hbm, ⟨4, _⟩ => ⟨S4096x1024, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x4096 : Shape := ⟨2, ![4096, 4096]⟩
abbrev S1024x4096 : Shape := ⟨2, ![1024, 4096]⟩
abbrev S4096x1024 : Shape := ⟨2, ![4096, 1024]⟩
abbrev S512x4096 : Shape := ⟨2, ![512, 4096]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S4096x2048 : Shape := ⟨2, ![4096, 2048]⟩
abbrev S1024x2048 : Shape := ⟨2, ![1024, 2048]⟩
abbrev S4096x1024 : Shape := ⟨2, ![4096, 1024]⟩
abbrev S1024x3072 : Shape := ⟨2, ![1024, 3072]⟩
abbrev S4096x896 : Shape := ⟨2, ![4096, 896]⟩
abbrev S1024x896 : Shape := ⟨2, ![1024, 896]⟩
abbrev S1024x1024 : Shape := ⟨2, ![1024, 1024]⟩
abbrev S256x2048 : Shape := ⟨2, ![256, 2048]⟩
abbrev S256x1024 : Shape := ⟨2, ![256, 1024]⟩
abbrev S256x896 : Shape := ⟨2, ![256, 896]⟩

abbrev nBuf : Space → Nat
  | .hbm => 12
  | .vmem => 17
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x3072, .bf16⟩
  | .hbm, ⟨6, _⟩ => ⟨S4096x896, .bf16⟩
  | .hbm, ⟨7, _⟩ => ⟨S1024x896, .bf16⟩
  | .hbm, ⟨8, _⟩ => ⟨S1024x1024, .bf16⟩
  | .hbm, ⟨9, _⟩ => ⟨S1024x1024, .bf16⟩
  | .hbm, ⟨10, _⟩ => ⟨S1024x1024, .bf16⟩
  | .hbm, ⟨11, _⟩ => ⟨S4096x1024, .f32⟩
  | .local _ .vmem, ⟨0, _⟩ => ⟨S256x2048, .bf16⟩
  | .local _ .vmem, ⟨1, _⟩ => ⟨S256x2048, .bf16⟩
  | .local _ .vmem, ⟨2, _⟩ => ⟨S1024x2048, .bf16⟩
  | .local _ .vmem, ⟨3, _⟩ => ⟨S256x1024, .bf16⟩
  | .local _ .vmem, ⟨4, _⟩ => ⟨S256x1024, .bf16⟩
  | .local _ .vmem, ⟨5, _⟩ => ⟨S1024x1024, .bf16⟩
  | .local _ .vmem, ⟨6, _⟩ => ⟨S256x1024, .bf16⟩
  | .local _ .vmem, ⟨7, _⟩ => ⟨S256x1024, .bf16⟩
  | .local _ .vmem, ⟨8, _⟩ => ⟨S1024x1024, .bf16⟩
  | .local _ .vmem, ⟨9, _⟩ => ⟨S256x1024, .bf16⟩
  | .local _ .vmem, ⟨10, _⟩ => ⟨S256x1024, .bf16⟩
  | .local _ .vmem, ⟨11, _⟩ => ⟨S1024x1024, .bf16⟩
  | .local _ .vmem, ⟨12, _⟩ => ⟨S256x896, .bf16⟩
  | .local _ .vmem, ⟨13, _⟩ => ⟨S256x896, .bf16⟩
  | .local _ .vmem, ⟨14, _⟩ => ⟨S1024x896, .bf16⟩
  | .local _ .vmem, ⟨15, _⟩ => ⟨S256x1024, .f32⟩
  | .local _ .vmem, ⟨16, _⟩ => ⟨S256x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]

abbrev stage0_8 : Fin 2 → Memref sig .tc .vmem S256x896 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 1 → Memref sig .tc .vmem S1024x896 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference6Ideal.lean ====
abbrev S4096x2048 : Shape := ⟨2, ![4096, 2048]⟩
abbrev S1024x2048 : Shape := ⟨2, ![1024, 2048]⟩
abbrev S4096x1024 : Shape := ⟨2, ![4096, 1024]⟩
abbrev S1024x3072 : Shape := ⟨2, ![1024, 3072]⟩
abbrev S4096x896 : Shape := ⟨2, ![4096, 896]⟩
abbrev S1024x896 : Shape := ⟨2, ![1024, 896]⟩
abbrev S4096x6016 : Shape := ⟨2, ![4096, 6016]⟩
abbrev S_ : Shape := ⟨0, ![]⟩
abbrev S1024x6016 : Shape := ⟨2, ![1024, 6016]⟩

abbrev nBuf : Space → Nat
  | .hbm => 16
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S1024x3072, .bf16⟩
  | .hbm, ⟨6, _⟩ => ⟨S4096x896, .bf16⟩
  | .hbm, ⟨7, _⟩ => ⟨S1024x896, .bf16⟩
  | .hbm, ⟨8, _⟩ => ⟨S4096x6016, .bf16⟩
  | .hbm, ⟨9, _⟩ => ⟨S4096x6016, .f32⟩
  | .hbm, ⟨10, _⟩ => ⟨S_, .f32⟩
  | .hbm, ⟨11, _⟩ => ⟨S4096x1024, .f32⟩
  | .hbm, ⟨12, _⟩ => ⟨S1024x6016, .bf16⟩
  | .hbm, ⟨13, _⟩ => ⟨S1024x6016, .f32⟩
  | .hbm, ⟨14, _⟩ => ⟨S4096x6016, .f32⟩
  | .hbm, ⟨15, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩

abbrev nD : Nat := 1
abbrev τ : Topo := Topo.v7x

variable {F : FTy → Type} [FloatOps F]
-- ==== Kernel7.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference9Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x1024 : Shape := ⟨2, ![4096, 1024]⟩
abbrev S512x1024 : Shape := ⟨2, ![512, 1024]⟩
abbrev S4096x512 : Shape := ⟨2, ![4096, 512]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | .hbm, ⟨8, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S4096x512 : Shape := ⟨2, ![4096, 512]⟩
abbrev S4096x1024 : Shape := ⟨2, ![4096, 1024]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S512x1024, .bf16⟩
  | .local _ .vmem, ⟨0, _⟩ => ⟨S4096x512, .f32⟩
  | .local _ .vmem, ⟨1, _⟩ => ⟨S4096x512, .bf16⟩
  | .local _ .vmem, ⟨2, _⟩ => ⟨S4096x512, .bf16⟩
  | .local _ .vmem, ⟨3, _⟩ => ⟨S512x512, .bf16⟩
  | .local _ .vmem, ⟨4, _⟩ => ⟨S512x512, .bf16⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1024, .bf16⟩
  | .hbm, ⟨2, _⟩ => ⟨S_, .f32⟩
  | .hbm, ⟨3, _⟩ => ⟨S512x1024, .f32⟩
  | .hbm, ⟨4, _⟩ => ⟨S4096x1024, .f32⟩
  | .hbm, ⟨5, _⟩ => ⟨S4096x1024, .f32⟩
  | .hbm, ⟨6, _⟩ => ⟨S1024x512, .f32⟩
  | .hbm, ⟨7, _⟩ => ⟨S512x1024, .f32⟩
  | .hbm, ⟨8, _⟩ => ⟨S512x1024, .bf16⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S4096x1024 : Shape := ⟨2, ![4096, 1024]⟩
abbrev S4096x896 : Shape := ⟨2, ![4096, 896]⟩
abbrev S1024x896 : Shape := ⟨2, ![1024, 896]⟩
abbrev S4096x512 : Shape := ⟨2, ![4096, 512]⟩
abbrev S512x896 : Shape := ⟨2, ![512, 896]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x896, .bf16⟩
  | .hbm, ⟨2, _⟩ => ⟨S1024x896, .bf16⟩
  | .local _ .vmem, ⟨0, _⟩ => ⟨S4096x512, .bf16⟩
  | .local _ .vmem, ⟨1, _⟩ => ⟨S4096x512, .bf16⟩
  | .local _ .vmem, ⟨2, _⟩ => ⟨S4096x896, .bf16⟩
  | .local _ .vmem, ⟨3, _⟩ => ⟨S512x896, .bf16⟩
  | .local _ .vmem, ⟨4, _⟩ => ⟨S512x896, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x896 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S4096x1024 : Shape := ⟨2, ![4096, 1024]⟩
abbrev S4096x896 : Shape := ⟨2, ![4096, 896]⟩
abbrev S_ : Shape := ⟨0, ![]⟩
abbrev S1024x896 : Shape := ⟨2, ![1024, 896]⟩
abbrev S896x1024 : Shape := ⟨2, ![896, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x896, .bf16⟩
  | .hbm, ⟨2, _⟩ => ⟨S_, .f32⟩
  | .hbm, ⟨3, _⟩ => ⟨S1024x896, .f32⟩
  | .hbm, ⟨4, _⟩ => ⟨S4096x1024, .f32⟩
  | .hbm, ⟨5, _⟩ => ⟨S4096x896, .f32⟩
  | .hbm, ⟨6, _⟩ => ⟨S4096x896, .f32⟩
  | .hbm, ⟨7, _⟩ => ⟨S896x1024, .f32⟩
  | .hbm, ⟨8, _⟩ => ⟨S1024x896, .f32⟩
  | .hbm, ⟨9, _⟩ => ⟨S1024x896, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x1024 : Shape := ⟨2, ![4096, 1024]⟩
abbrev S4096x3072 : Shape := ⟨2, ![4096, 3072]⟩
abbrev S4096x512 : Shape := ⟨2, ![4096, 512]⟩
abbrev S3x512x1024 : Shape := ⟨3, ![3, 512, 1024]⟩
abbrev S1x512x1024 : Shape := ⟨3, ![1, 512, 1024]⟩
abbrev S512x1024 : Shape := ⟨2, ![512, 1024]⟩
abbrev S256x512 : Shape := ⟨2, ![256, 512]⟩
abbrev S256x1024 : Shape := ⟨2, ![256, 1024]⟩
abbrev S256x3072 : Shape := ⟨2, ![256, 3072]⟩

abbrev nBuf : Space → Nat
  | .hbm => 18
  | .vmem => 25
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S3x512x1024, .bf16⟩
  | .hbm, ⟨6, _⟩ => ⟨S1x512x1024, .bf16⟩
  | .hbm, ⟨7, _⟩ => ⟨S512x1024, .bf16⟩
  | .hbm, ⟨8, _⟩ => ⟨S1x512x1024, .bf16⟩
  | .hbm, ⟨9, _⟩ => ⟨S512x1024, .bf16⟩
  | .hbm, ⟨10, _⟩ => ⟨S1x512x1024, .bf16⟩
  | .hbm, ⟨11, _⟩ => ⟨S512x1024, .bf16⟩
  | .hbm, ⟨12, _⟩ => ⟨S4096x1024, .bf16⟩
  | .hbm, ⟨13, _⟩ => ⟨S4096x1024, .bf16⟩
  | .hbm, ⟨14, _⟩ => ⟨S4096x1024, .bf16⟩
  | .hbm, ⟨15, _⟩ => ⟨S4096x1024, .bf16⟩
  | .hbm, ⟨16, _⟩ => ⟨S4096x1024, .bf16⟩
  | .hbm, ⟨17, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | .local _ .vmem, ⟨5, _⟩ => ⟨S512x1024, .bf16⟩
  | .local _ .vmem, ⟨6, _⟩ => ⟨S256x512, .f32⟩
  | .local _ .vmem, ⟨7, _⟩ => ⟨S256x512, .f32⟩
  | .local _ .vmem, ⟨8, _⟩ => ⟨S512x1024, .bf16⟩
  | .local _ .vmem, ⟨9, _⟩ => ⟨S256x1024, .f32⟩
  | .local _ .vmem, ⟨10, _⟩ => ⟨S256x1024, .f32⟩
  | .local _ .vmem, ⟨11, _⟩ => ⟨S256x3072, .f32⟩
  | .local _ .vmem, ⟨12, _⟩ => ⟨S256x3072, .f32⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x1024, .bf16⟩
  | .local _ .vmem, ⟨19, _⟩ => ⟨S256x1024, .bf16⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v6_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference13Ideal.lean ====
abbrev S4096x1024 : Shape := ⟨2, ![4096, 1024]⟩
abbrev S4096x3072 : Shape := ⟨2, ![4096, 3072]⟩
abbrev S4096x512 : Shape := ⟨2, ![4096, 512]⟩
abbrev S3x512x1024 : Shape := ⟨3, ![3, 512, 1024]⟩
abbrev S1x512x1024 : Shape := ⟨3, ![1, 512, 1024]⟩
abbrev S512x1024 : Shape := ⟨2, ![512, 1024]⟩
abbrev S_ : Shape := ⟨0, ![]⟩

abbrev nBuf : Space → Nat
  | .hbm => 79
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x3072, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S3x512x1024, .bf16⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1x512x1024, .bf16⟩
  | .hbm, ⟨10, _⟩ => ⟨S512x1024, .bf16⟩
  | .hbm, ⟨11, _⟩ => ⟨S512x1024, .f32⟩
  | .hbm, ⟨12, _⟩ => ⟨S4096x1024, .f32⟩
  | .hbm, ⟨13, _⟩ => ⟨S1x512x1024, .bf16⟩
  | .hbm, ⟨14, _⟩ => ⟨S512x1024, .bf16⟩
  | .hbm, ⟨15, _⟩ => ⟨S512x1024, .f32⟩
  | .hbm, ⟨16, _⟩ => ⟨S4096x1024, .f32⟩
  | .hbm, ⟨17, _⟩ => ⟨S1x512x1024, .bf16⟩
  | .hbm, ⟨18, _⟩ => ⟨S512x1024, .bf16⟩
  | .hbm, ⟨19, _⟩ => ⟨S512x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S_, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .bf16⟩
  | .hbm, ⟨74, _⟩ => ⟨S4096x1024, .bf16⟩
  | .hbm, ⟨75, _⟩ => ⟨S4096x1024, .bf16⟩
  | .hbm, ⟨76, _⟩ => ⟨S4096x1024, .bf16⟩
  | .hbm, ⟨77, _⟩ => ⟨S4096x1024, .bf16⟩
  | .hbm, ⟨78, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_cst_0 : Ref sig .tc := ⟨.hbm, 26, rfl⟩
abbrev main_v19 : Ref sig .tc := ⟨.hbm, 27, rfl⟩
abbrev main_v20 : Ref sig .tc := ⟨.hbm, 28, rfl⟩
abbrev main_cst_1 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_5 : Ref sig .tc := ⟨.hbm, 50, rfl⟩
abbrev main_v38 : Ref sig .tc := ⟨.hbm, 51, rfl⟩
abbrev main_v39 : Ref sig .tc := ⟨.hbm, 52, rfl⟩
abbrev main_cst_6 : Ref sig .tc := ⟨.hbm, 53, rfl⟩
abbrev main_v40 : Ref sig .tc := ⟨.hbm, 54, rfl⟩
abbrev main_v41 : Ref sig .tc := ⟨.hbm, 55, rfl⟩
abbrev main_cst_7 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩

abbrev nD : Nat := 1
abbrev τ : Topo := Topo.v7x

variable {F : FTy → Type} [FloatOps F]
-- ==== Kernel14.lean ====
abbrev S4096x384 : Shape := ⟨2, ![4096, 384]⟩
abbrev S4096x1024 : Shape := ⟨2, ![4096, 1024]⟩
abbrev S384x1024 : Shape := ⟨2, ![384, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S384x1024, .bf16⟩
  | .local _ .vmem, ⟨0, _⟩ => ⟨S4096x384, .bf16⟩
  | .local _ .vmem, ⟨1, _⟩ => ⟨S4096x1024, .bf16⟩
  | .local _ .vmem, ⟨2, _⟩ => ⟨S384x1024, .bf16⟩
  | _, _ => ⟨S4096x384, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S384x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference14Ideal.lean ====
abbrev S4096x384 : Shape := ⟨2, ![4096, 384]⟩
abbrev S4096x1024 : Shape := ⟨2, ![4096, 1024]⟩
abbrev S_ : Shape := ⟨0, ![]⟩
abbrev S384x1024 : Shape := ⟨2, ![384, 1024]⟩
abbrev S1024x384 : Shape := ⟨2, ![1024, 384]⟩

abbrev nBuf : Space → Nat
  | .hbm => 10
  | .vmem => 0
  | .smem => 0
  | _ => 0

abbrev bufTy : (tb : Table) → Fin (tcTables nBuf tb) → BufTy
  | .hbm, ⟨0, _⟩ => ⟨S4096x384, .bf16⟩
  | .hbm, ⟨1, _⟩ => ⟨S4096x1024, .bf16⟩
  | .hbm, ⟨2, _⟩ => ⟨S_, .f32⟩
  | .hbm, ⟨3, _⟩ => ⟨S384x1024, .f32⟩
  | .hbm, ⟨4, _⟩ => ⟨S4096x384, .f32⟩
  | .hbm, ⟨5, _⟩ => ⟨S4096x1024, .f32⟩
  | .hbm, ⟨6, _⟩ => ⟨S4096x1024, .f32⟩
  | .hbm, ⟨7, _⟩ => ⟨S1024x384, .f32⟩
  | .hbm, ⟨8, _⟩ => ⟨S384x1024, .f32⟩
  | .hbm, ⟨9, _⟩ => ⟨S384x1024, .bf16⟩
  | _, _ => ⟨S4096x384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel15.lean ====
abbrev S4096x1024 : Shape := ⟨2, ![4096, 1024]⟩
abbrev S384x1024 : Shape := ⟨2, ![384, 1024]⟩
abbrev S4096x384 : Shape := ⟨2, ![4096, 384]⟩
abbrev S1024x1024 : Shape := ⟨2, ![1024, 1024]⟩
abbrev S1024x384 : Shape := ⟨2, ![1024, 384]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S384x1024, .bf16⟩
  | .hbm, ⟨2, _⟩ => ⟨S4096x384, .f32⟩
  | .local _ .vmem, ⟨0, _⟩ => ⟨S1024x1024, .bf16⟩
  | .local _ .vmem, ⟨1, _⟩ => ⟨S1024x1024, .bf16⟩
  | .local _ .vmem, ⟨2, _⟩ => ⟨S384x1024, .bf16⟩
  | .local _ .vmem, ⟨3, _⟩ => ⟨S1024x384, .f32⟩
  | .local _ .vmem, ⟨4, _⟩ => ⟨S1024x384, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S384x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S4096x1024 : Shape := ⟨2, ![4096, 1024]⟩
abbrev S384x1024 : Shape := ⟨2, ![384, 1024]⟩
abbrev S_ : Shape := ⟨0, ![]⟩
abbrev S4096x384 : Shape := ⟨2, ![4096, 384]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S384x1024, .bf16⟩
  | .hbm, ⟨2, _⟩ => ⟨S_, .f32⟩
  | .hbm, ⟨3, _⟩ => ⟨S4096x384, .f32⟩
  | .hbm, ⟨4, _⟩ => ⟨S384x1024, .f32⟩
  | .hbm, ⟨5, _⟩ => ⟨S4096x1024, .f32⟩
  | .hbm, ⟨6, _⟩ => ⟨S4096x1024, .f32⟩
  | .hbm, ⟨7, _⟩ => ⟨S4096x384, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel16.lean ====
abbrev S4096x256 : Shape := ⟨2, ![4096, 256]⟩
abbrev S4096x1024 : Shape := ⟨2, ![4096, 1024]⟩
abbrev S256x1024 : Shape := ⟨2, ![256, 1024]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S256x1024, .bf16⟩
  | .local _ .vmem, ⟨0, _⟩ => ⟨S4096x256, .bf16⟩
  | .local _ .vmem, ⟨1, _⟩ => ⟨S4096x1024, .bf16⟩
  | .local _ .vmem, ⟨2, _⟩ => ⟨S256x1024, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference16Ideal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S_, .f32⟩
  | .hbm, ⟨3, _⟩ => ⟨S256x1024, .f32⟩
  | .hbm, ⟨4, _⟩ => ⟨S4096x256, .f32⟩
  | .hbm, ⟨5, _⟩ => ⟨S4096x1024, .f32⟩
  | .hbm, ⟨6, _⟩ => ⟨S4096x1024, .f32⟩
  | .hbm, ⟨7, _⟩ => ⟨S1024x256, .f32⟩
  | .hbm, ⟨8, _⟩ => ⟨S256x1024, .f32⟩
  | .hbm, ⟨9, _⟩ => ⟨S256x1024, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel17.lean ====
abbrev S4096x256 : Shape := ⟨2, ![4096, 256]⟩
abbrev S4096x512 : Shape := ⟨2, ![4096, 512]⟩
abbrev S256x512 : Shape := ⟨2, ![256, 512]⟩

abbrev nBuf : Space → Nat
  | .hbm => 3
  | .vmem => 3
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S256x512, .bf16⟩
  | .local _ .vmem, ⟨0, _⟩ => ⟨S4096x256, .bf16⟩
  | .local _ .vmem, ⟨1, _⟩ => ⟨S4096x512, .bf16⟩
  | .local _ .vmem, ⟨2, _⟩ => ⟨S256x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4096x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference17Ideal.lean ====
abbrev S4096x256 : Shape := ⟨2, ![4096, 256]⟩
abbrev S4096x512 : Shape := ⟨2, ![4096, 512]⟩
abbrev S_ : Shape := ⟨0, ![]⟩
abbrev S256x512 : Shape := ⟨2, ![256, 512]⟩
abbrev S512x256 : Shape := ⟨2, ![512, 256]⟩

abbrev nBuf : Space → Nat
  | .hbm => 10
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x512, .bf16⟩
  | .hbm, ⟨2, _⟩ => ⟨S_, .f32⟩
  | .hbm, ⟨3, _⟩ => ⟨S256x512, .f32⟩
  | .hbm, ⟨4, _⟩ => ⟨S4096x256, .f32⟩
  | .hbm, ⟨5, _⟩ => ⟨S4096x512, .f32⟩
  | .hbm, ⟨6, _⟩ => ⟨S4096x512, .f32⟩
  | .hbm, ⟨7, _⟩ => ⟨S512x256, .f32⟩
  | .hbm, ⟨8, _⟩ => ⟨S256x512, .f32⟩
  | .hbm, ⟨9, _⟩ => ⟨S256x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel18.lean ====
abbrev S4096x1024 : Shape := ⟨2, ![4096, 1024]⟩
abbrev S256x1024 : Shape := ⟨2, ![256, 1024]⟩
abbrev S4096x512 : Shape := ⟨2, ![4096, 512]⟩
abbrev S256x512 : Shape := ⟨2, ![256, 512]⟩
abbrev S4096x256 : Shape := ⟨2, ![4096, 256]⟩
abbrev S1024x1024 : Shape := ⟨2, ![1024, 1024]⟩
abbrev S1024x512 : Shape := ⟨2, ![1024, 512]⟩
abbrev S1024x256 : Shape := ⟨2, ![1024, 256]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x512, .bf16⟩
  | .hbm, ⟨3, _⟩ => ⟨S256x512, .bf16⟩
  | .hbm, ⟨4, _⟩ => ⟨S4096x256, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S1024x512, .bf16⟩
  | .local _ .vmem, ⟨4, _⟩ => ⟨S1024x512, .bf16⟩
  | .local _ .vmem, ⟨5, _⟩ => ⟨S256x512, .bf16⟩
  | .local _ .vmem, ⟨6, _⟩ => ⟨S1024x256, .f32⟩
  | .local _ .vmem, ⟨7, _⟩ => ⟨S1024x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference18Ideal.lean ====
abbrev S4096x1024 : Shape := ⟨2, ![4096, 1024]⟩
abbrev S256x1024 : Shape := ⟨2, ![256, 1024]⟩
abbrev S4096x512 : Shape := ⟨2, ![4096, 512]⟩
abbrev S256x512 : Shape := ⟨2, ![256, 512]⟩
abbrev S_ : Shape := ⟨0, ![]⟩
abbrev S4096x256 : Shape := ⟨2, ![4096, 256]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x512, .bf16⟩
  | .hbm, ⟨3, _⟩ => ⟨S256x512, .bf16⟩
  | .hbm, ⟨4, _⟩ => ⟨S_, .f32⟩
  | .hbm, ⟨5, _⟩ => ⟨S4096x256, .f32⟩
  | .hbm, ⟨6, _⟩ => ⟨S256x1024, .f32⟩
  | .hbm, ⟨7, _⟩ => ⟨S4096x1024, .f32⟩
  | .hbm, ⟨8, _⟩ => ⟨S256x512, .f32⟩
  | .hbm, ⟨9, _⟩ => ⟨S4096x512, .f32⟩
  | .hbm, ⟨10, _⟩ => ⟨S4096x1024, .f32⟩
  | .hbm, ⟨11, _⟩ => ⟨S4096x512, .f32⟩
  | .hbm, ⟨12, _⟩ => ⟨S4096x256, .f32⟩
  | .hbm, ⟨13, _⟩ => ⟨S4096x256, .f32⟩
  | .hbm, ⟨14, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]
-- ==== Kernel19.lean ====
abbrev S4096x1024 : Shape := ⟨2, ![4096, 1024]⟩
abbrev S1024x2048 : Shape := ⟨2, ![1024, 2048]⟩
abbrev S4096x2048 : Shape := ⟨2, ![4096, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference19Ideal.lean ====
abbrev S4096x1024 : Shape := ⟨2, ![4096, 1024]⟩
abbrev S1024x2048 : Shape := ⟨2, ![1024, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S1024x2048, .f32⟩
  | .hbm, ⟨4, _⟩ => ⟨S4096x2048, .f32⟩
  | .hbm, ⟨5, _⟩ => ⟨S4096x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x1024 : Shape := ⟨2, ![4096, 1024]⟩
abbrev S1024x3072 : Shape := ⟨2, ![1024, 3072]⟩
abbrev S4096x3072 : Shape := ⟨2, ![4096, 3072]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x1024 : Shape := ⟨2, ![4096, 1024]⟩
abbrev S1024x3072 : Shape := ⟨2, ![1024, 3072]⟩
abbrev S4096x3072 : Shape := ⟨2, ![4096, 3072]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x3072, .bf16⟩
  | .hbm, ⟨2, _⟩ => ⟨S4096x1024, .f32⟩
  | .hbm, ⟨3, _⟩ => ⟨S1024x3072, .f32⟩
  | .hbm, ⟨4, _⟩ => ⟨S4096x3072, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel21.lean ====
abbrev S4096x1024 : Shape := ⟨2, ![4096, 1024]⟩
abbrev S1024x896 : Shape := ⟨2, ![1024, 896]⟩
abbrev S4096x896 : Shape := ⟨2, ![4096, 896]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x896, .bf16⟩
  | .hbm, ⟨2, _⟩ => ⟨S4096x896, .f32⟩
  | .local _ .vmem, ⟨0, _⟩ => ⟨S1024x1024, .bf16⟩
  | .local _ .vmem, ⟨1, _⟩ => ⟨S1024x1024, .bf16⟩
  | .local _ .vmem, ⟨2, _⟩ => ⟨S1024x896, .bf16⟩
  | .local _ .vmem, ⟨3, _⟩ => ⟨S1024x896, .f32⟩
  | .local _ .vmem, ⟨4, _⟩ => ⟨S1024x896, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x896 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference21Ideal.lean ====
abbrev S4096x1024 : Shape := ⟨2, ![4096, 1024]⟩
abbrev S1024x896 : Shape := ⟨2, ![1024, 896]⟩
abbrev S4096x896 : Shape := ⟨2, ![4096, 896]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x896, .bf16⟩
  | .hbm, ⟨2, _⟩ => ⟨S4096x1024, .f32⟩
  | .hbm, ⟨3, _⟩ => ⟨S1024x896, .f32⟩
  | .hbm, ⟨4, _⟩ => ⟨S4096x896, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel22.lean ====
abbrev S4096x1024 : Shape := ⟨2, ![4096, 1024]⟩
abbrev S1024x4096 : Shape := ⟨2, ![1024, 4096]⟩
abbrev S4096x4096 : Shape := ⟨2, ![4096, 4096]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .bf16⟩
  | .hbm, ⟨3, _⟩ => ⟨S4096x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference22Ideal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S4096x4096, .bf16⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_cst : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== Kernel23.lean ====
abbrev S4096x256 : Shape := ⟨2, ![4096, 256]⟩
abbrev S256x512 : Shape := ⟨2, ![256, 512]⟩
abbrev S4096x512 : Shape := ⟨2, ![4096, 512]⟩
abbrev S1024x256 : Shape := ⟨2, ![1024, 256]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x512, .bf16⟩
  | .local _ .vmem, ⟨0, _⟩ => ⟨S1024x256, .bf16⟩
  | .local _ .vmem, ⟨1, _⟩ => ⟨S1024x256, .bf16⟩
  | .local _ .vmem, ⟨2, _⟩ => ⟨S256x512, .bf16⟩
  | .local _ .vmem, ⟨3, _⟩ => ⟨S1024x512, .bf16⟩
  | .local _ .vmem, ⟨4, _⟩ => ⟨S1024x512, .bf16⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference23Ideal.lean ====
abbrev S4096x256 : Shape := ⟨2, ![4096, 256]⟩
abbrev S256x512 : Shape := ⟨2, ![256, 512]⟩
abbrev S4096x512 : Shape := ⟨2, ![4096, 512]⟩

abbrev nBuf : Space → Nat
  | .hbm => 6
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x512, .bf16⟩
  | .hbm, ⟨2, _⟩ => ⟨S4096x256, .f32⟩
  | .hbm, ⟨3, _⟩ => ⟨S256x512, .f32⟩
  | .hbm, ⟨4, _⟩ => ⟨S4096x512, .f32⟩
  | .hbm, ⟨5, _⟩ => ⟨S4096x512, .bf16⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel24.lean ====
abbrev S4096x3072 : Shape := ⟨2, ![4096, 3072]⟩
abbrev S4096x512 : Shape := ⟨2, ![4096, 512]⟩
abbrev S3x512x1024 : Shape := ⟨3, ![3, 512, 1024]⟩
abbrev S1x512x1024 : Shape := ⟨3, ![1, 512, 1024]⟩
abbrev S512x1024 : Shape := ⟨2, ![512, 1024]⟩
abbrev S4096x1024 : Shape := ⟨2, ![4096, 1024]⟩
abbrev S256x512 : Shape := ⟨2, ![256, 512]⟩
abbrev S256x3072 : Shape := ⟨2, ![256, 3072]⟩
abbrev S256x1024 : Shape := ⟨2, ![256, 1024]⟩

abbrev nBuf : Space → Nat
  | .hbm => 12
  | .vmem => 13
  | .smem => 0
  | _ => 0

abbrev bufTy : (tb : Table) → Fin (tcTables nBuf tb) → BufTy
  | .hbm, ⟨0, _⟩ => ⟨S4096x3072, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512x1024, .bf16⟩
  | .hbm, ⟨5, _⟩ => ⟨S1x512x1024, .bf16⟩
  | .hbm, ⟨6, _⟩ => ⟨S512x1024, .bf16⟩
  | .hbm, ⟨7, _⟩ => ⟨S1x512x1024, .bf16⟩
  | .hbm, ⟨8, _⟩ => ⟨S512x1024, .bf16⟩
  | .hbm, ⟨9, _⟩ => ⟨S1x512x1024, .bf16⟩
  | .hbm, ⟨10, _⟩ => ⟨S512x1024, .bf16⟩
  | .hbm, ⟨11, _⟩ => ⟨S4096x1024, .bf16⟩
  | .local _ .vmem, ⟨0, _⟩ => ⟨S256x512, .f32⟩
  | .local _ .vmem, ⟨1, _⟩ => ⟨S256x512, .f32⟩
  | .local _ .vmem, ⟨2, _⟩ => ⟨S512x1024, .bf16⟩
  | .local _ .vmem, ⟨3, _⟩ => ⟨S256x512, .f32⟩
  | .local _ .vmem, ⟨4, _⟩ => ⟨S256x512, .f32⟩
  | .local _ .vmem, ⟨5, _⟩ => ⟨S512x1024, .bf16⟩
  | .local _ .vmem, ⟨6, _⟩ => ⟨S256x512, .f32⟩
  | .local _ .vmem, ⟨7, _⟩ => ⟨S256x512, .f32⟩
  | .local _ .vmem, ⟨8, _⟩ => ⟨S512x1024, .bf16⟩
  | .local _ .vmem, ⟨9, _⟩ => ⟨S256x3072, .f32⟩
  | .local _ .vmem, ⟨10, _⟩ => ⟨S256x3072, .f32⟩
  | .local _ .vmem, ⟨11, _⟩ => ⟨S256x1024, .bf16⟩
  | .local _ .vmem, ⟨12, _⟩ => ⟨S256x1024, .bf16⟩
  | _, _ => ⟨S4096x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S256x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference24Ideal.lean ====
abbrev S4096x3072 : Shape := ⟨2, ![4096, 3072]⟩
abbrev S4096x512 : Shape := ⟨2, ![4096, 512]⟩
abbrev S3x512x1024 : Shape := ⟨3, ![3, 512, 1024]⟩
abbrev S_ : Shape := ⟨0, ![]⟩
abbrev S4096x1024 : Shape := ⟨2, ![4096, 1024]⟩
abbrev S1x512x1024 : Shape := ⟨3, ![1, 512, 1024]⟩
abbrev S512x1024 : Shape := ⟨2, ![512, 1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x3072, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S3x512x1024, .bf16⟩
  | .hbm, ⟨5, _⟩ => ⟨S4096x3072, .f32⟩
  | .hbm, ⟨6, _⟩ => ⟨S4096x3072, .f32⟩
  | .hbm, ⟨7, _⟩ => ⟨S_, .f32⟩
  | .hbm, ⟨8, _⟩ => ⟨S4096x3072, .f32⟩
  | .hbm, ⟨9, _⟩ => ⟨S4096x3072, .f32⟩
  | .hbm, ⟨10, _⟩ => ⟨S_, .f32⟩
  | .hbm, ⟨11, _⟩ => ⟨S4096x3072, .f32⟩
  | .hbm, ⟨12, _⟩ => ⟨S4096x3072, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S1x512x1024, .bf16⟩
  | .hbm, ⟨17, _⟩ => ⟨S512x1024, .bf16⟩
  | .hbm, ⟨18, _⟩ => ⟨S512x1024, .f32⟩
  | .hbm, ⟨19, _⟩ => ⟨S4096x1024, .f32⟩
  | .hbm, ⟨20, _⟩ => ⟨S1x512x1024, .bf16⟩
  | .hbm, ⟨21, _⟩ => ⟨S512x1024, .bf16⟩
  | .hbm, ⟨22, _⟩ => ⟨S512x1024, .f32⟩
  | .hbm, ⟨23, _⟩ => ⟨S4096x1024, .f32⟩
  | .hbm, ⟨24, _⟩ => ⟨S1x512x1024, .bf16⟩
  | .hbm, ⟨25, _⟩ => ⟨S512x1024, .bf16⟩
  | .hbm, ⟨26, _⟩ => ⟨S512x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .bf16⟩
  | _, _ => ⟨S4096x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩

abbrev nD : Nat := 1
abbrev τ : Topo := Topo.v7x

variable {F : FTy → Type} [FloatOps F]
-- ==== Kernel25.lean ====
abbrev S4096x4096 : Shape := ⟨2, ![4096, 4096]⟩
abbrev S4096x1024 : Shape := ⟨2, ![4096, 1024]⟩
abbrev S1x1024 : Shape := ⟨2, ![1, 1024]⟩
abbrev S256x4096 : Shape := ⟨2, ![256, 4096]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S256x4096, .bf16⟩
  | .local _ .vmem, ⟨1, _⟩ => ⟨S256x4096, .bf16⟩
  | .local _ .vmem, ⟨2, _⟩ => ⟨S4096x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference25Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel26.lean ====
abbrev S4096x1024 : Shape := ⟨2, ![4096, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S256x1024, .bf16⟩
  | .local _ .vmem, ⟨1, _⟩ => ⟨S256x1024, .bf16⟩
  | .local _ .vmem, ⟨2, _⟩ => ⟨S1024x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S1x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference26Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel27.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .bf16⟩
  | .local _ .vmem, ⟨0, _⟩ => ⟨S512x1024, .bf16⟩
  | .local _ .vmem, ⟨1, _⟩ => ⟨S1024x1024, .bf16⟩
  | .local _ .vmem, ⟨2, _⟩ => ⟨S512x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference27Ideal.lean ====
abbrev S512x1024 : Shape := ⟨2, ![512, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x1024, .bf16⟩
  | .hbm, ⟨2, _⟩ => ⟨S512x1024, .f32⟩
  | .hbm, ⟨3, _⟩ => ⟨S1024x1024, .f32⟩
  | .hbm, ⟨4, _⟩ => ⟨S512x1024, .f32⟩
  | .hbm, ⟨5, _⟩ => ⟨S512x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel28.lean ====
abbrev S512x1024 : Shape := ⟨2, ![512, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== Reference28Ideal.lean ====
abbrev S512x1024 : Shape := ⟨2, ![512, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x1024, .bf16⟩
  | .hbm, ⟨2, _⟩ => ⟨S_, .f32⟩
  | .hbm, ⟨3, _⟩ => ⟨S1024x1024, .f32⟩
  | .hbm, ⟨4, _⟩ => ⟨S512x1024, .f32⟩
  | .hbm, ⟨5, _⟩ => ⟨S512x1024, .f32⟩
  | .hbm, ⟨6, _⟩ => ⟨S512x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.FoxDelta.lean ====
/- The loop that fills the delta rows of the forgetting-attention gradient: one trip per block of queries.
   A trip runs over the key blocks before its own (two inner loops, whose invariants are generated) and then over its own
   block under the mask, and stores the two heads' rows of sums. -/
module

public import proofs.«01_k».proof.Proof.Gen.KernelIdeal.Loops

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- One trip's resources: the six buffers it reads, and the delta rows it writes. -/
abbrev Trip1 (c : Dev nD) (arg3 : Memref sig .tc .vmem S2048x128 .bf16) (arg6 : Memref sig .tc .vmem S1x1x4x2x512 .f32) (arg7 : Memref sig .tc .vmem S2048x128 .bf16) (arg9 : Memref sig .tc .vmem S2048x128 .bf16) (arg10 : Memref sig .tc .vmem S2048x128 .bf16) (arg11 : Memref sig .tc .vmem S2048x256 .f32) (arg16 : Memref sig .tc .vmem S4x2x512 .f32) (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (f_arg16 : BufTy.Contents (Elt F) arg16.view.ty) : sProp 𝕄G :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (arg16.view.loc (c : Thread nD τ) ↦[arg16.view.set]{fullShare} f_arg16))

section
variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (k0_h1 : k0_cond1 i = 1#1)
  (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty)

/-- One trip at a symbolic query block `k`: the pieces it writes. -/
@[irreducible] def trip1 (k : Fin k0_t1_loop.trips) :
    { L : List (View.Piece (Elt F) S4x2x512 .f32) // ∀ (E : Set ℕ) (f_arg16 : BufTy.Contents (Elt F) arg16.view.ty),
      Trip1 (F := F) c arg3 arg6 arg7 arg9 arg10 arg11 arg16 X_arg3 X_arg6 X_arg7 X_arg9 X_arg10 X_arg11 f_arg16
      ⊢ wp frame (wpE (defs₀ (F := F)) Variants.none (c : Thread nD τ) none) E (k0_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 k PUnit.unit)
          (fun _ => Trip1 (F := F) c arg3 arg6 arg7 arg9 arg10 arg11 arg16 X_arg3 X_arg6 X_arg7 X_arg9 X_arg10 X_arg11 (arg16.view.writes (Elt F) f_arg16 L)) } := by
  refine ⟨?_, fun E f_arg16 => ?run⟩
  case run =>
    unfold k0_t1_body
    simp only [k0_part3_eq_skeleton, k0_part4_eq_skeleton]
    iintro ⟨HR_arg3, HR_arg6, HR_arg7, HR_arg9, HR_arg10, HR_arg11, HW_arg16⟩
    sl_exec
    sl_step
    sl_close

/-- The pieces of the trips before `k`, last first. -/
def pb1 : ℕ → List (View.Piece (Elt F) S4x2x512 .f32)
  | 0 => []
  | k + 1 => if h : k < k0_t1_loop.trips then (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 ⟨k, h⟩).1 ++ pb1 k else pb1 k

theorem pb1_succ (k : Fin k0_t1_loop.trips) :
    pb1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 (k.val + 1)
      = (trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 k).1 ++ pb1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 k.val := by
  rw [pb1.eq_2]; exact dif_pos k.isLt

/-- Before trip `k` the delta rows hold the pieces of the trips before it. -/
abbrev inv1 (G_arg16 : BufTy.Contents (Elt F) arg16.view.ty) (k : ℕ) (_u : PUnit) : sProp 𝕄G :=
  iprop((arg3.view.loc (c : Thread nD τ) ↦[arg3.view.set]{fullShare} X_arg3) ∗ (arg6.view.loc (c : Thread nD τ) ↦[arg6.view.set]{fullShare} X_arg6) ∗ (arg7.view.loc (c : Thread nD τ) ↦[arg7.view.set]{fullShare} X_arg7) ∗ (arg9.view.loc (c : Thread nD τ) ↦[arg9.view.set]{fullShare} X_arg9) ∗ (arg10.view.loc (c : Thread nD τ) ↦[arg10.view.set]{fullShare} X_arg10) ∗ (arg11.view.loc (c : Thread nD τ) ↦[arg11.view.set]{fullShare} X_arg11) ∗ (∃ f, (arg16.view.loc (c : Thread nD τ) ↦[arg16.view.set]{fullShare} f) ∗ ⌜f = arg16.view.writes (Elt F) G_arg16 (pb1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 k)⌝))
end

set_option warn.classDefReducibility false in
/-- The loop by that invariant. -/
@[sl_loop] def loopInv1 (c : Dev nD) (E : Set ℕ) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (k0_h1 : k0_cond1 i = 1#1)
    (X_arg3 : BufTy.Contents (Elt F) arg3.view.ty) (X_arg6 : BufTy.Contents (Elt F) arg6.view.ty) (X_arg7 : BufTy.Contents (Elt F) arg7.view.ty) (X_arg9 : BufTy.Contents (Elt F) arg9.view.ty) (X_arg10 : BufTy.Contents (Elt F) arg10.view.ty) (X_arg11 : BufTy.Contents (Elt F) arg11.view.ty) (G_arg16 : BufTy.Contents (Elt F) arg16.view.ty) :
    LoopInvTy_k0_t1 (F := F) Unit ℕ (UR sig nD τ) ℕ Variants.none c none E i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 where
  inv := inv1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 G_arg16
  step k acc := by
    iintro ⟨HR_arg3, HR_arg6, HR_arg7, HR_arg9, HR_arg10, HR_arg11, ⟨%f_arg16, HW_arg16, %h_arg16⟩⟩
    iapply (wp_wand_r Idealize.ShloMosaic.frame (wpE (defs₀ (F := F)) Variants.none (c : Thread nD τ) none) E)
    isplitl [HR_arg3 HR_arg6 HR_arg7 HR_arg9 HR_arg10 HR_arg11 HW_arg16]
    · iapply ((trip1 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 k0_h1 X_arg3 X_arg6 X_arg7 X_arg9 X_arg10 X_arg11 k).2 E f_arg16)
      isplitl [HR_arg3]; · iexact HR_arg3
      isplitl [HR_arg6]; · iexact HR_arg6
      isplitl [HR_arg7]; · iexact HR_arg7
      isplitl [HR_arg9]; · iexact HR_arg9
      isplitl [HR_arg10]; · iexact HR_arg10
      isplitl [HR_arg11]; · iexact HR_arg11
      iexact HW_arg16
    · iintro %_ ⟨HR_arg3, HR_arg6, HR_arg7, HR_arg9, HR_arg10, HR_arg11, HW_arg16⟩
      isplitl [HR_arg3]; · iexact HR_arg3
      isplitl [HR_arg6]; · iexact HR_arg6
      isplitl [HR_arg7]; · iexact HR_arg7
      isplitl [HR_arg9]; · iexact HR_arg9
      isplitl [HR_arg10]; · iexact HR_arg10
      isplitl [HR_arg11]; · iexact HR_arg11
      rw [pb1_succ]
      iexists _; isplitl [HW_arg16]; · iexact HW_arg16
      ipureintro; rw [h_arg16, ← View.writes_append]

end Cert.Proof.KernelIdeal

end
-- ==== Proof.FoxStages.lean ====
/- The body of the forgetting-attention gradient, one printed part at a time: what each part returns and what it leaves
   in the buffers it writes, from any contents of the buffers it is given. -/
module

public import proofs.«01_k».proof.Proof.FoxDelta

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole)
  (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole)
  (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole)
  (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole)
  (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole)
  (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole)

@[irreducible] def s13A (hc1 : k0_cond1 i = 1#1)  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty) (X20 : BufTy.Contents (Elt F) arg20.view.ty) (G16 : BufTy.Contents (Elt F) arg16.view.ty) (G17 : BufTy.Contents (Elt F) arg17.view.ty) (G18 : BufTy.Contents (Elt F) arg18.view.ty) (G19 : BufTy.Contents (Elt F) arg19.view.ty) :
    { p : (BitVec 32) × (BitVec 32) × (IVec S1x128 1) × (IVec S1x128 1) × (Vec F S512x128 .bf16) × (Vec F S512x128 .bf16) × (FVec F S128x512 .bf16) × (FVec F S2x512x128 .f32) × (Vec F S2x512x128 .f32) × (BufTy.Contents (Elt F) arg16.view.ty) × (BufTy.Contents (Elt F) arg17.view.ty) × (BufTy.Contents (Elt F) arg18.view.ty) × (BufTy.Contents (Elt F) arg19.view.ty) // ∀ (E : Set ℕ),
      (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg20.view.loc (c : Thread nD τ) ↦[arg20.view.set]{fullShare} X20) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19)) : sProp 𝕄G)
      ⊢ wp frame (wpE (defs₀ (F := F)) Variants.none (c : Thread nD τ) none) E (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 )
          (fun r => iprop(⌜r = ⟨(p.1), (p.2.1), (p.2.2.1), (p.2.2.2.1), (p.2.2.2.2.1), (p.2.2.2.2.2.1), (p.2.2.2.2.2.2.1), (p.2.2.2.2.2.2.2.1), (p.2.2.2.2.2.2.2.2.1)⟩⌝ ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg20.view.loc (c : Thread nD τ) ↦[arg20.view.set]{fullShare} X20) ∗ (arg16.view.loc (c : Thread nD τ) ↦[arg16.view.set]{fullShare} (p.2.2.2.2.2.2.2.2.2.1)) ∗ (arg17.view.loc (c : Thread nD τ) ↦[arg17.view.set]{fullShare} (p.2.2.2.2.2.2.2.2.2.2.1)) ∗ (arg18.view.loc (c : Thread nD τ) ↦[arg18.view.set]{fullShare} (p.2.2.2.2.2.2.2.2.2.2.2.1)) ∗ (arg19.view.loc (c : Thread nD τ) ↦[arg19.view.set]{fullShare} (p.2.2.2.2.2.2.2.2.2.2.2.2)))) } := by
  refine ⟨(?_, ?_, ?_, ?_, ?_, ?_, ?_, ?_, ?_, ?_, ?_, ?_, ?_), fun E => ?run⟩
  case run =>
    dsimp only
    rw [k0_part13_eq_skeleton]; unfold k0_part13_skel
    iintro ⟨H3, H4, H5, H6, H7, H9, H10, H11, H20, H16, H17, H18, H19⟩
    sl_exec (disch := sl_exact hc1)
    sl_step
    isplitr; · ipureintro; rfl
    isplitl [H3]; · iexact H3
    isplitl [H4]; · iexact H4
    isplitl [H5]; · iexact H5
    isplitl [H6]; · iexact H6
    isplitl [H7]; · iexact H7
    isplitl [H9]; · iexact H9
    isplitl [H10]; · iexact H10
    isplitl [H11]; · iexact H11
    isplitl [H20]; · iexact H20
    isplitl [H16]; · iexact H16
    isplitl [H17]; · iexact H17
    isplitl [H18]; · iexact H18
    iexact H19

/-- What that part leaves. -/
def S13A (hc1 : k0_cond1 i = 1#1)  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty) (X20 : BufTy.Contents (Elt F) arg20.view.ty) (G16 : BufTy.Contents (Elt F) arg16.view.ty) (G17 : BufTy.Contents (Elt F) arg17.view.ty) (G18 : BufTy.Contents (Elt F) arg18.view.ty) (G19 : BufTy.Contents (Elt F) arg19.view.ty)
    (R2 : BitVec 32) (R_v0 : BitVec 32) (R_v6 : IVec S1x128 1) (R_v12 : IVec S1x128 1) (R_v16 : Vec F S512x128 .bf16) (R_v17 : Vec F S512x128 .bf16) (R_v20 : FVec F S128x512 .bf16) (R_v29 : FVec F S2x512x128 .f32) (R_vlast : Vec F S2x512x128 .f32) (C16 : BufTy.Contents (Elt F) arg16.view.ty) (C17 : BufTy.Contents (Elt F) arg17.view.ty) (C18 : BufTy.Contents (Elt F) arg18.view.ty) (C19 : BufTy.Contents (Elt F) arg19.view.ty) : Prop :=
  (R2, R_v0, R_v6, R_v12, R_v16, R_v17, R_v20, R_v29, R_vlast, C16, C17, C18, C19) = (s13A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X3 X4 X5 X6 X7 X9 X10 X11 X20 G16 G17 G18 G19).1

theorem s13A_wp (hc1 : k0_cond1 i = 1#1)  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty) (X20 : BufTy.Contents (Elt F) arg20.view.ty) (G16 : BufTy.Contents (Elt F) arg16.view.ty) (G17 : BufTy.Contents (Elt F) arg17.view.ty) (G18 : BufTy.Contents (Elt F) arg18.view.ty) (G19 : BufTy.Contents (Elt F) arg19.view.ty) (E : Set ℕ) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg20.view.loc (c : Thread nD τ) ↦[arg20.view.set]{fullShare} X20) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19)) : sProp 𝕄G)
      ⊢ wp frame (wpE (defs₀ (F := F)) Variants.none (c : Thread nD τ) none) E (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 )
          (fun r => iprop(∃ R2 R_v0 R_v6 R_v12 R_v16 R_v17 R_v20 R_v29 R_vlast C16 C17 C18 C19, ⌜S13A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X3 X4 X5 X6 X7 X9 X10 X11 X20 G16 G17 G18 G19 R2 R_v0 R_v6 R_v12 R_v16 R_v17 R_v20 R_v29 R_vlast C16 C17 C18 C19⌝ ∗ ⌜r = ⟨R2, R_v0, R_v6, R_v12, R_v16, R_v17, R_v20, R_v29, R_vlast⟩⌝ ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg20.view.loc (c : Thread nD τ) ↦[arg20.view.set]{fullShare} X20) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19))) := by
  refine ((s13A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X3 X4 X5 X6 X7 X9 X10 X11 X20 G16 G17 G18 G19).2 E).trans (wp_mono _ _ E fun r => ?_)
  unfold S13A
  generalize (s13A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X3 X4 X5 X6 X7 X9 X10 X11 X20 G16 G17 G18 G19).1 = p
  iintro H
  iexists (p.1)
  iexists (p.2.1)
  iexists (p.2.2.1)
  iexists (p.2.2.2.1)
  iexists (p.2.2.2.2.1)
  iexists (p.2.2.2.2.2.1)
  iexists (p.2.2.2.2.2.2.1)
  iexists (p.2.2.2.2.2.2.2.1)
  iexists (p.2.2.2.2.2.2.2.2.1)
  iexists (p.2.2.2.2.2.2.2.2.2.1)
  iexists (p.2.2.2.2.2.2.2.2.2.2.1)
  iexists (p.2.2.2.2.2.2.2.2.2.2.2.1)
  iexists (p.2.2.2.2.2.2.2.2.2.2.2.2)
  isplitr; · ipureintro; rfl
  iexact H

@[irreducible] def s13B (hc1 : ¬ k0_cond1 i = 1#1)  (X4 : BufTy.Contents (Elt F) arg4.view.ty) (X5 : BufTy.Contents (Elt F) arg5.view.ty) (X20 : BufTy.Contents (Elt F) arg20.view.ty) (G17 : BufTy.Contents (Elt F) arg17.view.ty) (G18 : BufTy.Contents (Elt F) arg18.view.ty) :
    { p : (BitVec 32) × (BitVec 32) × (IVec S1x128 1) × (IVec S1x128 1) × (Vec F S512x128 .bf16) × (Vec F S512x128 .bf16) × (FVec F S128x512 .bf16) × (FVec F S2x512x128 .f32) × (Vec F S2x512x128 .f32) × (BufTy.Contents (Elt F) arg17.view.ty) × (BufTy.Contents (Elt F) arg18.view.ty) // ∀ (E : Set ℕ),
      (iprop((arg4.view.loc (c : Thread nD τ) ↦[arg4.view.set]{fullShare} X4) ∗ (arg5.view.loc (c : Thread nD τ) ↦[arg5.view.set]{fullShare} X5) ∗ (arg20.view.loc (c : Thread nD τ) ↦[arg20.view.set]{fullShare} X20) ∗ (arg17.view.loc (c : Thread nD τ) ↦[arg17.view.set]{fullShare} G17) ∗ (arg18.view.loc (c : Thread nD τ) ↦[arg18.view.set]{fullShare} G18)) : sProp 𝕄G)
      ⊢ wp frame (wpE (defs₀ (F := F)) Variants.none (c : Thread nD τ) none) E (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 )
          (fun r => iprop(⌜r = ⟨(p.1), (p.2.1), (p.2.2.1), (p.2.2.2.1), (p.2.2.2.2.1), (p.2.2.2.2.2.1), (p.2.2.2.2.2.2.1), (p.2.2.2.2.2.2.2.1), (p.2.2.2.2.2.2.2.2.1)⟩⌝ ∗ (arg4.view.loc (c : Thread nD τ) ↦[arg4.view.set]{fullShare} X4) ∗ (arg5.view.loc (c : Thread nD τ) ↦[arg5.view.set]{fullShare} X5) ∗ (arg20.view.loc (c : Thread nD τ) ↦[arg20.view.set]{fullShare} X20) ∗ (arg17.view.loc (c : Thread nD τ) ↦[arg17.view.set]{fullShare} (p.2.2.2.2.2.2.2.2.2.1)) ∗ (arg18.view.loc (c : Thread nD τ) ↦[arg18.view.set]{fullShare} (p.2.2.2.2.2.2.2.2.2.2)))) } := by
  refine ⟨(?_, ?_, ?_, ?_, ?_, ?_, ?_, ?_, ?_, ?_, ?_), fun E => ?run⟩
  case run =>
    dsimp only
    rw [k0_part13_eq_skeleton]; unfold k0_part13_skel
    iintro ⟨H4, H5, H20, H17, H18⟩
    sl_exec (disch := sl_exact hc1)
    sl_step
    isplitr; · ipureintro; rfl
    isplitl [H4]; · iexact H4
    isplitl [H5]; · iexact H5
    isplitl [H20]; · iexact H20
    isplitl [H17]; · iexact H17
    iexact H18

/-- What that part leaves. -/
def S13B (hc1 : ¬ k0_cond1 i = 1#1)  (X4 : BufTy.Contents (Elt F) arg4.view.ty) (X5 : BufTy.Contents (Elt F) arg5.view.ty) (X20 : BufTy.Contents (Elt F) arg20.view.ty) (G17 : BufTy.Contents (Elt F) arg17.view.ty) (G18 : BufTy.Contents (Elt F) arg18.view.ty)
    (R2 : BitVec 32) (R_v0 : BitVec 32) (R_v6 : IVec S1x128 1) (R_v12 : IVec S1x128 1) (R_v16 : Vec F S512x128 .bf16) (R_v17 : Vec F S512x128 .bf16) (R_v20 : FVec F S128x512 .bf16) (R_v29 : FVec F S2x512x128 .f32) (R_vlast : Vec F S2x512x128 .f32) (C17 : BufTy.Contents (Elt F) arg17.view.ty) (C18 : BufTy.Contents (Elt F) arg18.view.ty) : Prop :=
  (R2, R_v0, R_v6, R_v12, R_v16, R_v17, R_v20, R_v29, R_vlast, C17, C18) = (s13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 X20 G17 G18).1

theorem s13B_wp (hc1 : ¬ k0_cond1 i = 1#1)  (X4 : BufTy.Contents (Elt F) arg4.view.ty) (X5 : BufTy.Contents (Elt F) arg5.view.ty) (X20 : BufTy.Contents (Elt F) arg20.view.ty) (G17 : BufTy.Contents (Elt F) arg17.view.ty) (G18 : BufTy.Contents (Elt F) arg18.view.ty) (E : Set ℕ) :
    (iprop((arg4.view.loc (c : Thread nD τ) ↦[arg4.view.set]{fullShare} X4) ∗ (arg5.view.loc (c : Thread nD τ) ↦[arg5.view.set]{fullShare} X5) ∗ (arg20.view.loc (c : Thread nD τ) ↦[arg20.view.set]{fullShare} X20) ∗ (arg17.view.loc (c : Thread nD τ) ↦[arg17.view.set]{fullShare} G17) ∗ (arg18.view.loc (c : Thread nD τ) ↦[arg18.view.set]{fullShare} G18)) : sProp 𝕄G)
      ⊢ wp frame (wpE (defs₀ (F := F)) Variants.none (c : Thread nD τ) none) E (k0_part13 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 )
          (fun r => iprop(∃ R2 R_v0 R_v6 R_v12 R_v16 R_v17 R_v20 R_v29 R_vlast C17 C18, ⌜S13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 X20 G17 G18 R2 R_v0 R_v6 R_v12 R_v16 R_v17 R_v20 R_v29 R_vlast C17 C18⌝ ∗ ⌜r = ⟨R2, R_v0, R_v6, R_v12, R_v16, R_v17, R_v20, R_v29, R_vlast⟩⌝ ∗ (arg4.view.loc (c : Thread nD τ) ↦[arg4.view.set]{fullShare} X4) ∗ (arg5.view.loc (c : Thread nD τ) ↦[arg5.view.set]{fullShare} X5) ∗ (arg20.view.loc (c : Thread nD τ) ↦[arg20.view.set]{fullShare} X20) ∗ (arg17.view.loc (c : Thread nD τ) ↦[arg17.view.set]{fullShare} C17) ∗ (arg18.view.loc (c : Thread nD τ) ↦[arg18.view.set]{fullShare} C18))) := by
  refine ((s13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 X20 G17 G18).2 E).trans (wp_mono _ _ E fun r => ?_)
  unfold S13B
  generalize (s13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 X20 G17 G18).1 = p
  iintro H
  iexists (p.1)
  iexists (p.2.1)
  iexists (p.2.2.1)
  iexists (p.2.2.2.1)
  iexists (p.2.2.2.2.1)
  iexists (p.2.2.2.2.2.1)
  iexists (p.2.2.2.2.2.2.1)
  iexists (p.2.2.2.2.2.2.2.1)
  iexists (p.2.2.2.2.2.2.2.2.1)
  iexists (p.2.2.2.2.2.2.2.2.2.1)
  iexists (p.2.2.2.2.2.2.2.2.2.2)
  isplitr; · ipureintro; rfl
  iexact H

@[irreducible] def s14 (arg2 : BitVec 32) (v0 : BitVec 32) (v16 : Vec F S512x128 .bf16) (v29 : FVec F S2x512x128 .f32) (v30 : Vec F S2x512x128 .f32) (X3 : BufTy.Contents (Elt F) arg3.view.ty) (X6 : BufTy.Contents (Elt F) arg6.view.ty) (X7 : BufTy.Contents (Elt F) arg7.view.ty) (X8 : BufTy.Contents (Elt F) arg8.view.ty) (G20 : BufTy.Contents (Elt F) arg20.view.ty) :
    { p : (Vec F S512x128 .bf16) × (Vec F S512x128 .bf16) × (FVec F S512x512 .f32) × (BufTy.Contents (Elt F) arg20.view.ty) // ∀ (E : Set ℕ),
      (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg20.view.loc (c : Thread nD τ) ↦[arg20.view.set]{fullShare} G20)) : sProp 𝕄G)
      ⊢ wp frame (wpE (defs₀ (F := F)) Variants.none (c : Thread nD τ) none) E (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v0 v16 v29 v30)
          (fun r => iprop(⌜r = ⟨(p.1), (p.2.1), (p.2.2.1)⟩⌝ ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg20.view.loc (c : Thread nD τ) ↦[arg20.view.set]{fullShare} (p.2.2.2)))) } := by
  refine ⟨(?_, ?_, ?_, ?_), fun E => ?run⟩
  case run =>
    dsimp only
    rw [k0_part14_eq_skeleton]; unfold k0_part14_skel
    iintro ⟨H3, H6, H7, H8, H20⟩
    sl_exec
    sl_step
    isplitr; · ipureintro; rfl
    isplitl [H3]; · iexact H3
    isplitl [H6]; · iexact H6
    isplitl [H7]; · iexact H7
    isplitl [H8]; · iexact H8
    iexact H20

/-- What that part leaves. -/
def S14 (arg2 : BitVec 32) (v0 : BitVec 32) (v16 : Vec F S512x128 .bf16) (v29 : FVec F S2x512x128 .f32) (v30 : Vec F S2x512x128 .f32) (X3 : BufTy.Contents (Elt F) arg3.view.ty) (X6 : BufTy.Contents (Elt F) arg6.view.ty) (X7 : BufTy.Contents (Elt F) arg7.view.ty) (X8 : BufTy.Contents (Elt F) arg8.view.ty) (G20 : BufTy.Contents (Elt F) arg20.view.ty)
    (R_v36 : Vec F S512x128 .bf16) (R_v38 : Vec F S512x128 .bf16) (R_vlast : FVec F S512x512 .f32) (C20 : BufTy.Contents (Elt F) arg20.view.ty) : Prop :=
  (R_v36, R_v38, R_vlast, C20) = (s14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v29 v30 X3 X6 X7 X8 G20).1

theorem s14_wp (arg2 : BitVec 32) (v0 : BitVec 32) (v16 : Vec F S512x128 .bf16) (v29 : FVec F S2x512x128 .f32) (v30 : Vec F S2x512x128 .f32) (X3 : BufTy.Contents (Elt F) arg3.view.ty) (X6 : BufTy.Contents (Elt F) arg6.view.ty) (X7 : BufTy.Contents (Elt F) arg7.view.ty) (X8 : BufTy.Contents (Elt F) arg8.view.ty) (G20 : BufTy.Contents (Elt F) arg20.view.ty) (E : Set ℕ) :
    (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg20.view.loc (c : Thread nD τ) ↦[arg20.view.set]{fullShare} G20)) : sProp 𝕄G)
      ⊢ wp frame (wpE (defs₀ (F := F)) Variants.none (c : Thread nD τ) none) E (k0_part14 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v0 v16 v29 v30)
          (fun r => iprop(∃ R_v36 R_v38 R_vlast C20, ⌜S14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v29 v30 X3 X6 X7 X8 G20 R_v36 R_v38 R_vlast C20⌝ ∗ ⌜r = ⟨R_v36, R_v38, R_vlast⟩⌝ ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg20.view.loc (c : Thread nD τ) ↦[arg20.view.set]{fullShare} C20))) := by
  refine ((s14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v29 v30 X3 X6 X7 X8 G20).2 E).trans (wp_mono _ _ E fun r => ?_)
  unfold S14
  generalize (s14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v29 v30 X3 X6 X7 X8 G20).1 = p
  iintro H
  iexists (p.1)
  iexists (p.2.1)
  iexists (p.2.2.1)
  iexists (p.2.2.2)
  isplitr; · ipureintro; rfl
  iexact H

@[irreducible] def s15 (arg2 : BitVec 32) (v6 : IVec S1x128 1) (v17 : Vec F S512x128 .bf16) (v38 : Vec F S512x128 .bf16) (v73 : FVec F S512x512 .f32) (X16 : BufTy.Contents (Elt F) arg16.view.ty) (X17 : BufTy.Contents (Elt F) arg17.view.ty) (G18 : BufTy.Contents (Elt F) arg18.view.ty) (G20 : BufTy.Contents (Elt F) arg20.view.ty) :
    { p : (FVec F S512x512 .bf16) × (Vec F S1x512x128 .f32) × (BufTy.Contents (Elt F) arg18.view.ty) × (BufTy.Contents (Elt F) arg20.view.ty) // ∀ (E : Set ℕ),
      (iprop((arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} G18) ∗ (arg20.view.loc (c : Thread nD τ) ↦[arg20.view.set]{fullShare} G20)) : sProp 𝕄G)
      ⊢ wp frame (wpE (defs₀ (F := F)) Variants.none (c : Thread nD τ) none) E (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v17 v38 v73)
          (fun r => iprop(⌜r = ⟨(p.1), (p.2.1)⟩⌝ ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} (p.2.2.1)) ∗ (arg20.view.loc (c : Thread nD τ) ↦[arg20.view.set]{fullShare} (p.2.2.2)))) } := by
  refine ⟨(?_, ?_, ?_, ?_), fun E => ?run⟩
  case run =>
    dsimp only
    rw [k0_part15_eq_skeleton]; unfold k0_part15_skel
    iintro ⟨H16, H17, H18, H20⟩
    sl_exec
    sl_step
    isplitr; · ipureintro; rfl
    isplitl [H16]; · iexact H16
    isplitl [H17]; · iexact H17
    isplitl [H18]; · iexact H18
    iexact H20

/-- What that part leaves. -/
def S15 (arg2 : BitVec 32) (v6 : IVec S1x128 1) (v17 : Vec F S512x128 .bf16) (v38 : Vec F S512x128 .bf16) (v73 : FVec F S512x512 .f32) (X16 : BufTy.Contents (Elt F) arg16.view.ty) (X17 : BufTy.Contents (Elt F) arg17.view.ty) (G18 : BufTy.Contents (Elt F) arg18.view.ty) (G20 : BufTy.Contents (Elt F) arg20.view.ty)
    (R_v101 : FVec F S512x512 .bf16) (R_vlast : Vec F S1x512x128 .f32) (C18 : BufTy.Contents (Elt F) arg18.view.ty) (C20 : BufTy.Contents (Elt F) arg20.view.ty) : Prop :=
  (R_v101, R_vlast, C18, C20) = (s15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v17 v38 v73 X16 X17 G18 G20).1

theorem s15_wp (arg2 : BitVec 32) (v6 : IVec S1x128 1) (v17 : Vec F S512x128 .bf16) (v38 : Vec F S512x128 .bf16) (v73 : FVec F S512x512 .f32) (X16 : BufTy.Contents (Elt F) arg16.view.ty) (X17 : BufTy.Contents (Elt F) arg17.view.ty) (G18 : BufTy.Contents (Elt F) arg18.view.ty) (G20 : BufTy.Contents (Elt F) arg20.view.ty) (E : Set ℕ) :
    (iprop((arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} G18) ∗ (arg20.view.loc (c : Thread nD τ) ↦[arg20.view.set]{fullShare} G20)) : sProp 𝕄G)
      ⊢ wp frame (wpE (defs₀ (F := F)) Variants.none (c : Thread nD τ) none) E (k0_part15 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v17 v38 v73)
          (fun r => iprop(∃ R_v101 R_vlast C18 C20, ⌜S15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v17 v38 v73 X16 X17 G18 G20 R_v101 R_vlast C18 C20⌝ ∗ ⌜r = ⟨R_v101, R_vlast⟩⌝ ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} C18) ∗ (arg20.view.loc (c : Thread nD τ) ↦[arg20.view.set]{fullShare} C20))) := by
  refine ((s15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v17 v38 v73 X16 X17 G18 G20).2 E).trans (wp_mono _ _ E fun r => ?_)
  unfold S15
  generalize (s15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v17 v38 v73 X16 X17 G18 G20).1 = p
  iintro H
  iexists (p.1)
  iexists (p.2.1)
  iexists (p.2.2.1)
  iexists (p.2.2.2)
  isplitr; · ipureintro; rfl
  iexact H

@[irreducible] def s16 (arg2 : BitVec 32) (v0 : BitVec 32) (v16 : Vec F S512x128 .bf16) (v20 : FVec F S128x512 .bf16) (v36 : Vec F S512x128 .bf16) (v101 : FVec F S512x512 .bf16) (v110 : Vec F S1x512x128 .f32) (X8 : BufTy.Contents (Elt F) arg8.view.ty) (G17 : BufTy.Contents (Elt F) arg17.view.ty) (G19 : BufTy.Contents (Elt F) arg19.view.ty) :
    { p : (FVec F S512x512 .f32) × (IVec S512x512 32) × (IVec S512x512 32) × (BufTy.Contents (Elt F) arg17.view.ty) × (BufTy.Contents (Elt F) arg19.view.ty) // ∀ (E : Set ℕ),
      (iprop((arg8.view.loc (c : Thread nD τ) ↦[arg8.view.set]{fullShare} X8) ∗ (arg17.view.loc (c : Thread nD τ) ↦[arg17.view.set]{fullShare} G17) ∗ (arg19.view.loc (c : Thread nD τ) ↦[arg19.view.set]{fullShare} G19)) : sProp 𝕄G)
      ⊢ wp frame (wpE (defs₀ (F := F)) Variants.none (c : Thread nD τ) none) E (k0_part16 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v0 v16 v20 v36 v101 v110)
          (fun r => iprop(⌜r = ⟨(p.1), (p.2.1), (p.2.2.1)⟩⌝ ∗ (arg8.view.loc (c : Thread nD τ) ↦[arg8.view.set]{fullShare} X8) ∗ (arg17.view.loc (c : Thread nD τ) ↦[arg17.view.set]{fullShare} (p.2.2.2.1)) ∗ (arg19.view.loc (c : Thread nD τ) ↦[arg19.view.set]{fullShare} (p.2.2.2.2)))) } := by
  refine ⟨(?_, ?_, ?_, ?_, ?_), fun E => ?run⟩
  case run =>
    dsimp only
    rw [k0_part16_eq_skeleton]; unfold k0_part16_skel
    iintro ⟨H8, H17, H19⟩
    sl_exec
    sl_step
    isplitr; · ipureintro; rfl
    isplitl [H8]; · iexact H8
    isplitl [H17]; · iexact H17
    iexact H19

/-- What that part leaves. -/
def S16 (arg2 : BitVec 32) (v0 : BitVec 32) (v16 : Vec F S512x128 .bf16) (v20 : FVec F S128x512 .bf16) (v36 : Vec F S512x128 .bf16) (v101 : FVec F S512x512 .bf16) (v110 : Vec F S1x512x128 .f32) (X8 : BufTy.Contents (Elt F) arg8.view.ty) (G17 : BufTy.Contents (Elt F) arg17.view.ty) (G19 : BufTy.Contents (Elt F) arg19.view.ty)
    (R_v145 : FVec F S512x512 .f32) (R_v148 : IVec S512x512 32) (R_vlast : IVec S512x512 32) (C17 : BufTy.Contents (Elt F) arg17.view.ty) (C19 : BufTy.Contents (Elt F) arg19.view.ty) : Prop :=
  (R_v145, R_v148, R_vlast, C17, C19) = (s16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v20 v36 v101 v110 X8 G17 G19).1

theorem s16_wp (arg2 : BitVec 32) (v0 : BitVec 32) (v16 : Vec F S512x128 .bf16) (v20 : FVec F S128x512 .bf16) (v36 : Vec F S512x128 .bf16) (v101 : FVec F S512x512 .bf16) (v110 : Vec F S1x512x128 .f32) (X8 : BufTy.Contents (Elt F) arg8.view.ty) (G17 : BufTy.Contents (Elt F) arg17.view.ty) (G19 : BufTy.Contents (Elt F) arg19.view.ty) (E : Set ℕ) :
    (iprop((arg8.view.loc (c : Thread nD τ) ↦[arg8.view.set]{fullShare} X8) ∗ (arg17.view.loc (c : Thread nD τ) ↦[arg17.view.set]{fullShare} G17) ∗ (arg19.view.loc (c : Thread nD τ) ↦[arg19.view.set]{fullShare} G19)) : sProp 𝕄G)
      ⊢ wp frame (wpE (defs₀ (F := F)) Variants.none (c : Thread nD τ) none) E (k0_part16 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v0 v16 v20 v36 v101 v110)
          (fun r => iprop(∃ R_v145 R_v148 R_vlast C17 C19, ⌜S16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v20 v36 v101 v110 X8 G17 G19 R_v145 R_v148 R_vlast C17 C19⌝ ∗ ⌜r = ⟨R_v145, R_v148, R_vlast⟩⌝ ∗ (arg8.view.loc (c : Thread nD τ) ↦[arg8.view.set]{fullShare} X8) ∗ (arg17.view.loc (c : Thread nD τ) ↦[arg17.view.set]{fullShare} C17) ∗ (arg19.view.loc (c : Thread nD τ) ↦[arg19.view.set]{fullShare} C19))) := by
  refine ((s16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v20 v36 v101 v110 X8 G17 G19).2 E).trans (wp_mono _ _ E fun r => ?_)
  unfold S16
  generalize (s16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v0 v16 v20 v36 v101 v110 X8 G17 G19).1 = p
  iintro H
  iexists (p.1)
  iexists (p.2.1)
  iexists (p.2.2.1)
  iexists (p.2.2.2.1)
  iexists (p.2.2.2.2)
  isplitr; · ipureintro; rfl
  iexact H

@[irreducible] def s17 (arg2 : BitVec 32) (v12 : IVec S1x128 1) (v17 : Vec F S512x128 .bf16) (v38 : Vec F S512x128 .bf16) (v145 : FVec F S512x512 .f32) (v148 : IVec S512x512 32) (v151 : IVec S512x512 32) (X6 : BufTy.Contents (Elt F) arg6.view.ty) (X16 : BufTy.Contents (Elt F) arg16.view.ty) (X18 : BufTy.Contents (Elt F) arg18.view.ty) (G20 : BufTy.Contents (Elt F) arg20.view.ty) :
    { p : (FVec F S512x512 .f32) × (FVec F S512x512 .bf16) × (FVec F S512x128 .f32) × (BufTy.Contents (Elt F) arg20.view.ty) // ∀ (E : Set ℕ),
      (iprop((arg6.view.loc (c : Thread nD τ) ↦[arg6.view.set]{fullShare} X6) ∗ (arg16.view.loc (c : Thread nD τ) ↦[arg16.view.set]{fullShare} X16) ∗ (arg18.view.loc (c : Thread nD τ) ↦[arg18.view.set]{fullShare} X18) ∗ (arg20.view.loc (c : Thread nD τ) ↦[arg20.view.set]{fullShare} G20)) : sProp 𝕄G)
      ⊢ wp frame (wpE (defs₀ (F := F)) Variants.none (c : Thread nD τ) none) E (k0_part17 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v12 v17 v38 v145 v148 v151)
          (fun r => iprop(⌜r = ⟨(p.1), (p.2.1), (p.2.2.1)⟩⌝ ∗ (arg6.view.loc (c : Thread nD τ) ↦[arg6.view.set]{fullShare} X6) ∗ (arg16.view.loc (c : Thread nD τ) ↦[arg16.view.set]{fullShare} X16) ∗ (arg18.view.loc (c : Thread nD τ) ↦[arg18.view.set]{fullShare} X18) ∗ (arg20.view.loc (c : Thread nD τ) ↦[arg20.view.set]{fullShare} (p.2.2.2)))) } := by
  refine ⟨(?_, ?_, ?_, ?_), fun E => ?run⟩
  case run =>
    dsimp only
    rw [k0_part17_eq_skeleton]; unfold k0_part17_skel
    iintro ⟨H6, H16, H18, H20⟩
    sl_exec
    sl_step
    isplitr; · ipureintro; rfl
    isplitl [H6]; · iexact H6
    isplitl [H16]; · iexact H16
    isplitl [H18]; · iexact H18
    iexact H20

/-- What that part leaves. -/
def S17 (arg2 : BitVec 32) (v12 : IVec S1x128 1) (v17 : Vec F S512x128 .bf16) (v38 : Vec F S512x128 .bf16) (v145 : FVec F S512x512 .f32) (v148 : IVec S512x512 32) (v151 : IVec S512x512 32) (X6 : BufTy.Contents (Elt F) arg6.view.ty) (X16 : BufTy.Contents (Elt F) arg16.view.ty) (X18 : BufTy.Contents (Elt F) arg18.view.ty) (G20 : BufTy.Contents (Elt F) arg20.view.ty)
    (R_v161 : FVec F S512x512 .f32) (R_v189 : FVec F S512x512 .bf16) (R_vlast : FVec F S512x128 .f32) (C20 : BufTy.Contents (Elt F) arg20.view.ty) : Prop :=
  (R_v161, R_v189, R_vlast, C20) = (s17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v12 v17 v38 v145 v148 v151 X6 X16 X18 G20).1

theorem s17_wp (arg2 : BitVec 32) (v12 : IVec S1x128 1) (v17 : Vec F S512x128 .bf16) (v38 : Vec F S512x128 .bf16) (v145 : FVec F S512x512 .f32) (v148 : IVec S512x512 32) (v151 : IVec S512x512 32) (X6 : BufTy.Contents (Elt F) arg6.view.ty) (X16 : BufTy.Contents (Elt F) arg16.view.ty) (X18 : BufTy.Contents (Elt F) arg18.view.ty) (G20 : BufTy.Contents (Elt F) arg20.view.ty) (E : Set ℕ) :
    (iprop((arg6.view.loc (c : Thread nD τ) ↦[arg6.view.set]{fullShare} X6) ∗ (arg16.view.loc (c : Thread nD τ) ↦[arg16.view.set]{fullShare} X16) ∗ (arg18.view.loc (c : Thread nD τ) ↦[arg18.view.set]{fullShare} X18) ∗ (arg20.view.loc (c : Thread nD τ) ↦[arg20.view.set]{fullShare} G20)) : sProp 𝕄G)
      ⊢ wp frame (wpE (defs₀ (F := F)) Variants.none (c : Thread nD τ) none) E (k0_part17 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v12 v17 v38 v145 v148 v151)
          (fun r => iprop(∃ R_v161 R_v189 R_vlast C20, ⌜S17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v12 v17 v38 v145 v148 v151 X6 X16 X18 G20 R_v161 R_v189 R_vlast C20⌝ ∗ ⌜r = ⟨R_v161, R_v189, R_vlast⟩⌝ ∗ (arg6.view.loc (c : Thread nD τ) ↦[arg6.view.set]{fullShare} X6) ∗ (arg16.view.loc (c : Thread nD τ) ↦[arg16.view.set]{fullShare} X16) ∗ (arg18.view.loc (c : Thread nD τ) ↦[arg18.view.set]{fullShare} X18) ∗ (arg20.view.loc (c : Thread nD τ) ↦[arg20.view.set]{fullShare} C20))) := by
  refine ((s17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v12 v17 v38 v145 v148 v151 X6 X16 X18 G20).2 E).trans (wp_mono _ _ E fun r => ?_)
  unfold S17
  generalize (s17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v12 v17 v38 v145 v148 v151 X6 X16 X18 G20).1 = p
  iintro H
  iexists (p.1)
  iexists (p.2.1)
  iexists (p.2.2.1)
  iexists (p.2.2.2)
  isplitr; · ipureintro; rfl
  iexact H

@[irreducible] def s18 (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) :
    { p : (BitVec 32) × (BitVec 32) × (BufTy.Contents (Elt F) arg17.view.ty) × (BufTy.Contents (Elt F) arg18.view.ty) × (BufTy.Contents (Elt F) arg19.view.ty) × (BufTy.Contents (Elt F) arg20.view.ty) // ∀ (E : Set ℕ),
      (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20)) : sProp 𝕄G)
      ⊢ wp frame (wpE (defs₀ (F := F)) Variants.none (c : Thread nD τ) none) E (k0_part18 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191)
          (fun r => iprop(⌜r = ⟨(p.1), (p.2.1)⟩⌝ ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg17.view.loc (c : Thread nD τ) ↦[arg17.view.set]{fullShare} (p.2.2.1)) ∗ (arg18.view.loc (c : Thread nD τ) ↦[arg18.view.set]{fullShare} (p.2.2.2.1)) ∗ (arg19.view.loc (c : Thread nD τ) ↦[arg19.view.set]{fullShare} (p.2.2.2.2.1)) ∗ (arg20.view.loc (c : Thread nD τ) ↦[arg20.view.set]{fullShare} (p.2.2.2.2.2)))) } := by
  refine ⟨(?_, ?_, ?_, ?_, ?_, ?_), fun E => ?run⟩
  case run =>
    dsimp only
    rw [k0_part18_eq_skeleton]; unfold k0_part18_skel
    iintro ⟨H3, H6, H7, H8, H16, H17, H18, H19, H20⟩
    sl_exec
    sl_step
    isplitr; · ipureintro; rfl
    isplitl [H3]; · iexact H3
    isplitl [H6]; · iexact H6
    isplitl [H7]; · iexact H7
    isplitl [H8]; · iexact H8
    isplitl [H16]; · iexact H16
    isplitl [H17]; · iexact H17
    isplitl [H18]; · iexact H18
    isplitl [H19]; · iexact H19
    iexact H20

/-- What that part leaves. -/
def S18 (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty)
    (R_v222 : BitVec 32) (R_vlast : BitVec 32) (C17 : BufTy.Contents (Elt F) arg17.view.ty) (C18 : BufTy.Contents (Elt F) arg18.view.ty) (C19 : BufTy.Contents (Elt F) arg19.view.ty) (C20 : BufTy.Contents (Elt F) arg20.view.ty) : Prop :=
  (R_v222, R_vlast, C17, C18, C19, C20) = (s18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v12 v16 v17 v20 v36 v38 v161 v189 v191 X3 X6 X7 X8 X16 G17 G18 G19 G20).1

theorem s18_wp (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (E : Set ℕ) :
    (iprop((arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20)) : sProp 𝕄G)
      ⊢ wp frame (wpE (defs₀ (F := F)) Variants.none (c : Thread nD τ) none) E (k0_part18 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191)
          (fun r => iprop(∃ R_v222 R_vlast C17 C18 C19 C20, ⌜S18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v12 v16 v17 v20 v36 v38 v161 v189 v191 X3 X6 X7 X8 X16 G17 G18 G19 G20 R_v222 R_vlast C17 C18 C19 C20⌝ ∗ ⌜r = ⟨R_v222, R_vlast⟩⌝ ∗ (arg3.view.loc (c : Thread nD τ) ↦[arg3.view.set]{fullShare} X3) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg16.view.loc (c : Thread nD τ) ↦[arg16.view.set]{fullShare} X16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20))) := by
  refine ((s18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v12 v16 v17 v20 v36 v38 v161 v189 v191 X3 X6 X7 X8 X16 G17 G18 G19 G20).2 E).trans (wp_mono _ _ E fun r => ?_)
  unfold S18
  generalize (s18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  arg2 v6 v12 v16 v17 v20 v36 v38 v161 v189 v191 X3 X6 X7 X8 X16 G17 G18 G19 G20).1 = p
  iintro H
  iexists (p.1)
  iexists (p.2.1)
  iexists (p.2.2.1)
  iexists (p.2.2.2.1)
  iexists (p.2.2.2.2.1)
  iexists (p.2.2.2.2.2)
  isplitr; · ipureintro; rfl
  iexact H

@[irreducible] def s19B (hc2 : ¬ k0_cond2 i = 1#1) (v6 : IVec S1x128 1) (v222 : BitVec 32) (c0_i32_108 : BitVec 32) (X17 : BufTy.Contents (Elt F) arg17.view.ty) (X18 : BufTy.Contents (Elt F) arg18.view.ty) (X20 : BufTy.Contents (Elt F) arg20.view.ty) (G13 : BufTy.Contents (Elt F) arg13.view.ty) (G14 : BufTy.Contents (Elt F) arg14.view.ty) :
    { p : (IVec S1x128 32) × (FVec F S512x1 .f32) × (FVec F S512x128 .f32) × (BufTy.Contents (Elt F) arg13.view.ty) × (BufTy.Contents (Elt F) arg14.view.ty) // ∀ (E : Set ℕ),
      (iprop((arg17.view.loc (c : Thread nD τ) ↦[arg17.view.set]{fullShare} X17) ∗ (arg18.view.loc (c : Thread nD τ) ↦[arg18.view.set]{fullShare} X18) ∗ (arg20.view.loc (c : Thread nD τ) ↦[arg20.view.set]{fullShare} X20) ∗ (arg13.view.loc (c : Thread nD τ) ↦[arg13.view.set]{fullShare} G13) ∗ (arg14.view.loc (c : Thread nD τ) ↦[arg14.view.set]{fullShare} G14)) : sProp 𝕄G)
      ⊢ wp frame (wpE (defs₀ (F := F)) Variants.none (c : Thread nD τ) none) E (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v222 c0_i32_108)
          (fun r => iprop(⌜r = ⟨(p.1), (p.2.1), (p.2.2.1)⟩⌝ ∗ (arg17.view.loc (c : Thread nD τ) ↦[arg17.view.set]{fullShare} X17) ∗ (arg18.view.loc (c : Thread nD τ) ↦[arg18.view.set]{fullShare} X18) ∗ (arg20.view.loc (c : Thread nD τ) ↦[arg20.view.set]{fullShare} X20) ∗ (arg13.view.loc (c : Thread nD τ) ↦[arg13.view.set]{fullShare} (p.2.2.2.1)) ∗ (arg14.view.loc (c : Thread nD τ) ↦[arg14.view.set]{fullShare} (p.2.2.2.2)))) } := by
  refine ⟨(?_, ?_, ?_, ?_, ?_), fun E => ?run⟩
  case run =>
    dsimp only
    rw [k0_part19_eq_skeleton]; unfold k0_part19_skel
    iintro ⟨H17, H18, H20, H13, H14⟩
    sl_exec (disch := sl_exact hc2)
    sl_step
    isplitr; · ipureintro; rfl
    isplitl [H17]; · iexact H17
    isplitl [H18]; · iexact H18
    isplitl [H20]; · iexact H20
    isplitl [H13]; · iexact H13
    iexact H14

/-- What that part leaves. -/
def S19B (hc2 : ¬ k0_cond2 i = 1#1) (v6 : IVec S1x128 1) (v222 : BitVec 32) (c0_i32_108 : BitVec 32) (X17 : BufTy.Contents (Elt F) arg17.view.ty) (X18 : BufTy.Contents (Elt F) arg18.view.ty) (X20 : BufTy.Contents (Elt F) arg20.view.ty) (G13 : BufTy.Contents (Elt F) arg13.view.ty) (G14 : BufTy.Contents (Elt F) arg14.view.ty)
    (R_v248 : IVec S1x128 32) (R_v252 : FVec F S512x1 .f32) (R_vlast : FVec F S512x128 .f32) (C13 : BufTy.Contents (Elt F) arg13.view.ty) (C14 : BufTy.Contents (Elt F) arg14.view.ty) : Prop :=
  (R_v248, R_v252, R_vlast, C13, C14) = (s19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X20 G13 G14).1

theorem s19B_wp (hc2 : ¬ k0_cond2 i = 1#1) (v6 : IVec S1x128 1) (v222 : BitVec 32) (c0_i32_108 : BitVec 32) (X17 : BufTy.Contents (Elt F) arg17.view.ty) (X18 : BufTy.Contents (Elt F) arg18.view.ty) (X20 : BufTy.Contents (Elt F) arg20.view.ty) (G13 : BufTy.Contents (Elt F) arg13.view.ty) (G14 : BufTy.Contents (Elt F) arg14.view.ty) (E : Set ℕ) :
    (iprop((arg17.view.loc (c : Thread nD τ) ↦[arg17.view.set]{fullShare} X17) ∗ (arg18.view.loc (c : Thread nD τ) ↦[arg18.view.set]{fullShare} X18) ∗ (arg20.view.loc (c : Thread nD τ) ↦[arg20.view.set]{fullShare} X20) ∗ (arg13.view.loc (c : Thread nD τ) ↦[arg13.view.set]{fullShare} G13) ∗ (arg14.view.loc (c : Thread nD τ) ↦[arg14.view.set]{fullShare} G14)) : sProp 𝕄G)
      ⊢ wp frame (wpE (defs₀ (F := F)) Variants.none (c : Thread nD τ) none) E (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v222 c0_i32_108)
          (fun r => iprop(∃ R_v248 R_v252 R_vlast C13 C14, ⌜S19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X20 G13 G14 R_v248 R_v252 R_vlast C13 C14⌝ ∗ ⌜r = ⟨R_v248, R_v252, R_vlast⟩⌝ ∗ (arg17.view.loc (c : Thread nD τ) ↦[arg17.view.set]{fullShare} X17) ∗ (arg18.view.loc (c : Thread nD τ) ↦[arg18.view.set]{fullShare} X18) ∗ (arg20.view.loc (c : Thread nD τ) ↦[arg20.view.set]{fullShare} X20) ∗ (arg13.view.loc (c : Thread nD τ) ↦[arg13.view.set]{fullShare} C13) ∗ (arg14.view.loc (c : Thread nD τ) ↦[arg14.view.set]{fullShare} C14))) := by
  refine ((s19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X20 G13 G14).2 E).trans (wp_mono _ _ E fun r => ?_)
  unfold S19B
  generalize (s19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X20 G13 G14).1 = p
  iintro H
  iexists (p.1)
  iexists (p.2.1)
  iexists (p.2.2.1)
  iexists (p.2.2.2.1)
  iexists (p.2.2.2.2)
  isplitr; · ipureintro; rfl
  iexact H

@[irreducible] def s19C (hc2 : k0_cond2 i = 1#1) (v6 : IVec S1x128 1) (v222 : BitVec 32) (c0_i32_108 : BitVec 32) (X17 : BufTy.Contents (Elt F) arg17.view.ty) (X18 : BufTy.Contents (Elt F) arg18.view.ty) (X19 : BufTy.Contents (Elt F) arg19.view.ty) (X20 : BufTy.Contents (Elt F) arg20.view.ty) (G12 : BufTy.Contents (Elt F) arg12.view.ty) (G13 : BufTy.Contents (Elt F) arg13.view.ty) (G14 : BufTy.Contents (Elt F) arg14.view.ty) :
    { p : (IVec S1x128 32) × (FVec F S512x1 .f32) × (FVec F S512x128 .f32) × (BufTy.Contents (Elt F) arg12.view.ty) × (BufTy.Contents (Elt F) arg13.view.ty) × (BufTy.Contents (Elt F) arg14.view.ty) // ∀ (E : Set ℕ),
      (iprop((arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14)) : sProp 𝕄G)
      ⊢ wp frame (wpE (defs₀ (F := F)) Variants.none (c : Thread nD τ) none) E (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v222 c0_i32_108)
          (fun r => iprop(⌜r = ⟨(p.1), (p.2.1), (p.2.2.1)⟩⌝ ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg12.view.loc (c : Thread nD τ) ↦[arg12.view.set]{fullShare} (p.2.2.2.1)) ∗ (arg13.view.loc (c : Thread nD τ) ↦[arg13.view.set]{fullShare} (p.2.2.2.2.1)) ∗ (arg14.view.loc (c : Thread nD τ) ↦[arg14.view.set]{fullShare} (p.2.2.2.2.2)))) } := by
  refine ⟨(?_, ?_, ?_, ?_, ?_, ?_), fun E => ?run⟩
  case run =>
    dsimp only
    rw [k0_part19_eq_skeleton]; unfold k0_part19_skel
    iintro ⟨H17, H18, H19, H20, H12, H13, H14⟩
    sl_exec (disch := sl_exact hc2)
    sl_step
    isplitr; · ipureintro; rfl
    isplitl [H17]; · iexact H17
    isplitl [H18]; · iexact H18
    isplitl [H19]; · iexact H19
    isplitl [H20]; · iexact H20
    isplitl [H12]; · iexact H12
    isplitl [H13]; · iexact H13
    iexact H14

/-- What that part leaves. -/
def S19C (hc2 : k0_cond2 i = 1#1) (v6 : IVec S1x128 1) (v222 : BitVec 32) (c0_i32_108 : BitVec 32) (X17 : BufTy.Contents (Elt F) arg17.view.ty) (X18 : BufTy.Contents (Elt F) arg18.view.ty) (X19 : BufTy.Contents (Elt F) arg19.view.ty) (X20 : BufTy.Contents (Elt F) arg20.view.ty) (G12 : BufTy.Contents (Elt F) arg12.view.ty) (G13 : BufTy.Contents (Elt F) arg13.view.ty) (G14 : BufTy.Contents (Elt F) arg14.view.ty)
    (R_v248 : IVec S1x128 32) (R_v252 : FVec F S512x1 .f32) (R_vlast : FVec F S512x128 .f32) (C12 : BufTy.Contents (Elt F) arg12.view.ty) (C13 : BufTy.Contents (Elt F) arg13.view.ty) (C14 : BufTy.Contents (Elt F) arg14.view.ty) : Prop :=
  (R_v248, R_v252, R_vlast, C12, C13, C14) = (s19C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X19 X20 G12 G13 G14).1

theorem s19C_wp (hc2 : k0_cond2 i = 1#1) (v6 : IVec S1x128 1) (v222 : BitVec 32) (c0_i32_108 : BitVec 32) (X17 : BufTy.Contents (Elt F) arg17.view.ty) (X18 : BufTy.Contents (Elt F) arg18.view.ty) (X19 : BufTy.Contents (Elt F) arg19.view.ty) (X20 : BufTy.Contents (Elt F) arg20.view.ty) (G12 : BufTy.Contents (Elt F) arg12.view.ty) (G13 : BufTy.Contents (Elt F) arg13.view.ty) (G14 : BufTy.Contents (Elt F) arg14.view.ty) (E : Set ℕ) :
    (iprop((arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14)) : sProp 𝕄G)
      ⊢ wp frame (wpE (defs₀ (F := F)) Variants.none (c : Thread nD τ) none) E (k0_part19 (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v6 v222 c0_i32_108)
          (fun r => iprop(∃ R_v248 R_v252 R_vlast C12 C13 C14, ⌜S19C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X19 X20 G12 G13 G14 R_v248 R_v252 R_vlast C12 C13 C14⌝ ∗ ⌜r = ⟨R_v248, R_v252, R_vlast⟩⌝ ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14))) := by
  refine ((s19C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X19 X20 G12 G13 G14).2 E).trans (wp_mono _ _ E fun r => ?_)
  unfold S19C
  generalize (s19C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X19 X20 G12 G13 G14).1 = p
  iintro H
  iexists (p.1)
  iexists (p.2.1)
  iexists (p.2.2.1)
  iexists (p.2.2.2.1)
  iexists (p.2.2.2.2.1)
  iexists (p.2.2.2.2.2)
  isplitr; · ipureintro; rfl
  iexact H

end Cert.Proof.KernelIdeal

end
-- ==== Proof.FoxRuns.lean ====
/- The body run whole, in its three cases: at the first key block of a sequence (the delta rows are filled), at a middle one,
   and at the last (the query gradient is written out). -/
module

public import proofs.«01_k».proof.Proof.FoxStages

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole)
  (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole)
  (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole)
  (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole)
  (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole)
  (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole)

/-- The parts' equations chained. -/
def RelA (hc1 : k0_cond1 i = 1#1) (hc2 : ¬ k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (C13 : BufTy.Contents (Elt F) arg13.view.ty) (C14 : BufTy.Contents (Elt F) arg14.view.ty) (C15 : BufTy.Contents (Elt F) arg15.view.ty) (C16 : BufTy.Contents (Elt F) arg16.view.ty) (C17 : BufTy.Contents (Elt F) arg17.view.ty) (C18 : BufTy.Contents (Elt F) arg18.view.ty) (C19 : BufTy.Contents (Elt F) arg19.view.ty) (C20 : BufTy.Contents (Elt F) arg20.view.ty) : Prop :=
  ∃ (R213 : BitVec 32) (R_v013 : BitVec 32) (R_v613 : IVec S1x128 1) (R_v1213 : IVec S1x128 1) (R_v1613 : Vec F S512x128 .bf16) (R_v1713 : Vec F S512x128 .bf16) (R_v2013 : FVec F S128x512 .bf16) (R_v2913 : FVec F S2x512x128 .f32) (R_vlast13 : Vec F S2x512x128 .f32) (C1613 : BufTy.Contents (Elt F) arg16.view.ty) (C1713 : BufTy.Contents (Elt F) arg17.view.ty) (C1813 : BufTy.Contents (Elt F) arg18.view.ty) (C1913 : BufTy.Contents (Elt F) arg19.view.ty) (R_v3614 : Vec F S512x128 .bf16) (R_v3814 : Vec F S512x128 .bf16) (R_vlast14 : FVec F S512x512 .f32) (C2014 : BufTy.Contents (Elt F) arg20.view.ty) (R_v10115 : FVec F S512x512 .bf16) (R_vlast15 : Vec F S1x512x128 .f32) (C1815 : BufTy.Contents (Elt F) arg18.view.ty) (C2015 : BufTy.Contents (Elt F) arg20.view.ty) (R_v14516 : FVec F S512x512 .f32) (R_v14816 : IVec S512x512 32) (R_vlast16 : IVec S512x512 32) (C1716 : BufTy.Contents (Elt F) arg17.view.ty) (C1916 : BufTy.Contents (Elt F) arg19.view.ty) (R_v16117 : FVec F S512x512 .f32) (R_v18917 : FVec F S512x512 .bf16) (R_vlast17 : FVec F S512x128 .f32) (C2017 : BufTy.Contents (Elt F) arg20.view.ty) (R_v22218 : BitVec 32) (R_vlast18 : BitVec 32) (C1718 : BufTy.Contents (Elt F) arg17.view.ty) (C1818 : BufTy.Contents (Elt F) arg18.view.ty) (C1918 : BufTy.Contents (Elt F) arg19.view.ty) (C2018 : BufTy.Contents (Elt F) arg20.view.ty) (R_v24819 : IVec S1x128 32) (R_v25219 : FVec F S512x1 .f32) (R_vlast19 : FVec F S512x128 .f32) (C1319 : BufTy.Contents (Elt F) arg13.view.ty) (C1419 : BufTy.Contents (Elt F) arg14.view.ty),
    S13A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X3 X4 X5 X6 X7 X9 X10 X11 G20 G16 G17 G18 G19 R213 R_v013 R_v613 R_v1213 R_v1613 R_v1713 R_v2013 R_v2913 R_vlast13 C1613 C1713 C1813 C1913 ∧
    S14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2913 R_vlast13 X3 X6 X7 X8 G20 R_v3614 R_v3814 R_vlast14 C2014 ∧
    S15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1713 R_v3814 R_vlast14 C1613 C1713 C1813 C2014 R_v10115 R_vlast15 C1815 C2015 ∧
    S16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2013 R_v3614 R_v10115 R_vlast15 X8 C1713 C1913 R_v14516 R_v14816 R_vlast16 C1716 C1916 ∧
    S17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v1213 R_v1713 R_v3814 R_v14516 R_v14816 R_vlast16 X6 C1613 C1815 C2015 R_v16117 R_v18917 R_vlast17 C2017 ∧
    S18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1213 R_v1613 R_v1713 R_v2013 R_v3614 R_v3814 R_v16117 R_v18917 R_vlast17 X3 X6 X7 X8 C1613 C1716 C1815 C1916 C2017 R_v22218 R_vlast18 C1718 C1818 C1918 C2018 ∧
    S19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 R_v613 R_v22218 R_vlast18 C1718 C1818 C2018 G13 G14 R_v24819 R_v25219 R_vlast19 C1319 C1419 ∧
    C13 = C1319 ∧ C14 = C1419 ∧ C16 = C1613 ∧ C17 = C1718 ∧ C18 = C1818 ∧ C19 = C1918 ∧ C20 = C2018 ∧ C15 = arg15.view.writes (Elt F) G15 [⟨Rect.unit (s := S512x128) ![0, 0] S512x128.size inb_S512x128_S512x128_0_0, k0_pay1 R_v24819 R_v25219 R_vlast19⟩]

theorem runA (hc1 : k0_cond1 i = 1#1) (hc2 : ¬ k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (E : Set ℕ) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20)) : sProp 𝕄G)
      ⊢ wp frame (wpE (defs₀ (F := F)) Variants.none (c : Thread nD τ) none) E (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(∃ C13 C14 C15 C16 C17 C18 C19 C20, ⌜RelA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 X3 X4 X5 X6 X7 X8 X9 X10 X11 G12 G13 G14 G15 G16 G17 G18 G19 G20 C13 C14 C15 C16 C17 C18 C19 C20⌝ ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} G12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} C16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20))) := by
    rw [cc0_fox_bwd_eq_skeleton]; unfold cc0_fox_bwd_skel
    iintro ⟨H3, H4, H5, H6, H7, H8, H9, H10, H11, H12, H13, H14, H15, H16, H17, H18, H19, H20⟩
    rw [wp_bind]
    iapply (wp_wand_r Idealize.ShloMosaic.frame (wpE (defs₀ (F := F)) Variants.none (c : Thread nD τ) none) E)
    isplitl [H3 H4 H5 H6 H7 H9 H10 H11 H20 H16 H17 H18 H19]
    · iapply (s13A_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X3 X4 X5 X6 X7 X9 X10 X11 G20 G16 G17 G18 G19 E)
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H20]; · iexact H20
      isplitl [H16]; · iexact H16
      isplitl [H17]; · iexact H17
      isplitl [H18]; · iexact H18
      iexact H19
    iintro %r13 ⟨%R213, %R_v013, %R_v613, %R_v1213, %R_v1613, %R_v1713, %R_v2013, %R_v2913, %R_vlast13, %C1613, %C1713, %C1813, %C1913, %hS13, %hr13, H3, H4, H5, H6, H7, H9, H10, H11, H20, H16, H17, H18, H19⟩
    subst hr13
    dsimp only
    rw [wp_bind]
    iapply (wp_wand_r Idealize.ShloMosaic.frame (wpE (defs₀ (F := F)) Variants.none (c : Thread nD τ) none) E)
    isplitl [H3 H6 H7 H8 H20]
    · iapply (s14_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2913 R_vlast13 X3 X6 X7 X8 G20 E)
      isplitl [H3]; · iexact H3
      isplitl [H6]; · iexact H6
      isplitl [H7]; · iexact H7
      isplitl [H8]; · iexact H8
      iexact H20
    iintro %r14 ⟨%R_v3614, %R_v3814, %R_vlast14, %C2014, %hS14, %hr14, H3, H6, H7, H8, H20⟩
    subst hr14
    dsimp only
    rw [wp_bind]
    iapply (wp_wand_r Idealize.ShloMosaic.frame (wpE (defs₀ (F := F)) Variants.none (c : Thread nD τ) none) E)
    isplitl [H16 H17 H18 H20]
    · iapply (s15_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1713 R_v3814 R_vlast14 C1613 C1713 C1813 C2014 E)
      isplitl [H16]; · iexact H16
      isplitl [H17]; · iexact H17
      isplitl [H18]; · iexact H18
      iexact H20
    iintro %r15 ⟨%R_v10115, %R_vlast15, %C1815, %C2015, %hS15, %hr15, H16, H17, H18, H20⟩
    subst hr15
    dsimp only
    rw [wp_bind]
    iapply (wp_wand_r Idealize.ShloMosaic.frame (wpE (defs₀ (F := F)) Variants.none (c : Thread nD τ) none) E)
    isplitl [H8 H17 H19]
    · iapply (s16_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2013 R_v3614 R_v10115 R_vlast15 X8 C1713 C1913 E)
      isplitl [H8]; · iexact H8
      isplitl [H17]; · iexact H17
      iexact H19
    iintro %r16 ⟨%R_v14516, %R_v14816, %R_vlast16, %C1716, %C1916, %hS16, %hr16, H8, H17, H19⟩
    subst hr16
    dsimp only
    rw [wp_bind]
    iapply (wp_wand_r Idealize.ShloMosaic.frame (wpE (defs₀ (F := F)) Variants.none (c : Thread nD τ) none) E)
    isplitl [H6 H16 H18 H20]
    · iapply (s17_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v1213 R_v1713 R_v3814 R_v14516 R_v14816 R_vlast16 X6 C1613 C1815 C2015 E)
      isplitl [H6]; · iexact H6
      isplitl [H16]; · iexact H16
      isplitl [H18]; · iexact H18
      iexact H20
    iintro %r17 ⟨%R_v16117, %R_v18917, %R_vlast17, %C2017, %hS17, %hr17, H6, H16, H18, H20⟩
    subst hr17
    dsimp only
    rw [wp_bind]
    iapply (wp_wand_r Idealize.ShloMosaic.frame (wpE (defs₀ (F := F)) Variants.none (c : Thread nD τ) none) E)
    isplitl [H3 H6 H7 H8 H16 H17 H18 H19 H20]
    · iapply (s18_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1213 R_v1613 R_v1713 R_v2013 R_v3614 R_v3814 R_v16117 R_v18917 R_vlast17 X3 X6 X7 X8 C1613 C1716 C1815 C1916 C2017 E)
      isplitl [H3]; · iexact H3
      isplitl [H6]; · iexact H6
      isplitl [H7]; · iexact H7
      isplitl [H8]; · iexact H8
      isplitl [H16]; · iexact H16
      isplitl [H17]; · iexact H17
      isplitl [H18]; · iexact H18
      isplitl [H19]; · iexact H19
      iexact H20
    iintro %r18 ⟨%R_v22218, %R_vlast18, %C1718, %C1818, %C1918, %C2018, %hS18, %hr18, H3, H6, H7, H8, H16, H17, H18, H19, H20⟩
    subst hr18
    dsimp only
    rw [wp_bind]
    iapply (wp_wand_r Idealize.ShloMosaic.frame (wpE (defs₀ (F := F)) Variants.none (c : Thread nD τ) none) E)
    isplitl [H17 H18 H20 H13 H14]
    · iapply (s19B_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 R_v613 R_v22218 R_vlast18 C1718 C1818 C2018 G13 G14 E)
      isplitl [H17]; · iexact H17
      isplitl [H18]; · iexact H18
      isplitl [H20]; · iexact H20
      isplitl [H13]; · iexact H13
      iexact H14
    iintro %r19 ⟨%R_v24819, %R_v25219, %R_vlast19, %C1319, %C1419, %hS19, %hr19, H17, H18, H20, H13, H14⟩
    subst hr19
    dsimp only
    sl_exec
    sl_step
    iexists _
    iexists _
    iexists _
    iexists _
    iexists _
    iexists _
    iexists _
    iexists _
    isplitr
    swap
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
    ipureintro
    exact ⟨R213, R_v013, R_v613, R_v1213, R_v1613, R_v1713, R_v2013, R_v2913, R_vlast13, C1613, C1713, C1813, C1913, R_v3614, R_v3814, R_vlast14, C2014, R_v10115, R_vlast15, C1815, C2015, R_v14516, R_v14816, R_vlast16, C1716, C1916, R_v16117, R_v18917, R_vlast17, C2017, R_v22218, R_vlast18, C1718, C1818, C1918, C2018, R_v24819, R_v25219, R_vlast19, C1319, C1419, hS13, hS14, hS15, hS16, hS17, hS18, hS19, rfl, rfl, rfl, rfl, rfl, rfl, rfl, rfl⟩

/-- The parts' equations chained. -/
def RelB (hc1 : ¬ k0_cond1 i = 1#1) (hc2 : ¬ k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (C13 : BufTy.Contents (Elt F) arg13.view.ty) (C14 : BufTy.Contents (Elt F) arg14.view.ty) (C15 : BufTy.Contents (Elt F) arg15.view.ty) (C17 : BufTy.Contents (Elt F) arg17.view.ty) (C18 : BufTy.Contents (Elt F) arg18.view.ty) (C19 : BufTy.Contents (Elt F) arg19.view.ty) (C20 : BufTy.Contents (Elt F) arg20.view.ty) : Prop :=
  ∃ (R213 : BitVec 32) (R_v013 : BitVec 32) (R_v613 : IVec S1x128 1) (R_v1213 : IVec S1x128 1) (R_v1613 : Vec F S512x128 .bf16) (R_v1713 : Vec F S512x128 .bf16) (R_v2013 : FVec F S128x512 .bf16) (R_v2913 : FVec F S2x512x128 .f32) (R_vlast13 : Vec F S2x512x128 .f32) (C1713 : BufTy.Contents (Elt F) arg17.view.ty) (C1813 : BufTy.Contents (Elt F) arg18.view.ty) (R_v3614 : Vec F S512x128 .bf16) (R_v3814 : Vec F S512x128 .bf16) (R_vlast14 : FVec F S512x512 .f32) (C2014 : BufTy.Contents (Elt F) arg20.view.ty) (R_v10115 : FVec F S512x512 .bf16) (R_vlast15 : Vec F S1x512x128 .f32) (C1815 : BufTy.Contents (Elt F) arg18.view.ty) (C2015 : BufTy.Contents (Elt F) arg20.view.ty) (R_v14516 : FVec F S512x512 .f32) (R_v14816 : IVec S512x512 32) (R_vlast16 : IVec S512x512 32) (C1716 : BufTy.Contents (Elt F) arg17.view.ty) (C1916 : BufTy.Contents (Elt F) arg19.view.ty) (R_v16117 : FVec F S512x512 .f32) (R_v18917 : FVec F S512x512 .bf16) (R_vlast17 : FVec F S512x128 .f32) (C2017 : BufTy.Contents (Elt F) arg20.view.ty) (R_v22218 : BitVec 32) (R_vlast18 : BitVec 32) (C1718 : BufTy.Contents (Elt F) arg17.view.ty) (C1818 : BufTy.Contents (Elt F) arg18.view.ty) (C1918 : BufTy.Contents (Elt F) arg19.view.ty) (C2018 : BufTy.Contents (Elt F) arg20.view.ty) (R_v24819 : IVec S1x128 32) (R_v25219 : FVec F S512x1 .f32) (R_vlast19 : FVec F S512x128 .f32) (C1319 : BufTy.Contents (Elt F) arg13.view.ty) (C1419 : BufTy.Contents (Elt F) arg14.view.ty),
    S13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 G20 G17 G18 R213 R_v013 R_v613 R_v1213 R_v1613 R_v1713 R_v2013 R_v2913 R_vlast13 C1713 C1813 ∧
    S14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2913 R_vlast13 X3 X6 X7 X8 G20 R_v3614 R_v3814 R_vlast14 C2014 ∧
    S15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1713 R_v3814 R_vlast14 G16 C1713 C1813 C2014 R_v10115 R_vlast15 C1815 C2015 ∧
    S16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2013 R_v3614 R_v10115 R_vlast15 X8 C1713 G19 R_v14516 R_v14816 R_vlast16 C1716 C1916 ∧
    S17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v1213 R_v1713 R_v3814 R_v14516 R_v14816 R_vlast16 X6 G16 C1815 C2015 R_v16117 R_v18917 R_vlast17 C2017 ∧
    S18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1213 R_v1613 R_v1713 R_v2013 R_v3614 R_v3814 R_v16117 R_v18917 R_vlast17 X3 X6 X7 X8 G16 C1716 C1815 C1916 C2017 R_v22218 R_vlast18 C1718 C1818 C1918 C2018 ∧
    S19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 R_v613 R_v22218 R_vlast18 C1718 C1818 C2018 G13 G14 R_v24819 R_v25219 R_vlast19 C1319 C1419 ∧
    C13 = C1319 ∧ C14 = C1419 ∧ C17 = C1718 ∧ C18 = C1818 ∧ C19 = C1918 ∧ C20 = C2018 ∧ C15 = arg15.view.writes (Elt F) G15 [⟨Rect.unit (s := S512x128) ![0, 0] S512x128.size inb_S512x128_S512x128_0_0, k0_pay1 R_v24819 R_v25219 R_vlast19⟩]

theorem runB (hc1 : ¬ k0_cond1 i = 1#1) (hc2 : ¬ k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (E : Set ℕ) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20)) : sProp 𝕄G)
      ⊢ wp frame (wpE (defs₀ (F := F)) Variants.none (c : Thread nD τ) none) E (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(∃ C13 C14 C15 C17 C18 C19 C20, ⌜RelB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 X3 X4 X5 X6 X7 X8 X9 X10 X11 G12 G13 G14 G15 G16 G17 G18 G19 G20 C13 C14 C15 C17 C18 C19 C20⌝ ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} G12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} G16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20))) := by
    rw [cc0_fox_bwd_eq_skeleton]; unfold cc0_fox_bwd_skel
    iintro ⟨H3, H4, H5, H6, H7, H8, H9, H10, H11, H12, H13, H14, H15, H16, H17, H18, H19, H20⟩
    rw [wp_bind]
    iapply (wp_wand_r Idealize.ShloMosaic.frame (wpE (defs₀ (F := F)) Variants.none (c : Thread nD τ) none) E)
    isplitl [H4 H5 H20 H17 H18]
    · iapply (s13B_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 G20 G17 G18 E)
      isplitl [H4]; · iexact H4
      isplitl [H5]; · iexact H5
      isplitl [H20]; · iexact H20
      isplitl [H17]; · iexact H17
      iexact H18
    iintro %r13 ⟨%R213, %R_v013, %R_v613, %R_v1213, %R_v1613, %R_v1713, %R_v2013, %R_v2913, %R_vlast13, %C1713, %C1813, %hS13, %hr13, H4, H5, H20, H17, H18⟩
    subst hr13
    dsimp only
    rw [wp_bind]
    iapply (wp_wand_r Idealize.ShloMosaic.frame (wpE (defs₀ (F := F)) Variants.none (c : Thread nD τ) none) E)
    isplitl [H3 H6 H7 H8 H20]
    · iapply (s14_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2913 R_vlast13 X3 X6 X7 X8 G20 E)
      isplitl [H3]; · iexact H3
      isplitl [H6]; · iexact H6
      isplitl [H7]; · iexact H7
      isplitl [H8]; · iexact H8
      iexact H20
    iintro %r14 ⟨%R_v3614, %R_v3814, %R_vlast14, %C2014, %hS14, %hr14, H3, H6, H7, H8, H20⟩
    subst hr14
    dsimp only
    rw [wp_bind]
    iapply (wp_wand_r Idealize.ShloMosaic.frame (wpE (defs₀ (F := F)) Variants.none (c : Thread nD τ) none) E)
    isplitl [H16 H17 H18 H20]
    · iapply (s15_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1713 R_v3814 R_vlast14 G16 C1713 C1813 C2014 E)
      isplitl [H16]; · iexact H16
      isplitl [H17]; · iexact H17
      isplitl [H18]; · iexact H18
      iexact H20
    iintro %r15 ⟨%R_v10115, %R_vlast15, %C1815, %C2015, %hS15, %hr15, H16, H17, H18, H20⟩
    subst hr15
    dsimp only
    rw [wp_bind]
    iapply (wp_wand_r Idealize.ShloMosaic.frame (wpE (defs₀ (F := F)) Variants.none (c : Thread nD τ) none) E)
    isplitl [H8 H17 H19]
    · iapply (s16_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2013 R_v3614 R_v10115 R_vlast15 X8 C1713 G19 E)
      isplitl [H8]; · iexact H8
      isplitl [H17]; · iexact H17
      iexact H19
    iintro %r16 ⟨%R_v14516, %R_v14816, %R_vlast16, %C1716, %C1916, %hS16, %hr16, H8, H17, H19⟩
    subst hr16
    dsimp only
    rw [wp_bind]
    iapply (wp_wand_r Idealize.ShloMosaic.frame (wpE (defs₀ (F := F)) Variants.none (c : Thread nD τ) none) E)
    isplitl [H6 H16 H18 H20]
    · iapply (s17_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v1213 R_v1713 R_v3814 R_v14516 R_v14816 R_vlast16 X6 G16 C1815 C2015 E)
      isplitl [H6]; · iexact H6
      isplitl [H16]; · iexact H16
      isplitl [H18]; · iexact H18
      iexact H20
    iintro %r17 ⟨%R_v16117, %R_v18917, %R_vlast17, %C2017, %hS17, %hr17, H6, H16, H18, H20⟩
    subst hr17
    dsimp only
    rw [wp_bind]
    iapply (wp_wand_r Idealize.ShloMosaic.frame (wpE (defs₀ (F := F)) Variants.none (c : Thread nD τ) none) E)
    isplitl [H3 H6 H7 H8 H16 H17 H18 H19 H20]
    · iapply (s18_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1213 R_v1613 R_v1713 R_v2013 R_v3614 R_v3814 R_v16117 R_v18917 R_vlast17 X3 X6 X7 X8 G16 C1716 C1815 C1916 C2017 E)
      isplitl [H3]; · iexact H3
      isplitl [H6]; · iexact H6
      isplitl [H7]; · iexact H7
      isplitl [H8]; · iexact H8
      isplitl [H16]; · iexact H16
      isplitl [H17]; · iexact H17
      isplitl [H18]; · iexact H18
      isplitl [H19]; · iexact H19
      iexact H20
    iintro %r18 ⟨%R_v22218, %R_vlast18, %C1718, %C1818, %C1918, %C2018, %hS18, %hr18, H3, H6, H7, H8, H16, H17, H18, H19, H20⟩
    subst hr18
    dsimp only
    rw [wp_bind]
    iapply (wp_wand_r Idealize.ShloMosaic.frame (wpE (defs₀ (F := F)) Variants.none (c : Thread nD τ) none) E)
    isplitl [H17 H18 H20 H13 H14]
    · iapply (s19B_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 R_v613 R_v22218 R_vlast18 C1718 C1818 C2018 G13 G14 E)
      isplitl [H17]; · iexact H17
      isplitl [H18]; · iexact H18
      isplitl [H20]; · iexact H20
      isplitl [H13]; · iexact H13
      iexact H14
    iintro %r19 ⟨%R_v24819, %R_v25219, %R_vlast19, %C1319, %C1419, %hS19, %hr19, H17, H18, H20, H13, H14⟩
    subst hr19
    dsimp only
    sl_exec
    sl_step
    iexists _
    iexists _
    iexists _
    iexists _
    iexists _
    iexists _
    iexists _
    isplitr
    swap
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
    ipureintro
    exact ⟨R213, R_v013, R_v613, R_v1213, R_v1613, R_v1713, R_v2013, R_v2913, R_vlast13, C1713, C1813, R_v3614, R_v3814, R_vlast14, C2014, R_v10115, R_vlast15, C1815, C2015, R_v14516, R_v14816, R_vlast16, C1716, C1916, R_v16117, R_v18917, R_vlast17, C2017, R_v22218, R_vlast18, C1718, C1818, C1918, C2018, R_v24819, R_v25219, R_vlast19, C1319, C1419, hS13, hS14, hS15, hS16, hS17, hS18, hS19, rfl, rfl, rfl, rfl, rfl, rfl, rfl⟩

/-- The parts' equations chained. -/
def RelC (hc1 : ¬ k0_cond1 i = 1#1) (hc2 : k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (C12 : BufTy.Contents (Elt F) arg12.view.ty) (C13 : BufTy.Contents (Elt F) arg13.view.ty) (C14 : BufTy.Contents (Elt F) arg14.view.ty) (C15 : BufTy.Contents (Elt F) arg15.view.ty) (C17 : BufTy.Contents (Elt F) arg17.view.ty) (C18 : BufTy.Contents (Elt F) arg18.view.ty) (C19 : BufTy.Contents (Elt F) arg19.view.ty) (C20 : BufTy.Contents (Elt F) arg20.view.ty) : Prop :=
  ∃ (R213 : BitVec 32) (R_v013 : BitVec 32) (R_v613 : IVec S1x128 1) (R_v1213 : IVec S1x128 1) (R_v1613 : Vec F S512x128 .bf16) (R_v1713 : Vec F S512x128 .bf16) (R_v2013 : FVec F S128x512 .bf16) (R_v2913 : FVec F S2x512x128 .f32) (R_vlast13 : Vec F S2x512x128 .f32) (C1713 : BufTy.Contents (Elt F) arg17.view.ty) (C1813 : BufTy.Contents (Elt F) arg18.view.ty) (R_v3614 : Vec F S512x128 .bf16) (R_v3814 : Vec F S512x128 .bf16) (R_vlast14 : FVec F S512x512 .f32) (C2014 : BufTy.Contents (Elt F) arg20.view.ty) (R_v10115 : FVec F S512x512 .bf16) (R_vlast15 : Vec F S1x512x128 .f32) (C1815 : BufTy.Contents (Elt F) arg18.view.ty) (C2015 : BufTy.Contents (Elt F) arg20.view.ty) (R_v14516 : FVec F S512x512 .f32) (R_v14816 : IVec S512x512 32) (R_vlast16 : IVec S512x512 32) (C1716 : BufTy.Contents (Elt F) arg17.view.ty) (C1916 : BufTy.Contents (Elt F) arg19.view.ty) (R_v16117 : FVec F S512x512 .f32) (R_v18917 : FVec F S512x512 .bf16) (R_vlast17 : FVec F S512x128 .f32) (C2017 : BufTy.Contents (Elt F) arg20.view.ty) (R_v22218 : BitVec 32) (R_vlast18 : BitVec 32) (C1718 : BufTy.Contents (Elt F) arg17.view.ty) (C1818 : BufTy.Contents (Elt F) arg18.view.ty) (C1918 : BufTy.Contents (Elt F) arg19.view.ty) (C2018 : BufTy.Contents (Elt F) arg20.view.ty) (R_v24819 : IVec S1x128 32) (R_v25219 : FVec F S512x1 .f32) (R_vlast19 : FVec F S512x128 .f32) (C1219 : BufTy.Contents (Elt F) arg12.view.ty) (C1319 : BufTy.Contents (Elt F) arg13.view.ty) (C1419 : BufTy.Contents (Elt F) arg14.view.ty),
    S13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 G20 G17 G18 R213 R_v013 R_v613 R_v1213 R_v1613 R_v1713 R_v2013 R_v2913 R_vlast13 C1713 C1813 ∧
    S14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2913 R_vlast13 X3 X6 X7 X8 G20 R_v3614 R_v3814 R_vlast14 C2014 ∧
    S15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1713 R_v3814 R_vlast14 G16 C1713 C1813 C2014 R_v10115 R_vlast15 C1815 C2015 ∧
    S16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2013 R_v3614 R_v10115 R_vlast15 X8 C1713 G19 R_v14516 R_v14816 R_vlast16 C1716 C1916 ∧
    S17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v1213 R_v1713 R_v3814 R_v14516 R_v14816 R_vlast16 X6 G16 C1815 C2015 R_v16117 R_v18917 R_vlast17 C2017 ∧
    S18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1213 R_v1613 R_v1713 R_v2013 R_v3614 R_v3814 R_v16117 R_v18917 R_vlast17 X3 X6 X7 X8 G16 C1716 C1815 C1916 C2017 R_v22218 R_vlast18 C1718 C1818 C1918 C2018 ∧
    S19C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 R_v613 R_v22218 R_vlast18 C1718 C1818 C1918 C2018 G12 G13 G14 R_v24819 R_v25219 R_vlast19 C1219 C1319 C1419 ∧
    C12 = C1219 ∧ C13 = C1319 ∧ C14 = C1419 ∧ C17 = C1718 ∧ C18 = C1818 ∧ C19 = C1918 ∧ C20 = C2018 ∧ C15 = arg15.view.writes (Elt F) G15 [⟨Rect.unit (s := S512x128) ![0, 0] S512x128.size inb_S512x128_S512x128_0_0, k0_pay1 R_v24819 R_v25219 R_vlast19⟩]

theorem runC (hc1 : ¬ k0_cond1 i = 1#1) (hc2 : k0_cond2 i = 1#1) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (E : Set ℕ) :
    (iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16) ∗ (arg17.view.loc (c : Thread nD τ) ↦[arg17.view.set]{fullShare} G17) ∗ (arg18.view.loc (c : Thread nD τ) ↦[arg18.view.set]{fullShare} G18) ∗ (arg19.view.loc (c : Thread nD τ) ↦[arg19.view.set]{fullShare} G19) ∗ (arg20.view.loc (c : Thread nD τ) ↦[arg20.view.set]{fullShare} G20)) : sProp 𝕄G)
      ⊢ wp frame (wpE (defs₀ (F := F)) Variants.none (c : Thread nD τ) none) E (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(∃ C12 C13 C14 C15 C17 C18 C19 C20, ⌜RelC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 X3 X4 X5 X6 X7 X8 X9 X10 X11 G12 G13 G14 G15 G16 G17 G18 G19 G20 C12 C13 C14 C15 C17 C18 C19 C20⌝ ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} C12) ∗ (arg13.view.loc (c : Thread nD τ) ↦[arg13.view.set]{fullShare} C13) ∗ (arg14.view.loc (c : Thread nD τ) ↦[arg14.view.set]{fullShare} C14) ∗ (arg15.view.loc (c : Thread nD τ) ↦[arg15.view.set]{fullShare} C15) ∗ (arg16.view.loc (c : Thread nD τ) ↦[arg16.view.set]{fullShare} G16) ∗ (arg17.view.loc (c : Thread nD τ) ↦[arg17.view.set]{fullShare} C17) ∗ (arg18.view.loc (c : Thread nD τ) ↦[arg18.view.set]{fullShare} C18) ∗ (arg19.view.loc (c : Thread nD τ) ↦[arg19.view.set]{fullShare} C19) ∗ (arg20.view.loc (c : Thread nD τ) ↦[arg20.view.set]{fullShare} C20))) := by
    rw [cc0_fox_bwd_eq_skeleton]; unfold cc0_fox_bwd_skel
    iintro ⟨H3, H4, H5, H6, H7, H8, H9, H10, H11, H12, H13, H14, H15, H16, H17, H18, H19, H20⟩
    rw [wp_bind]
    iapply (wp_wand_r Idealize.ShloMosaic.frame (wpE (defs₀ (F := F)) Variants.none (c : Thread nD τ) none) E)
    isplitl [H4 H5 H20 H17 H18]
    · iapply (s13B_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1  X4 X5 G20 G17 G18 E)
      isplitl [H4]; · iexact H4
      isplitl [H5]; · iexact H5
      isplitl [H20]; · iexact H20
      isplitl [H17]; · iexact H17
      iexact H18
    iintro %r13 ⟨%R213, %R_v013, %R_v613, %R_v1213, %R_v1613, %R_v1713, %R_v2013, %R_v2913, %R_vlast13, %C1713, %C1813, %hS13, %hr13, H4, H5, H20, H17, H18⟩
    subst hr13
    dsimp only
    rw [wp_bind]
    iapply (wp_wand_r Idealize.ShloMosaic.frame (wpE (defs₀ (F := F)) Variants.none (c : Thread nD τ) none) E)
    isplitl [H3 H6 H7 H8 H20]
    · iapply (s14_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2913 R_vlast13 X3 X6 X7 X8 G20 E)
      isplitl [H3]; · iexact H3
      isplitl [H6]; · iexact H6
      isplitl [H7]; · iexact H7
      isplitl [H8]; · iexact H8
      iexact H20
    iintro %r14 ⟨%R_v3614, %R_v3814, %R_vlast14, %C2014, %hS14, %hr14, H3, H6, H7, H8, H20⟩
    subst hr14
    dsimp only
    rw [wp_bind]
    iapply (wp_wand_r Idealize.ShloMosaic.frame (wpE (defs₀ (F := F)) Variants.none (c : Thread nD τ) none) E)
    isplitl [H16 H17 H18 H20]
    · iapply (s15_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1713 R_v3814 R_vlast14 G16 C1713 C1813 C2014 E)
      isplitl [H16]; · iexact H16
      isplitl [H17]; · iexact H17
      isplitl [H18]; · iexact H18
      iexact H20
    iintro %r15 ⟨%R_v10115, %R_vlast15, %C1815, %C2015, %hS15, %hr15, H16, H17, H18, H20⟩
    subst hr15
    dsimp only
    rw [wp_bind]
    iapply (wp_wand_r Idealize.ShloMosaic.frame (wpE (defs₀ (F := F)) Variants.none (c : Thread nD τ) none) E)
    isplitl [H8 H17 H19]
    · iapply (s16_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v013 R_v1613 R_v2013 R_v3614 R_v10115 R_vlast15 X8 C1713 G19 E)
      isplitl [H8]; · iexact H8
      isplitl [H17]; · iexact H17
      iexact H19
    iintro %r16 ⟨%R_v14516, %R_v14816, %R_vlast16, %C1716, %C1916, %hS16, %hr16, H8, H17, H19⟩
    subst hr16
    dsimp only
    rw [wp_bind]
    iapply (wp_wand_r Idealize.ShloMosaic.frame (wpE (defs₀ (F := F)) Variants.none (c : Thread nD τ) none) E)
    isplitl [H6 H16 H18 H20]
    · iapply (s17_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v1213 R_v1713 R_v3814 R_v14516 R_v14816 R_vlast16 X6 G16 C1815 C2015 E)
      isplitl [H6]; · iexact H6
      isplitl [H16]; · iexact H16
      isplitl [H18]; · iexact H18
      iexact H20
    iintro %r17 ⟨%R_v16117, %R_v18917, %R_vlast17, %C2017, %hS17, %hr17, H6, H16, H18, H20⟩
    subst hr17
    dsimp only
    rw [wp_bind]
    iapply (wp_wand_r Idealize.ShloMosaic.frame (wpE (defs₀ (F := F)) Variants.none (c : Thread nD τ) none) E)
    isplitl [H3 H6 H7 H8 H16 H17 H18 H19 H20]
    · iapply (s18_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20  R213 R_v613 R_v1213 R_v1613 R_v1713 R_v2013 R_v3614 R_v3814 R_v16117 R_v18917 R_vlast17 X3 X6 X7 X8 G16 C1716 C1815 C1916 C2017 E)
      isplitl [H3]; · iexact H3
      isplitl [H6]; · iexact H6
      isplitl [H7]; · iexact H7
      isplitl [H8]; · iexact H8
      isplitl [H16]; · iexact H16
      isplitl [H17]; · iexact H17
      isplitl [H18]; · iexact H18
      isplitl [H19]; · iexact H19
      iexact H20
    iintro %r18 ⟨%R_v22218, %R_vlast18, %C1718, %C1818, %C1918, %C2018, %hS18, %hr18, H3, H6, H7, H8, H16, H17, H18, H19, H20⟩
    subst hr18
    dsimp only
    rw [wp_bind]
    iapply (wp_wand_r Idealize.ShloMosaic.frame (wpE (defs₀ (F := F)) Variants.none (c : Thread nD τ) none) E)
    isplitl [H17 H18 H19 H20 H12 H13 H14]
    · iapply (s19C_wp (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 R_v613 R_v22218 R_vlast18 C1718 C1818 C1918 C2018 G12 G13 G14 E)
      isplitl [H17]; · iexact H17
      isplitl [H18]; · iexact H18
      isplitl [H19]; · iexact H19
      isplitl [H20]; · iexact H20
      isplitl [H12]; · iexact H12
      isplitl [H13]; · iexact H13
      iexact H14
    iintro %r19 ⟨%R_v24819, %R_v25219, %R_vlast19, %C1219, %C1319, %C1419, %hS19, %hr19, H17, H18, H19, H20, H12, H13, H14⟩
    subst hr19
    dsimp only
    sl_exec
    sl_step
    iexists _
    iexists _
    iexists _
    iexists _
    iexists _
    iexists _
    iexists _
    iexists _
    isplitr
    swap
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iexact H20
    ipureintro
    exact ⟨R213, R_v013, R_v613, R_v1213, R_v1613, R_v1713, R_v2013, R_v2913, R_vlast13, C1713, C1813, R_v3614, R_v3814, R_vlast14, C2014, R_v10115, R_vlast15, C1815, C2015, R_v14516, R_v14816, R_vlast16, C1716, C1916, R_v16117, R_v18917, R_vlast17, C2017, R_v22218, R_vlast18, C1718, C1818, C1918, C2018, R_v24819, R_v25219, R_vlast19, C1219, C1319, C1419, hS13, hS14, hS15, hS16, hS17, hS18, hS19, rfl, rfl, rfl, rfl, rfl, rfl, rfl, rfl⟩

end Cert.Proof.KernelIdeal

end
-- ==== Proof.FoxDvDef.lean ====
/- The value-gradient rows of the forgetting-attention gradient as a function of the blocks a program reads: the two rows
   of the scratch accumulator, one per head of the pair, through the diagonal block and the trips over the later query blocks. -/
module

public import proofs.«01_k».proof.Proof.Gen.KernelIdeal.Skeleton
public import Idealize.ShloMosaic.Lib.VecWindow

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

/-- One trip over a later query block: each head's row has its product added. -/
def dvTrip (i : grid0.Coords) (v16 : Vec F S512x128 .bf16) (D3 : S2048x128.Idx → Elt F .bf16) (D6 : S1x1x4x2x512.Idx → Elt F .f32) (D7 : S2048x128.Idx → Elt F .bf16) (D8 : S512x256.Idx → Elt F .f32)
    (k : Fin (k0_t4_loop i).trips) (D : S2x512x128.Idx → Elt F .f32) : S2x512x128.Idx → Elt F .f32 :=
  let q := VecWindow.window D3 (k0_off17 i k) S512x128.size (k0_off17_inb i k)
  let g := VecWindow.window D7 (k0_off17 i k) S512x128.size (k0_off17_inb i k)
  let cf := VecWindow.window D8 ![0, 0] S512x256.size inb_S512x256_S512x256_0_0
  let ls := VecWindow.window D6 (k0_off18 i k) S1x1x1x2x512.size (k0_off18_inb i k)
  let a := VecWindow.put D ![0, 0, 0] S1x512x128.size (k0_pay19 g (k0_pay13 v16 q cf ls) (VecWindow.window D ![0, 0, 0] S1x512x128.size inb_S2x512x128_S1x512x128_0_0_0))
  VecWindow.put a ![1, 0, 0] S1x512x128.size (k0_pay27 g (k0_pay22 v16 q cf ls) (VecWindow.window D ![1, 0, 0] S1x512x128.size inb_S2x512x128_S1x512x128_1_0_0))

/-- The trips before `n`. -/
def dvIter (i : grid0.Coords) (v16 : Vec F S512x128 .bf16) (D3 : S2048x128.Idx → Elt F .bf16) (D6 : S1x1x4x2x512.Idx → Elt F .f32) (D7 : S2048x128.Idx → Elt F .bf16) (D8 : S512x256.Idx → Elt F .f32)
    (D : S2x512x128.Idx → Elt F .f32) : ℕ → S2x512x128.Idx → Elt F .f32
  | 0 => D
  | n + 1 => if h : n < (k0_t4_loop i).trips then dvTrip i v16 D3 D6 D7 D8 ⟨n, h⟩ (dvIter i v16 D3 D6 D7 D8 D n)
      else dvIter i v16 D3 D6 D7 D8 D n

/-- The rows after the diagonal block. -/
def dvDiag (i : grid0.Coords) (v16 : Vec F S512x128 .bf16) (D3 : S2048x128.Idx → Elt F .bf16) (D6 : S1x1x4x2x512.Idx → Elt F .f32) (D7 : S2048x128.Idx → Elt F .bf16) (D8 : S512x256.Idx → Elt F .f32)
    (D : S2x512x128.Idx → Elt F .f32) : S2x512x128.Idx → Elt F .f32 :=
  let arg2 : BitVec 32 := BitVec.ofNat 32 (i 2).val
  let v0 : BitVec 32 := Scalar.muli arg2 512#32
  let q := VecWindow.window D3 (k0_off12 i) S512x128.size (k0_off12_inb i)
  let g := VecWindow.window D7 (k0_off12 i) S512x128.size (k0_off12_inb i)
  let cf := VecWindow.window D8 ![0, 0] S512x256.size inb_S512x256_S512x256_0_0
  let ls := VecWindow.window D6 (k0_off13 i) S1x1x1x2x512.size (k0_off13_inb i)
  let a := VecWindow.put D ![0, 0, 0] S1x512x128.size (k0_pay59 g (k0_pay55 arg2 v0 v16 q cf ls) (VecWindow.window D ![0, 0, 0] S1x512x128.size inb_S2x512x128_S1x512x128_0_0_0))
  VecWindow.put a ![1, 0, 0] S1x512x128.size (k0_pay70 g (k0_pay65 (k0_pay62 v16 q cf) (k0_pay63 v0) (k0_pay64 arg2) ls) (k0_pay69 (VecWindow.window a ![1, 0, 0] S1x512x128.size inb_S2x512x128_S1x512x128_1_0_0)))

/-- The block of value-gradient rows a program writes. -/
def dvOut (i : grid0.Coords) (D3 : S2048x128.Idx → Elt F .bf16) (D4 : S512x128.Idx → Elt F .bf16) (D6 : S1x1x4x2x512.Idx → Elt F .f32) (D7 : S2048x128.Idx → Elt F .bf16) (D8 : S512x256.Idx → Elt F .f32) : S512x128.Idx → Elt F .bf16 :=
  let v16 : Vec F S512x128 .bf16 := VecWindow.window D4 ![0, 0] S512x128.size inb_S512x128_S512x128_0_0
  let D := dvIter i v16 D3 D6 D7 D8 (dvDiag i v16 D3 D6 D7 D8 (k0_pay52 (F := F))) (k0_t4_loop i).trips
  k0_pay78 (F := F) k0_pay45 (VecWindow.window D ![0, 0, 0] S1x512x128.size inb_S2x512x128_S1x512x128_0_0_0) (VecWindow.window D ![1, 0, 0] S1x512x128.size inb_S2x512x128_S1x512x128_1_0_0)

end Cert.Proof.KernelIdeal

end
-- ==== Proof.FoxDvStage.lean ====
/- What each stage leaves of the value-gradient rows and of the values they are computed from. -/
module

public import proofs.«01_k».proof.Proof.FoxRuns
public import proofs.«01_k».proof.Proof.FoxDvDef

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem readAt_win {kd : Kind} {sp : Space} {s : Shape} {ty : EltTy} (v : View sig kd sp s ty) (f : v.ty.Contents (Elt F))
    (off size : Fin s.rank → ℕ) (inb : ∀ a, off a + size a ≤ s.size a) :
    v.readAt (Elt F) (Rect.unit (s := s) off size inb).toLoadRect f = VecWindow.window (v.read (Elt F) f) off size inb := rfl

theorem read_put {kd : Kind} {sp : Space} {s : Shape} {ty : EltTy} (v : View sig kd sp s ty) (f : v.ty.Contents (Elt F))
    (off size : Fin s.rank → ℕ) (inb : ∀ a, off a + size a ≤ s.size a) (w : (Rect.unit (s := s) off size inb).shape.Idx → Elt F ty)
    (L : List (View.Piece (Elt F) s ty)) :
    v.read (Elt F) (v.writes (Elt F) f (⟨Rect.unit (s := s) off size inb, w⟩ :: L))
      = VecWindow.put (v.read (Elt F) (v.writes (Elt F) f L)) off size w :=
  View.read_writes_cons_put v f inb w L rfl

theorem t4_read (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (v215 : BitVec 32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (k : Fin (k0_t4_loop i).trips) (G17 : BufTy.Contents (Elt F) arg17.view.ty) (G18 : BufTy.Contents (Elt F) arg18.view.ty) (G19 : BufTy.Contents (Elt F) arg19.view.ty) (G20 : BufTy.Contents (Elt F) arg20.view.ty) :
    arg18.view.read (Elt F) (arg18.view.writes (Elt F) G18 (tripL_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 v215 X3 X6 X7 X8 X16 k G17 G18 G19 G20).2.1)
      = dvTrip i v16 (arg3.view.read (Elt F) X3) (arg6.view.read (Elt F) X6) (arg7.view.read (Elt F) X7) (arg8.view.read (Elt F) X8) k (arg18.view.read (Elt F) G18) := by
  unfold tripL_k0_t4 trip_k0_t4
  dsimp only
  sl_unfold_run_names
  simp only [readAt_win, read_put, View.writes_nil]
  rfl

theorem pb4_read (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (v215 : BitVec 32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (n : ℕ) :
    arg18.view.read (Elt F) (arg18.view.writes (Elt F) G18 (pb_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 v215 X3 X6 X7 X8 X16 G17 G18 G19 G20 n).2.1)
      = dvIter i v16 (arg3.view.read (Elt F) X3) (arg6.view.read (Elt F) X6) (arg7.view.read (Elt F) X7) (arg8.view.read (Elt F) X8) (arg18.view.read (Elt F) G18) n := by
  induction n with
  | zero => rfl
  | succ n ih =>
    rw [pb_k0_t4.eq_2]; unfold pb_k0_t4Step
    by_cases h : n < (k0_t4_loop i).trips
    · rw [dif_pos h]
      dsimp only
      rw [View.writes_append, dvIter.eq_2, dif_pos h, ← ih]
      exact t4_read 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 v215 X3 X6 X7 X8 X16 ⟨n, h⟩ _ _ _ _
    · rw [dif_neg h, dvIter.eq_2, dif_neg h, ih]

theorem t5_trips (i : grid0.Coords) : (k0_t5_loop i).trips = 0 := by
  have h : ∀ b : Fin 4, (Scf.Loop.trips ⟨Scalar.addi (Scalar.addi (BitVec.ofNat 32 b.val) 1#32) (Scalar.muli (Scalar.divsi (Scalar.subi 4#32 (Scalar.addi (BitVec.ofNat 32 b.val) 1#32)) 1#32) 1#32), Scalar.addi (Scalar.addi (BitVec.ofNat 32 b.val) 1#32) (Scalar.subi 4#32 (Scalar.addi (BitVec.ofNat 32 b.val) 1#32)), 1#32⟩) = 0 := by decide
  exact h (i 2)

theorem s18_aux (𝒱 : Variants) (c : Dev nD) (bd : Option 𝒱.V) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (v215 : BitVec 32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (L : List (View.Piece (Elt F) S2x512x128 .f32))
    (H17 : BufTy.Contents (Elt F) arg17.view.ty) (H18 : BufTy.Contents (Elt F) arg18.view.ty) (H19 : BufTy.Contents (Elt F) arg19.view.ty) (H20 : BufTy.Contents (Elt F) arg20.view.ty) (w220 : BitVec 32) (n : ℕ) (n5 : ℕ) (h5 : n5 = 0) :
    arg18.view.read (Elt F) (arg18.view.writes (Elt F) G18
      ((pb_k0_t5 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 w220 X3 X6 X7 X8 X16 H17 H18 H19 H20 n5).2.1
        ++ ((pb_k0_t4 (F := F) 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 v215 X3 X6 X7 X8 X16 G17 (arg18.view.writes (Elt F) G18 L) G19 G20 n).2.1 ++ L)))
      = dvIter i v16 (arg3.view.read (Elt F) X3) (arg6.view.read (Elt F) X6) (arg7.view.read (Elt F) X7) (arg8.view.read (Elt F) X8) (arg18.view.read (Elt F) (arg18.view.writes (Elt F) G18 L)) n := by
  subst h5
  rw [pb_k0_t5.eq_1]
  dsimp only
  rw [List.nil_append, View.writes_append]
  exact pb4_read 𝒱 c bd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 v215 X3 X6 X7 X8 X16 _ _ _ _ _

variable (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole)
  (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole)
  (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole)
  (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole)
  (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole)
  (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole)

theorem s13A_dv (hc1 : k0_cond1 i = 1#1)  (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X9 : BufTy.Contents (Elt F) arg9.view.ty) (X10 : BufTy.Contents (Elt F) arg10.view.ty) (X11 : BufTy.Contents (Elt F) arg11.view.ty) (X20 : BufTy.Contents (Elt F) arg20.view.ty) (G16 : BufTy.Contents (Elt F) arg16.view.ty) (G17 : BufTy.Contents (Elt F) arg17.view.ty) (G18 : BufTy.Contents (Elt F) arg18.view.ty) (G19 : BufTy.Contents (Elt F) arg19.view.ty) (R2 : BitVec 32) (R_v0 : BitVec 32) (R_v6 : IVec S1x128 1) (R_v12 : IVec S1x128 1) (R_v16 : Vec F S512x128 .bf16) (R_v17 : Vec F S512x128 .bf16) (R_v20 : FVec F S128x512 .bf16) (R_v29 : FVec F S2x512x128 .f32) (R_vlast : Vec F S2x512x128 .f32) (C16 : BufTy.Contents (Elt F) arg16.view.ty) (C17 : BufTy.Contents (Elt F) arg17.view.ty) (C18 : BufTy.Contents (Elt F) arg18.view.ty) (C19 : BufTy.Contents (Elt F) arg19.view.ty)
    (h : S13A (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 X3 X4 X5 X6 X7 X9 X10 X11 X20 G16 G17 G18 G19 R2 R_v0 R_v6 R_v12 R_v16 R_v17 R_v20 R_v29 R_vlast C16 C17 C18 C19) :
    R2 = BitVec.ofNat 32 (i 2).val ∧
    R_v0 = Scalar.muli (BitVec.ofNat 32 (i 2).val) 512#32 ∧
    R_v6 = k0_pay45 ∧
    R_v16 = (VecWindow.window (arg4.view.read (Elt F) X4) ![0, 0] S512x128.size inb_S512x128_S512x128_0_0) ∧
    arg18.view.read (Elt F) C18 = k0_pay52 (F := F) := by
  unfold S13A s13A at h
  dsimp only at h
  obtain ⟨hR_arg2, hR_v0, hR_v6, hR_v12, hR_v16, hR_v17, hR_v20, hR_v29, hR_vlast, hC_arg16, hC_arg17, hC_arg18, hC_arg19⟩ : _ ∧ _ ∧ _ ∧ _ ∧ _ ∧ _ ∧ _ ∧ _ ∧ _ ∧ _ ∧ _ ∧ _ ∧ _ := by simpa only [Prod.mk.injEq] using h
  subst hR_arg2 hR_v0 hR_v6 hR_v12 hR_v16 hR_v17 hR_v20 hR_v29 hR_vlast hC_arg16 hC_arg17 hC_arg18 hC_arg19
  refine ⟨rfl, rfl, rfl, rfl, ?_⟩
  exact View.read_writes_full _ _ _ _ _

theorem s13B_dv (hc1 : ¬ k0_cond1 i = 1#1)  (X4 : BufTy.Contents (Elt F) arg4.view.ty) (X5 : BufTy.Contents (Elt F) arg5.view.ty) (X20 : BufTy.Contents (Elt F) arg20.view.ty) (G17 : BufTy.Contents (Elt F) arg17.view.ty) (G18 : BufTy.Contents (Elt F) arg18.view.ty) (R2 : BitVec 32) (R_v0 : BitVec 32) (R_v6 : IVec S1x128 1) (R_v12 : IVec S1x128 1) (R_v16 : Vec F S512x128 .bf16) (R_v17 : Vec F S512x128 .bf16) (R_v20 : FVec F S128x512 .bf16) (R_v29 : FVec F S2x512x128 .f32) (R_vlast : Vec F S2x512x128 .f32) (C17 : BufTy.Contents (Elt F) arg17.view.ty) (C18 : BufTy.Contents (Elt F) arg18.view.ty)
    (h : S13B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 X4 X5 X20 G17 G18 R2 R_v0 R_v6 R_v12 R_v16 R_v17 R_v20 R_v29 R_vlast C17 C18) :
    R2 = BitVec.ofNat 32 (i 2).val ∧
    R_v0 = Scalar.muli (BitVec.ofNat 32 (i 2).val) 512#32 ∧
    R_v6 = k0_pay45 ∧
    R_v16 = (VecWindow.window (arg4.view.read (Elt F) X4) ![0, 0] S512x128.size inb_S512x128_S512x128_0_0) ∧
    arg18.view.read (Elt F) C18 = k0_pay52 (F := F) := by
  unfold S13B s13B at h
  dsimp only at h
  obtain ⟨hR_arg2, hR_v0, hR_v6, hR_v12, hR_v16, hR_v17, hR_v20, hR_v29, hR_vlast, hC_arg17, hC_arg18⟩ : _ ∧ _ ∧ _ ∧ _ ∧ _ ∧ _ ∧ _ ∧ _ ∧ _ ∧ _ ∧ _ := by simpa only [Prod.mk.injEq] using h
  subst hR_arg2 hR_v0 hR_v6 hR_v12 hR_v16 hR_v17 hR_v20 hR_v29 hR_vlast hC_arg17 hC_arg18
  refine ⟨rfl, rfl, rfl, rfl, ?_⟩
  exact View.read_writes_full _ _ _ _ _

theorem s14_dv  (arg2 : BitVec 32) (v0 : BitVec 32) (v16 : Vec F S512x128 .bf16) (v29 : FVec F S2x512x128 .f32) (v30 : Vec F S2x512x128 .f32) (X3 : BufTy.Contents (Elt F) arg3.view.ty) (X6 : BufTy.Contents (Elt F) arg6.view.ty) (X7 : BufTy.Contents (Elt F) arg7.view.ty) (X8 : BufTy.Contents (Elt F) arg8.view.ty) (G20 : BufTy.Contents (Elt F) arg20.view.ty) (R_v36 : Vec F S512x128 .bf16) (R_v38 : Vec F S512x128 .bf16) (R_vlast : FVec F S512x512 .f32) (C20 : BufTy.Contents (Elt F) arg20.view.ty)
    (h : S14 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v0 v16 v29 v30 X3 X6 X7 X8 G20 R_v36 R_v38 R_vlast C20) :
    R_v36 = (VecWindow.window (arg3.view.read (Elt F) X3) (k0_off12 i) S512x128.size (k0_off12_inb i)) ∧
    R_v38 = (VecWindow.window (arg7.view.read (Elt F) X7) (k0_off12 i) S512x128.size (k0_off12_inb i)) ∧
    R_vlast = k0_pay55 arg2 v0 v16 (VecWindow.window (arg3.view.read (Elt F) X3) (k0_off12 i) S512x128.size (k0_off12_inb i)) (VecWindow.window (arg8.view.read (Elt F) X8) ![0, 0] S512x256.size inb_S512x256_S512x256_0_0) (VecWindow.window (arg6.view.read (Elt F) X6) (k0_off13 i) S1x1x1x2x512.size (k0_off13_inb i)) := by
  unfold S14 s14 at h
  dsimp only at h
  obtain ⟨hR_v36, hR_v38, hR_vlast, hC_arg20⟩ : _ ∧ _ ∧ _ ∧ _ := by simpa only [Prod.mk.injEq] using h
  subst hR_v36 hR_v38 hR_vlast hC_arg20
  exact ⟨rfl, rfl, rfl⟩

theorem s15_dv  (arg2 : BitVec 32) (v6 : IVec S1x128 1) (v17 : Vec F S512x128 .bf16) (v38 : Vec F S512x128 .bf16) (v73 : FVec F S512x512 .f32) (X16 : BufTy.Contents (Elt F) arg16.view.ty) (X17 : BufTy.Contents (Elt F) arg17.view.ty) (G18 : BufTy.Contents (Elt F) arg18.view.ty) (G20 : BufTy.Contents (Elt F) arg20.view.ty) (R_v101 : FVec F S512x512 .bf16) (R_vlast : Vec F S1x512x128 .f32) (C18 : BufTy.Contents (Elt F) arg18.view.ty) (C20 : BufTy.Contents (Elt F) arg20.view.ty)
    (h : S15 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v17 v38 v73 X16 X17 G18 G20 R_v101 R_vlast C18 C20) :
    arg18.view.read (Elt F) C18 = (VecWindow.put (arg18.view.read (Elt F) G18) ![0, 0, 0] S1x512x128.size (k0_pay59 v38 v73 (VecWindow.window (arg18.view.read (Elt F) G18) ![0, 0, 0] S1x512x128.size inb_S2x512x128_S1x512x128_0_0_0))) := by
  unfold S15 s15 at h
  dsimp only at h
  obtain ⟨hR_v101, hR_vlast, hC_arg18, hC_arg20⟩ : _ ∧ _ ∧ _ ∧ _ := by simpa only [Prod.mk.injEq] using h
  subst hR_v101 hR_vlast hC_arg18 hC_arg20
  simp only [readAt_win, read_put, View.writes_nil]

theorem s16_dv  (arg2 : BitVec 32) (v0 : BitVec 32) (v16 : Vec F S512x128 .bf16) (v20 : FVec F S128x512 .bf16) (v36 : Vec F S512x128 .bf16) (v101 : FVec F S512x512 .bf16) (v110 : Vec F S1x512x128 .f32) (X8 : BufTy.Contents (Elt F) arg8.view.ty) (G17 : BufTy.Contents (Elt F) arg17.view.ty) (G19 : BufTy.Contents (Elt F) arg19.view.ty) (R_v145 : FVec F S512x512 .f32) (R_v148 : IVec S512x512 32) (R_vlast : IVec S512x512 32) (C17 : BufTy.Contents (Elt F) arg17.view.ty) (C19 : BufTy.Contents (Elt F) arg19.view.ty)
    (h : S16 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v0 v16 v20 v36 v101 v110 X8 G17 G19 R_v145 R_v148 R_vlast C17 C19) :
    R_v145 = k0_pay62 v16 v36 (VecWindow.window (arg8.view.read (Elt F) X8) ![0, 0] S512x256.size inb_S512x256_S512x256_0_0) ∧
    R_v148 = k0_pay63 v0 ∧
    R_vlast = k0_pay64 arg2 := by
  unfold S16 s16 at h
  dsimp only at h
  obtain ⟨hR_v145, hR_v148, hR_vlast, hC_arg17, hC_arg19⟩ : _ ∧ _ ∧ _ ∧ _ ∧ _ := by simpa only [Prod.mk.injEq] using h
  subst hR_v145 hR_v148 hR_vlast hC_arg17 hC_arg19
  exact ⟨rfl, rfl, rfl⟩

theorem s17_dv  (arg2 : BitVec 32) (v12 : IVec S1x128 1) (v17 : Vec F S512x128 .bf16) (v38 : Vec F S512x128 .bf16) (v145 : FVec F S512x512 .f32) (v148 : IVec S512x512 32) (v151 : IVec S512x512 32) (X6 : BufTy.Contents (Elt F) arg6.view.ty) (X16 : BufTy.Contents (Elt F) arg16.view.ty) (X18 : BufTy.Contents (Elt F) arg18.view.ty) (G20 : BufTy.Contents (Elt F) arg20.view.ty) (R_v161 : FVec F S512x512 .f32) (R_v189 : FVec F S512x512 .bf16) (R_vlast : FVec F S512x128 .f32) (C20 : BufTy.Contents (Elt F) arg20.view.ty)
    (h : S17 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v12 v17 v38 v145 v148 v151 X6 X16 X18 G20 R_v161 R_v189 R_vlast C20) :
    R_v161 = k0_pay65 v145 v148 v151 (VecWindow.window (arg6.view.read (Elt F) X6) (k0_off13 i) S1x1x1x2x512.size (k0_off13_inb i)) ∧
    R_vlast = k0_pay69 (VecWindow.window (arg18.view.read (Elt F) X18) ![1, 0, 0] S1x512x128.size inb_S2x512x128_S1x512x128_1_0_0) := by
  unfold S17 s17 at h
  dsimp only at h
  obtain ⟨hR_v161, hR_v189, hR_vlast, hC_arg20⟩ : _ ∧ _ ∧ _ ∧ _ := by simpa only [Prod.mk.injEq] using h
  subst hR_v161 hR_v189 hR_vlast hC_arg20
  exact ⟨rfl, rfl⟩

theorem s18_dv  (arg2 : BitVec 32) (v6 : IVec S1x128 1) (v12 : IVec S1x128 1) (v16 : Vec F S512x128 .bf16) (v17 : Vec F S512x128 .bf16) (v20 : FVec F S128x512 .bf16) (v36 : Vec F S512x128 .bf16) (v38 : Vec F S512x128 .bf16) (v161 : FVec F S512x512 .f32) (v189 : FVec F S512x512 .bf16) (v191 : FVec F S512x128 .f32) (X3 : BufTy.Contents (Elt F) arg3.view.ty) (X6 : BufTy.Contents (Elt F) arg6.view.ty) (X7 : BufTy.Contents (Elt F) arg7.view.ty) (X8 : BufTy.Contents (Elt F) arg8.view.ty) (X16 : BufTy.Contents (Elt F) arg16.view.ty) (G17 : BufTy.Contents (Elt F) arg17.view.ty) (G18 : BufTy.Contents (Elt F) arg18.view.ty) (G19 : BufTy.Contents (Elt F) arg19.view.ty) (G20 : BufTy.Contents (Elt F) arg20.view.ty) (R_v222 : BitVec 32) (R_vlast : BitVec 32) (C17 : BufTy.Contents (Elt F) arg17.view.ty) (C18 : BufTy.Contents (Elt F) arg18.view.ty) (C19 : BufTy.Contents (Elt F) arg19.view.ty) (C20 : BufTy.Contents (Elt F) arg20.view.ty)
    (h : S18 (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg2 v6 v12 v16 v17 v20 v36 v38 v161 v189 v191 X3 X6 X7 X8 X16 G17 G18 G19 G20 R_v222 R_vlast C17 C18 C19 C20) :
    arg18.view.read (Elt F) C18 = dvIter i v16 (arg3.view.read (Elt F) X3) (arg6.view.read (Elt F) X6) (arg7.view.read (Elt F) X7) (arg8.view.read (Elt F) X8) (VecWindow.put (arg18.view.read (Elt F) G18) ![1, 0, 0] S1x512x128.size (k0_pay70 v38 v161 v191)) (k0_t4_loop i).trips := by
  unfold S18 s18 at h
  dsimp only at h
  obtain ⟨hR_v222, hR_vlast, hC_arg17, hC_arg18, hC_arg19, hC_arg20⟩ : _ ∧ _ ∧ _ ∧ _ ∧ _ ∧ _ := by simpa only [Prod.mk.injEq] using h
  subst hR_v222 hR_vlast hC_arg17 hC_arg18 hC_arg19 hC_arg20
  refine (s18_aux (F := F) _ c _ i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ _ _ _ (t5_trips i)).trans ?_
  exact congrArg (fun D => dvIter i v16 (arg3.view.read (Elt F) X3) (arg6.view.read (Elt F) X6) (arg7.view.read (Elt F) X7) (arg8.view.read (Elt F) X8) D (k0_t4_loop i).trips) (read_put (F := F) arg18.view G18 ![1, 0, 0] S1x512x128.size inb_S2x512x128_S1x512x128_1_0_0 (k0_pay70 v38 v161 v191) [])

theorem s19B_dv (hc2 : ¬ k0_cond2 i = 1#1) (v6 : IVec S1x128 1) (v222 : BitVec 32) (c0_i32_108 : BitVec 32) (X17 : BufTy.Contents (Elt F) arg17.view.ty) (X18 : BufTy.Contents (Elt F) arg18.view.ty) (X20 : BufTy.Contents (Elt F) arg20.view.ty) (G13 : BufTy.Contents (Elt F) arg13.view.ty) (G14 : BufTy.Contents (Elt F) arg14.view.ty) (R_v248 : IVec S1x128 32) (R_v252 : FVec F S512x1 .f32) (R_vlast : FVec F S512x128 .f32) (C13 : BufTy.Contents (Elt F) arg13.view.ty) (C14 : BufTy.Contents (Elt F) arg14.view.ty)
    (h : S19B (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X20 G13 G14 R_v248 R_v252 R_vlast C13 C14) :
    arg14.view.read (Elt F) C14 = k0_pay78 v6 (VecWindow.window (arg18.view.read (Elt F) X18) ![0, 0, 0] S1x512x128.size inb_S2x512x128_S1x512x128_0_0_0) (VecWindow.window (arg18.view.read (Elt F) X18) ![1, 0, 0] S1x512x128.size inb_S2x512x128_S1x512x128_1_0_0) := by
  unfold S19B s19B at h
  dsimp only at h
  obtain ⟨hR_v248, hR_v252, hR_vlast, hC_arg13, hC_arg14⟩ : _ ∧ _ ∧ _ ∧ _ ∧ _ := by simpa only [Prod.mk.injEq] using h
  subst hR_v248 hR_v252 hR_vlast hC_arg13 hC_arg14
  exact View.read_writes_full _ _ _ _ _

theorem s19C_dv (hc2 : k0_cond2 i = 1#1) (v6 : IVec S1x128 1) (v222 : BitVec 32) (c0_i32_108 : BitVec 32) (X17 : BufTy.Contents (Elt F) arg17.view.ty) (X18 : BufTy.Contents (Elt F) arg18.view.ty) (X19 : BufTy.Contents (Elt F) arg19.view.ty) (X20 : BufTy.Contents (Elt F) arg20.view.ty) (G12 : BufTy.Contents (Elt F) arg12.view.ty) (G13 : BufTy.Contents (Elt F) arg13.view.ty) (G14 : BufTy.Contents (Elt F) arg14.view.ty) (R_v248 : IVec S1x128 32) (R_v252 : FVec F S512x1 .f32) (R_vlast : FVec F S512x128 .f32) (C12 : BufTy.Contents (Elt F) arg12.view.ty) (C13 : BufTy.Contents (Elt F) arg13.view.ty) (C14 : BufTy.Contents (Elt F) arg14.view.ty)
    (h : S19C (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc2 v6 v222 c0_i32_108 X17 X18 X19 X20 G12 G13 G14 R_v248 R_v252 R_vlast C12 C13 C14) :
    arg14.view.read (Elt F) C14 = k0_pay78 v6 (VecWindow.window (arg18.view.read (Elt F) X18) ![0, 0, 0] S1x512x128.size inb_S2x512x128_S1x512x128_0_0_0) (VecWindow.window (arg18.view.read (Elt F) X18) ![1, 0, 0] S1x512x128.size inb_S2x512x128_S1x512x128_1_0_0) := by
  unfold S19C s19C at h
  dsimp only at h
  obtain ⟨hR_v248, hR_v252, hR_vlast, hC_arg12, hC_arg13, hC_arg14⟩ : _ ∧ _ ∧ _ ∧ _ ∧ _ ∧ _ := by simpa only [Prod.mk.injEq] using h
  subst hR_v248 hR_v252 hR_vlast hC_arg12 hC_arg13 hC_arg14
  exact View.read_writes_full _ _ _ _ _

end Cert.Proof.KernelIdeal

end
-- ==== Proof.FoxDv.lean ====
/- A whole body leaves the value-gradient block `dvOut` of the blocks it reads. -/
module

public import proofs.«01_k».proof.Proof.FoxDvStage

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

theorem relA_dv (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (hc1 : k0_cond1 i = 1#1) (hc2 : ¬ k0_cond2 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (C_arg13 : BufTy.Contents (Elt F) arg13.view.ty) (C_arg14 : BufTy.Contents (Elt F) arg14.view.ty) (C_arg15 : BufTy.Contents (Elt F) arg15.view.ty) (C_arg16 : BufTy.Contents (Elt F) arg16.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty)
    (h : RelA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 X_arg3 X_arg4 X_arg5 X_arg6 X_arg7 X_arg8 X_arg9 X_arg10 X_arg11 G_arg12 G_arg13 G_arg14 G_arg15 G_arg16 G_arg17 G_arg18 G_arg19 G_arg20 C_arg13 C_arg14 C_arg15 C_arg16 C_arg17 C_arg18 C_arg19 C_arg20) :
    arg14.view.read (Elt F) C_arg14 = dvOut i (arg3.view.read (Elt F) X_arg3) (arg4.view.read (Elt F) X_arg4) (arg6.view.read (Elt F) X_arg6) (arg7.view.read (Elt F) X_arg7) (arg8.view.read (Elt F) X_arg8) := by
  obtain ⟨R_arg213, R_v013, R_v613, R_v1213, R_v1613, R_v1713, R_v2013, R_v2913, R_vlast13, C_arg1613, C_arg1713, C_arg1813, C_arg1913, R_v3614, R_v3814, R_vlast14, C_arg2014, R_v10115, R_vlast15, C_arg1815, C_arg2015, R_v14516, R_v14816, R_vlast16, C_arg1716, C_arg1916, R_v16117, R_v18917, R_vlast17, C_arg2017, R_v22218, R_vlast18, C_arg1718, C_arg1818, C_arg1918, C_arg2018, R_v24819, R_v25219, R_vlast19, C_arg1319, C_arg1419, hS13, hS14, hS15, hS16, hS17, hS18, hS19, e_arg13, e_arg14, e_arg15, e_arg16, e_arg17, e_arg18, e_arg19, e_arg20⟩ := h
  obtain ⟨h1, h2, h3, h4, k13⟩ := s13A_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ _ hS13
  subst h1 h2 h3 h4
  obtain ⟨h5, h6, h7⟩ := s14_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ hS14
  subst h5 h6 h7
  have k15 := s15_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ hS15
  obtain ⟨h8, h9, h10⟩ := s16_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ hS16
  subst h8 h9 h10
  obtain ⟨h11, h12⟩ := s17_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ hS17
  subst h11 h12
  have k18 := s18_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ hS18
  have k19 := s19B_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ hS19
  rw [e_arg14, k19, k18, k15, k13]
  rfl

theorem relB_dv (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (hc1 : ¬ k0_cond1 i = 1#1) (hc2 : ¬ k0_cond2 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (C_arg13 : BufTy.Contents (Elt F) arg13.view.ty) (C_arg14 : BufTy.Contents (Elt F) arg14.view.ty) (C_arg15 : BufTy.Contents (Elt F) arg15.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty)
    (h : RelB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 X_arg3 X_arg4 X_arg5 X_arg6 X_arg7 X_arg8 X_arg9 X_arg10 X_arg11 G_arg12 G_arg13 G_arg14 G_arg15 G_arg16 G_arg17 G_arg18 G_arg19 G_arg20 C_arg13 C_arg14 C_arg15 C_arg17 C_arg18 C_arg19 C_arg20) :
    arg14.view.read (Elt F) C_arg14 = dvOut i (arg3.view.read (Elt F) X_arg3) (arg4.view.read (Elt F) X_arg4) (arg6.view.read (Elt F) X_arg6) (arg7.view.read (Elt F) X_arg7) (arg8.view.read (Elt F) X_arg8) := by
  obtain ⟨R_arg213, R_v013, R_v613, R_v1213, R_v1613, R_v1713, R_v2013, R_v2913, R_vlast13, C_arg1713, C_arg1813, R_v3614, R_v3814, R_vlast14, C_arg2014, R_v10115, R_vlast15, C_arg1815, C_arg2015, R_v14516, R_v14816, R_vlast16, C_arg1716, C_arg1916, R_v16117, R_v18917, R_vlast17, C_arg2017, R_v22218, R_vlast18, C_arg1718, C_arg1818, C_arg1918, C_arg2018, R_v24819, R_v25219, R_vlast19, C_arg1319, C_arg1419, hS13, hS14, hS15, hS16, hS17, hS18, hS19, e_arg13, e_arg14, e_arg15, e_arg17, e_arg18, e_arg19, e_arg20⟩ := h
  obtain ⟨h1, h2, h3, h4, k13⟩ := s13B_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ hS13
  subst h1 h2 h3 h4
  obtain ⟨h5, h6, h7⟩ := s14_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ hS14
  subst h5 h6 h7
  have k15 := s15_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ hS15
  obtain ⟨h8, h9, h10⟩ := s16_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ hS16
  subst h8 h9 h10
  obtain ⟨h11, h12⟩ := s17_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ hS17
  subst h11 h12
  have k18 := s18_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ hS18
  have k19 := s19B_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ hS19
  rw [e_arg14, k19, k18, k15, k13]
  rfl

theorem relC_dv (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (hc1 : ¬ k0_cond1 i = 1#1) (hc2 : k0_cond2 i = 1#1) (X_arg3 : BufTy.Contents (Elt F) arg3.view.ty) (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty) (X_arg9 : BufTy.Contents (Elt F) arg9.view.ty) (X_arg10 : BufTy.Contents (Elt F) arg10.view.ty) (X_arg11 : BufTy.Contents (Elt F) arg11.view.ty) (G_arg12 : BufTy.Contents (Elt F) arg12.view.ty) (G_arg13 : BufTy.Contents (Elt F) arg13.view.ty) (G_arg14 : BufTy.Contents (Elt F) arg14.view.ty) (G_arg15 : BufTy.Contents (Elt F) arg15.view.ty) (G_arg16 : BufTy.Contents (Elt F) arg16.view.ty) (G_arg17 : BufTy.Contents (Elt F) arg17.view.ty) (G_arg18 : BufTy.Contents (Elt F) arg18.view.ty) (G_arg19 : BufTy.Contents (Elt F) arg19.view.ty) (G_arg20 : BufTy.Contents (Elt F) arg20.view.ty) (C_arg12 : BufTy.Contents (Elt F) arg12.view.ty) (C_arg13 : BufTy.Contents (Elt F) arg13.view.ty) (C_arg14 : BufTy.Contents (Elt F) arg14.view.ty) (C_arg15 : BufTy.Contents (Elt F) arg15.view.ty) (C_arg17 : BufTy.Contents (Elt F) arg17.view.ty) (C_arg18 : BufTy.Contents (Elt F) arg18.view.ty) (C_arg19 : BufTy.Contents (Elt F) arg19.view.ty) (C_arg20 : BufTy.Contents (Elt F) arg20.view.ty)
    (h : RelC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 X_arg3 X_arg4 X_arg5 X_arg6 X_arg7 X_arg8 X_arg9 X_arg10 X_arg11 G_arg12 G_arg13 G_arg14 G_arg15 G_arg16 G_arg17 G_arg18 G_arg19 G_arg20 C_arg12 C_arg13 C_arg14 C_arg15 C_arg17 C_arg18 C_arg19 C_arg20) :
    arg14.view.read (Elt F) C_arg14 = dvOut i (arg3.view.read (Elt F) X_arg3) (arg4.view.read (Elt F) X_arg4) (arg6.view.read (Elt F) X_arg6) (arg7.view.read (Elt F) X_arg7) (arg8.view.read (Elt F) X_arg8) := by
  obtain ⟨R_arg213, R_v013, R_v613, R_v1213, R_v1613, R_v1713, R_v2013, R_v2913, R_vlast13, C_arg1713, C_arg1813, R_v3614, R_v3814, R_vlast14, C_arg2014, R_v10115, R_vlast15, C_arg1815, C_arg2015, R_v14516, R_v14816, R_vlast16, C_arg1716, C_arg1916, R_v16117, R_v18917, R_vlast17, C_arg2017, R_v22218, R_vlast18, C_arg1718, C_arg1818, C_arg1918, C_arg2018, R_v24819, R_v25219, R_vlast19, C_arg1219, C_arg1319, C_arg1419, hS13, hS14, hS15, hS16, hS17, hS18, hS19, e_arg12, e_arg13, e_arg14, e_arg15, e_arg17, e_arg18, e_arg19, e_arg20⟩ := h
  obtain ⟨h1, h2, h3, h4, k13⟩ := s13B_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ hS13
  subst h1 h2 h3 h4
  obtain ⟨h5, h6, h7⟩ := s14_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ hS14
  subst h5 h6 h7
  have k15 := s15_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ hS15
  obtain ⟨h8, h9, h10⟩ := s16_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ hS16
  subst h8 h9 h10
  obtain ⟨h11, h12⟩ := s17_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ hS17
  subst h11 h12
  have k18 := s18_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ hS18
  have k19 := s19C_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ hS19
  rw [e_arg14, k19, k18, k15, k13]
  rfl

end Cert.Proof.KernelIdeal

end
-- ==== Proof.FoxFrame.lean ====
/- The frame: every execution ends, the argument arrays unchanged and the counters at zero, at any values of the floats. -/
module

public import proofs.«01_k».proof.Proof.FoxDv
public import proofs.«01_k».proof.Proof.Gen.KernelIdeal.Frame
public import Idealize.ShloMosaic.Lib.Claim

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Cfg Window BodyObligation cellOf)

local notation "𝕄G" => MT nD τ sig Unit (Elt F) ℕ (UR sig nD τ) ℕ

/-- The body on owned memrefs: it gives the inputs back as they were and the others at some contents. -/
theorem body_any (c : Dev nD) (i : grid0.Coords) (arg3 : Memref sig .tc .vmem S2048x128 .bf16) (harg3 : arg3.IsWhole) (arg4 : Memref sig .tc .vmem S512x128 .bf16) (harg4 : arg4.IsWhole) (arg5 : Memref sig .tc .vmem S512x128 .bf16) (harg5 : arg5.IsWhole) (arg6 : Memref sig .tc .vmem S1x1x4x2x512 .f32) (harg6 : arg6.IsWhole) (arg7 : Memref sig .tc .vmem S2048x128 .bf16) (harg7 : arg7.IsWhole) (arg8 : Memref sig .tc .vmem S512x256 .f32) (harg8 : arg8.IsWhole) (arg9 : Memref sig .tc .vmem S2048x128 .bf16) (harg9 : arg9.IsWhole) (arg10 : Memref sig .tc .vmem S2048x128 .bf16) (harg10 : arg10.IsWhole) (arg11 : Memref sig .tc .vmem S2048x256 .f32) (harg11 : arg11.IsWhole) (arg12 : Memref sig .tc .vmem S2048x128 .f32) (harg12 : arg12.IsWhole) (arg13 : Memref sig .tc .vmem S512x128 .bf16) (harg13 : arg13.IsWhole) (arg14 : Memref sig .tc .vmem S512x128 .bf16) (harg14 : arg14.IsWhole) (arg15 : Memref sig .tc .vmem S512x128 .f32) (harg15 : arg15.IsWhole) (arg16 : Memref sig .tc .vmem S4x2x512 .f32) (harg16 : arg16.IsWhole) (arg17 : Memref sig .tc .vmem S2x512x128 .f32) (harg17 : arg17.IsWhole) (arg18 : Memref sig .tc .vmem S2x512x128 .f32) (harg18 : arg18.IsWhole) (arg19 : Memref sig .tc .vmem S4x128x512 .f32) (harg19 : arg19.IsWhole) (arg20 : Memref sig .tc .vmem S2x512x128 .f32) (harg20 : arg20.IsWhole) (hx : ¬(k0_cond1 i = 1#1 ∧ k0_cond2 i = 1#1)) (x_arg3 : Vec F S2048x128 .bf16) (x_arg4 : Vec F S512x128 .bf16) (x_arg5 : Vec F S512x128 .bf16) (x_arg6 : Vec F S1x1x4x2x512 .f32) (x_arg7 : Vec F S2048x128 .bf16) (x_arg8 : Vec F S512x256 .f32) (x_arg9 : Vec F S2048x128 .bf16) (x_arg10 : Vec F S2048x128 .bf16) (x_arg11 : Vec F S2048x256 .f32) (E : Set ℕ) :
    (iprop(owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) : sProp 𝕄G)
      ⊢ wp frame (wpE (defs₀ (F := F)) Variants.none (c : Thread nD τ) none) E (cc0_fox_bwd (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20)
          (fun _ => iprop(owns (c : Thread nD τ) arg3 fullShare x_arg3 ∗ owns (c : Thread nD τ) arg4 fullShare x_arg4 ∗ owns (c : Thread nD τ) arg5 fullShare x_arg5 ∗ owns (c : Thread nD τ) arg6 fullShare x_arg6 ∗ owns (c : Thread nD τ) arg7 fullShare x_arg7 ∗ owns (c : Thread nD τ) arg8 fullShare x_arg8 ∗ owns (c : Thread nD τ) arg9 fullShare x_arg9 ∗ owns (c : Thread nD τ) arg10 fullShare x_arg10 ∗ owns (c : Thread nD τ) arg11 fullShare x_arg11 ∗ (∃ d, owns (c : Thread nD τ) arg12 fullShare d) ∗ (∃ d, owns (c : Thread nD τ) arg13 fullShare d) ∗ owns (c : Thread nD τ) arg14 fullShare (dvOut i x_arg3 x_arg4 x_arg6 x_arg7 x_arg8) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d))) := by
  unfold owns
  iintro ⟨⟨%f_arg3, %h_arg3, H3⟩, ⟨%f_arg4, %h_arg4, H4⟩, ⟨%f_arg5, %h_arg5, H5⟩, ⟨%f_arg6, %h_arg6, H6⟩, ⟨%f_arg7, %h_arg7, H7⟩, ⟨%f_arg8, %h_arg8, H8⟩, ⟨%f_arg9, %h_arg9, H9⟩, ⟨%f_arg10, %h_arg10, H10⟩, ⟨%f_arg11, %h_arg11, H11⟩, ⟨%d_arg12, %f_arg12, %h_arg12, H12⟩, ⟨%d_arg13, %f_arg13, %h_arg13, H13⟩, ⟨%d_arg14, %f_arg14, %h_arg14, H14⟩, ⟨%d_arg15, %f_arg15, %h_arg15, H15⟩, ⟨%d_arg16, %f_arg16, %h_arg16, H16⟩, ⟨%d_arg17, %f_arg17, %h_arg17, H17⟩, ⟨%d_arg18, %f_arg18, %h_arg18, H18⟩, ⟨%d_arg19, %f_arg19, %h_arg19, H19⟩, ⟨%d_arg20, %f_arg20, %h_arg20, H20⟩⟩
  by_cases hc1 : k0_cond1 i = 1#1
  · have hc2 : ¬ k0_cond2 i = 1#1 := fun h => hx ⟨hc1, h⟩
    iapply (wp_wand_r Idealize.ShloMosaic.frame (wpE (defs₀ (F := F)) Variants.none (c : Thread nD τ) none) E)
    isplitl [H3 H4 H5 H6 H7 H8 H9 H10 H11 H12 H13 H14 H15 H16 H17 H18 H19 H20]
    · iapply (runA (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 f_arg3 f_arg4 f_arg5 f_arg6 f_arg7 f_arg8 f_arg9 f_arg10 f_arg11 f_arg12 f_arg13 f_arg14 f_arg15 f_arg16 f_arg17 f_arg18 f_arg19 f_arg20 E)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      iexact H20
    iintro %u ⟨%C13, %C14, %C15, %C16, %C17, %C18, %C19, %C20, %hR, H3, H4, H5, H6, H7, H8, H9, H10, H11, H12, H13, H14, H15, H16, H17, H18, H19, H20⟩
    isplitl [H3]
    · iexists _; isplitr; · ipureintro; exact h_arg3
      iexact H3
    isplitl [H4]
    · iexists _; isplitr; · ipureintro; exact h_arg4
      iexact H4
    isplitl [H5]
    · iexists _; isplitr; · ipureintro; exact h_arg5
      iexact H5
    isplitl [H6]
    · iexists _; isplitr; · ipureintro; exact h_arg6
      iexact H6
    isplitl [H7]
    · iexists _; isplitr; · ipureintro; exact h_arg7
      iexact H7
    isplitl [H8]
    · iexists _; isplitr; · ipureintro; exact h_arg8
      iexact H8
    isplitl [H9]
    · iexists _; isplitr; · ipureintro; exact h_arg9
      iexact H9
    isplitl [H10]
    · iexists _; isplitr; · ipureintro; exact h_arg10
      iexact H10
    isplitl [H11]
    · iexists _; isplitr; · ipureintro; exact h_arg11
      iexact H11
    isplitl [H12]
    · iexists (arg12.view.read (Elt F) f_arg12), f_arg12; isplitr; · ipureintro; rfl
      iexact H12
    isplitl [H13]
    · iexists (arg13.view.read (Elt F) C13), C13; isplitr; · ipureintro; rfl
      iexact H13
    isplitl [H14]
    · iexists C14; isplitr
      · ipureintro
        have hd := relA_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ _ _ hR
        rw [h_arg3, h_arg4, h_arg6, h_arg7, h_arg8] at hd; exact hd
      iexact H14
    isplitl [H15]
    · iexists (arg15.view.read (Elt F) C15), C15; isplitr; · ipureintro; rfl
      iexact H15
    isplitl [H16]
    · iexists (arg16.view.read (Elt F) C16), C16; isplitr; · ipureintro; rfl
      iexact H16
    isplitl [H17]
    · iexists (arg17.view.read (Elt F) C17), C17; isplitr; · ipureintro; rfl
      iexact H17
    isplitl [H18]
    · iexists (arg18.view.read (Elt F) C18), C18; isplitr; · ipureintro; rfl
      iexact H18
    isplitl [H19]
    · iexists (arg19.view.read (Elt F) C19), C19; isplitr; · ipureintro; rfl
      iexact H19
    iexists (arg20.view.read (Elt F) C20), C20; isplitr; · ipureintro; rfl
    iexact H20
  · by_cases hc2 : k0_cond2 i = 1#1
    · iapply (wp_wand_r Idealize.ShloMosaic.frame (wpE (defs₀ (F := F)) Variants.none (c : Thread nD τ) none) E)
      isplitl [H3 H4 H5 H6 H7 H8 H9 H10 H11 H12 H13 H14 H15 H16 H17 H18 H19 H20]
      · iapply (runC (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 f_arg3 f_arg4 f_arg5 f_arg6 f_arg7 f_arg8 f_arg9 f_arg10 f_arg11 f_arg12 f_arg13 f_arg14 f_arg15 f_arg16 f_arg17 f_arg18 f_arg19 f_arg20 E)
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
      iintro %u ⟨%C12, %C13, %C14, %C15, %C17, %C18, %C19, %C20, %hR, H3, H4, H5, H6, H7, H8, H9, H10, H11, H12, H13, H14, H15, H16, H17, H18, H19, H20⟩
      isplitl [H3]
      · iexists _; isplitr; · ipureintro; exact h_arg3
        iexact H3
      isplitl [H4]
      · iexists _; isplitr; · ipureintro; exact h_arg4
        iexact H4
      isplitl [H5]
      · iexists _; isplitr; · ipureintro; exact h_arg5
        iexact H5
      isplitl [H6]
      · iexists _; isplitr; · ipureintro; exact h_arg6
        iexact H6
      isplitl [H7]
      · iexists _; isplitr; · ipureintro; exact h_arg7
        iexact H7
      isplitl [H8]
      · iexists _; isplitr; · ipureintro; exact h_arg8
        iexact H8
      isplitl [H9]
      · iexists _; isplitr; · ipureintro; exact h_arg9
        iexact H9
      isplitl [H10]
      · iexists _; isplitr; · ipureintro; exact h_arg10
        iexact H10
      isplitl [H11]
      · iexists _; isplitr; · ipureintro; exact h_arg11
        iexact H11
      isplitl [H12]
      · iexists (arg12.view.read (Elt F) C12), C12; isplitr; · ipureintro; rfl
        iexact H12
      isplitl [H13]
      · iexists (arg13.view.read (Elt F) C13), C13; isplitr; · ipureintro; rfl
        iexact H13
      isplitl [H14]
      · iexists C14; isplitr
        · ipureintro
          have hd := relC_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ _ _ hR
          rw [h_arg3, h_arg4, h_arg6, h_arg7, h_arg8] at hd; exact hd
        iexact H14
      isplitl [H15]
      · iexists (arg15.view.read (Elt F) C15), C15; isplitr; · ipureintro; rfl
        iexact H15
      isplitl [H16]
      · iexists (arg16.view.read (Elt F) f_arg16), f_arg16; isplitr; · ipureintro; rfl
        iexact H16
      isplitl [H17]
      · iexists (arg17.view.read (Elt F) C17), C17; isplitr; · ipureintro; rfl
        iexact H17
      isplitl [H18]
      · iexists (arg18.view.read (Elt F) C18), C18; isplitr; · ipureintro; rfl
        iexact H18
      isplitl [H19]
      · iexists (arg19.view.read (Elt F) C19), C19; isplitr; · ipureintro; rfl
        iexact H19
      iexists (arg20.view.read (Elt F) C20), C20; isplitr; · ipureintro; rfl
      iexact H20
    · iapply (wp_wand_r Idealize.ShloMosaic.frame (wpE (defs₀ (F := F)) Variants.none (c : Thread nD τ) none) E)
      isplitl [H3 H4 H5 H6 H7 H8 H9 H10 H11 H12 H13 H14 H15 H16 H17 H18 H19 H20]
      · iapply (runB (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc1 hc2 f_arg3 f_arg4 f_arg5 f_arg6 f_arg7 f_arg8 f_arg9 f_arg10 f_arg11 f_arg12 f_arg13 f_arg14 f_arg15 f_arg16 f_arg17 f_arg18 f_arg19 f_arg20 E)
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [H19]; · iexact H19
        iexact H20
      iintro %u ⟨%C13, %C14, %C15, %C17, %C18, %C19, %C20, %hR, H3, H4, H5, H6, H7, H8, H9, H10, H11, H12, H13, H14, H15, H16, H17, H18, H19, H20⟩
      isplitl [H3]
      · iexists _; isplitr; · ipureintro; exact h_arg3
        iexact H3
      isplitl [H4]
      · iexists _; isplitr; · ipureintro; exact h_arg4
        iexact H4
      isplitl [H5]
      · iexists _; isplitr; · ipureintro; exact h_arg5
        iexact H5
      isplitl [H6]
      · iexists _; isplitr; · ipureintro; exact h_arg6
        iexact H6
      isplitl [H7]
      · iexists _; isplitr; · ipureintro; exact h_arg7
        iexact H7
      isplitl [H8]
      · iexists _; isplitr; · ipureintro; exact h_arg8
        iexact H8
      isplitl [H9]
      · iexists _; isplitr; · ipureintro; exact h_arg9
        iexact H9
      isplitl [H10]
      · iexists _; isplitr; · ipureintro; exact h_arg10
        iexact H10
      isplitl [H11]
      · iexists _; isplitr; · ipureintro; exact h_arg11
        iexact H11
      isplitl [H12]
      · iexists (arg12.view.read (Elt F) f_arg12), f_arg12; isplitr; · ipureintro; rfl
        iexact H12
      isplitl [H13]
      · iexists (arg13.view.read (Elt F) C13), C13; isplitr; · ipureintro; rfl
        iexact H13
      isplitl [H14]
      · iexists C14; isplitr
        · ipureintro
          have hd := relB_dv (F := F) c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ _ _ _ _ _ _ _ _ _ _ _ _ _ _ _ _ _ _ _ _ _ _ _ _ _ hR
          rw [h_arg3, h_arg4, h_arg6, h_arg7, h_arg8] at hd; exact hd
        iexact H14
      isplitl [H15]
      · iexists (arg15.view.read (Elt F) C15), C15; isplitr; · ipureintro; rfl
        iexact H15
      isplitl [H16]
      · iexists (arg16.view.read (Elt F) f_arg16), f_arg16; isplitr; · ipureintro; rfl
        iexact H16
      isplitl [H17]
      · iexists (arg17.view.read (Elt F) C17), C17; isplitr; · ipureintro; rfl
        iexact H17
      isplitl [H18]
      · iexists (arg18.view.read (Elt F) C18), C18; isplitr; · ipureintro; rfl
        iexact H18
      isplitl [H19]
      · iexists (arg19.view.read (Elt F) C19), C19; isplitr; · ipureintro; rfl
        iexact H19
      iexists (arg20.view.read (Elt F) C20), C20; isplitr; · ipureintro; rfl
      iexact H20

theorem not_first_last : ∀ t : Fin cfg0.N, ¬(k0_cond1 (grid0.coords t) = 1#1 ∧ k0_cond2 (grid0.coords t) = 1#1) := by
  decide +kernel

/-- The scratch operands, whole. -/
abbrev scM0_0 : Memref sig .tc .vmem S4x2x512 .f32 := Memref.whole cc0_scratch0
abbrev scM0_1 : Memref sig .tc .vmem S2x512x128 .f32 := Memref.whole cc0_scratch1
abbrev scM0_2 : Memref sig .tc .vmem S2x512x128 .f32 := Memref.whole cc0_scratch2
abbrev scM0_3 : Memref sig .tc .vmem S4x128x512 .f32 := Memref.whole cc0_scratch3
abbrev scM0_4 : Memref sig .tc .vmem S2x512x128 .f32 := Memref.whole cc0_scratch4

/-- What the region keeps between points: the five scratch buffers at some contents, and the generator register. -/
theorem PhiA_eq (c : Dev nD) :
    (Pipeline.ΦA spec0 c : sProp 𝕄G)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

variable (m : (ℓ : Loc nD τ sig) → Buf (Elt F) ℓ) (ρ : Dev nD → PrngReg)

/-- The value-gradient rows the program at point `t` writes. -/
def dvBlk (c : Dev nD) (t : Fin cfg0.N) : Vec F S512x128 .bf16 :=
  dvOut (grid0.coords t) (iblk m c 0 t) (iblk m c 1 t) (iblk m c 3 t) (iblk m c 4 t) (iblk m c 5 t)

/-- The outputs of whose contents nothing is said here. -/
def outs : Fin 13 → Bool := fun w => decide (9 ≤ w.val) && decide (w.val ≠ 11)

/-- The arrays as the region finds them; each input's buffer at its block; shares of the arrays that several windows read. -/
def datF (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, _⟩ => dvBlk m c t
    | ⟨12, h⟩ => Pipeline.Dat.unnamed (cfg := cfg0) ⟨12, h⟩ t
  Φ _ := Pipeline.ΦA spec0 c
  q w := Pipeline.shareOf spec0 w
  owed _ := 0

theorem datF_A (c : Dev nD) (w : Fin cfg0.W) : (datF m 0 c).A w = V m c (Pipeline.arrRef spec0 w) := by
  dsimp only [datF]

theorem datF_after0 (c : Dev nD) (t : Fin cfg0.N) : (datF m 0 c).after 0 t = iblk m c 0 t := by dsimp only [datF]
theorem datF_before0 (c : Dev nD) (t : Fin cfg0.N) (d) : (datF m 0 c).before 0 t d = iblk m c 0 t :=
  before0_0_of m (datF m 0 c) (datF_A m c 0) (datF_after0 m c) t d
theorem datF_after1 (c : Dev nD) (t : Fin cfg0.N) : (datF m 0 c).after 1 t = iblk m c 1 t := by dsimp only [datF]
theorem datF_before1 (c : Dev nD) (t : Fin cfg0.N) (d) : (datF m 0 c).before 1 t d = iblk m c 1 t :=
  before0_1_of m (datF m 0 c) (datF_A m c 1) (datF_after1 m c) t d
theorem datF_after2 (c : Dev nD) (t : Fin cfg0.N) : (datF m 0 c).after 2 t = iblk m c 2 t := by dsimp only [datF]
theorem datF_before2 (c : Dev nD) (t : Fin cfg0.N) (d) : (datF m 0 c).before 2 t d = iblk m c 2 t :=
  before0_2_of m (datF m 0 c) (datF_A m c 2) (datF_after2 m c) t d
theorem datF_after3 (c : Dev nD) (t : Fin cfg0.N) : (datF m 0 c).after 3 t = iblk m c 3 t := by dsimp only [datF]
theorem datF_before3 (c : Dev nD) (t : Fin cfg0.N) (d) : (datF m 0 c).before 3 t d = iblk m c 3 t :=
  before0_3_of m (datF m 0 c) (datF_A m c 3) (datF_after3 m c) t d
theorem datF_after4 (c : Dev nD) (t : Fin cfg0.N) : (datF m 0 c).after 4 t = iblk m c 4 t := by dsimp only [datF]
theorem datF_before4 (c : Dev nD) (t : Fin cfg0.N) (d) : (datF m 0 c).before 4 t d = iblk m c 4 t :=
  before0_4_of m (datF m 0 c) (datF_A m c 4) (datF_after4 m c) t d
theorem datF_after5 (c : Dev nD) (t : Fin cfg0.N) : (datF m 0 c).after 5 t = iblk m c 5 t := by dsimp only [datF]
theorem datF_before5 (c : Dev nD) (t : Fin cfg0.N) (d) : (datF m 0 c).before 5 t d = iblk m c 5 t :=
  before0_5_of m (datF m 0 c) (datF_A m c 5) (datF_after5 m c) t d
theorem datF_after6 (c : Dev nD) (t : Fin cfg0.N) : (datF m 0 c).after 6 t = iblk m c 6 t := by dsimp only [datF]
theorem datF_before6 (c : Dev nD) (t : Fin cfg0.N) (d) : (datF m 0 c).before 6 t d = iblk m c 6 t :=
  before0_6_of m (datF m 0 c) (datF_A m c 6) (datF_after6 m c) t d
theorem datF_after7 (c : Dev nD) (t : Fin cfg0.N) : (datF m 0 c).after 7 t = iblk m c 7 t := by dsimp only [datF]
theorem datF_before7 (c : Dev nD) (t : Fin cfg0.N) (d) : (datF m 0 c).before 7 t d = iblk m c 7 t :=
  before0_7_of m (datF m 0 c) (datF_A m c 7) (datF_after7 m c) t d
theorem datF_after8 (c : Dev nD) (t : Fin cfg0.N) : (datF m 0 c).after 8 t = iblk m c 8 t := by dsimp only [datF]
theorem datF_before8 (c : Dev nD) (t : Fin cfg0.N) (d) : (datF m 0 c).before 8 t d = iblk m c 8 t :=
  before0_8_of m (datF m 0 c) (datF_A m c 8) (datF_after8 m c) t d

theorem datF_after11 (c : Dev nD) (t : Fin cfg0.N) : (datF m 0 c).after 11 t = dvBlk m c t := by dsimp only [datF]

def preF (c : Dev nD) (t : Fin cfg0.N) : sProp 𝕄G :=
  iprop((datF m 0 c).Φ t.castSucc ∗ (datF m 0 c).owesAt () t.castSucc
    ∗ (∃ d, owns (c : Thread nD τ) (st0_0 t) fullShare ((datF m 0 c).before 0 t d)) ∗ (∃ d, owns (c : Thread nD τ) (st0_1 t) fullShare ((datF m 0 c).before 1 t d)) ∗ (∃ d, owns (c : Thread nD τ) (st0_2 t) fullShare ((datF m 0 c).before 2 t d)) ∗ (∃ d, owns (c : Thread nD τ) (st0_3 t) fullShare ((datF m 0 c).before 3 t d)) ∗ (∃ d, owns (c : Thread nD τ) (st0_4 t) fullShare ((datF m 0 c).before 4 t d)) ∗ (∃ d, owns (c : Thread nD τ) (st0_5 t) fullShare ((datF m 0 c).before 5 t d)) ∗ (∃ d, owns (c : Thread nD τ) (st0_6 t) fullShare ((datF m 0 c).before 6 t d)) ∗ (∃ d, owns (c : Thread nD τ) (st0_7 t) fullShare ((datF m 0 c).before 7 t d)) ∗ (∃ d, owns (c : Thread nD τ) (st0_8 t) fullShare ((datF m 0 c).before 8 t d)) ∗ (∃ d, owns (c : Thread nD τ) (st0_9 t) fullShare d) ∗ (∃ d, owns (c : Thread nD τ) (st0_10 t) fullShare d) ∗ (∃ d, owns (c : Thread nD τ) (st0_11 t) fullShare ((datF m 0 c).before 11 t d)) ∗ (∃ d, owns (c : Thread nD τ) (st0_12 t) fullShare d))

def postF (c : Dev nD) (t : Fin cfg0.N) : sProp 𝕄G :=
  iprop((datF m 0 c).Φ t.succ ∗ (datF m 0 c).owesAt () t.succ
    ∗ owns (c : Thread nD τ) (st0_0 t) fullShare ((datF m 0 c).after 0 t) ∗ owns (c : Thread nD τ) (st0_1 t) fullShare ((datF m 0 c).after 1 t) ∗ owns (c : Thread nD τ) (st0_2 t) fullShare ((datF m 0 c).after 2 t) ∗ owns (c : Thread nD τ) (st0_3 t) fullShare ((datF m 0 c).after 3 t) ∗ owns (c : Thread nD τ) (st0_4 t) fullShare ((datF m 0 c).after 4 t) ∗ owns (c : Thread nD τ) (st0_5 t) fullShare ((datF m 0 c).after 5 t) ∗ owns (c : Thread nD τ) (st0_6 t) fullShare ((datF m 0 c).after 6 t) ∗ owns (c : Thread nD τ) (st0_7 t) fullShare ((datF m 0 c).after 7 t) ∗ owns (c : Thread nD τ) (st0_8 t) fullShare ((datF m 0 c).after 8 t) ∗ (∃ d, owns (c : Thread nD τ) (st0_9 t) fullShare d) ∗ (∃ d, owns (c : Thread nD τ) (st0_10 t) fullShare d) ∗ owns (c : Thread nD τ) (st0_11 t) fullShare ((datF m 0 c).after 11 t) ∗ (∃ d, owns (c : Thread nD τ) (st0_12 t) fullShare d))

theorem bodyF (c : Dev nD) (t : Fin cfg0.N) :
    preF m c t ⊢ wp frame (wpE (defs₀ (F := F)) Variants.none c none) Set.univ (bodyAt0 t) (fun _ => postF m c t) := by
  unfold preF postF bodyAt0
  simp only [datF_before0, datF_before1, datF_before2, datF_before3, datF_before4, datF_before5, datF_before6, datF_before7, datF_before8]
  rw [show (datF m 0 c).owesAt () t.succ = (datF m 0 c).owesAt () t.castSucc from rfl,
    datF_after0, datF_after1, datF_after2, datF_after3, datF_after4, datF_after5, datF_after6, datF_after7, datF_after8, datF_after11,
    show (datF m 0 c).Φ t.succ = Pipeline.ΦA spec0 c from rfl, show (datF m 0 c).Φ t.castSucc = Pipeline.ΦA spec0 c from rfl, PhiA_eq]
  iintro ⟨⟨⟨S0, S1, S2, S3, S4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, ⟨%d11, H11⟩, H12⟩
  iapply (wp_wand_r Idealize.ShloMosaic.frame (wpE (defs₀ (F := F)) Variants.none (c : Thread nD τ) none) Set.univ)
  isplitl [H0 H1 H2 H3 H4 H5 H6 H7 H8 H9 H10 H11 H12 S0 S1 S2 S3 S4]
  · iapply (body_any (F := F) c (grid0.coords t) _ _ _ _ _ _ _ _ _ _ _ _ _ _ _ _ _ _ _ _ _ _ _ _ _ _ _ _ _ _ _ _ _ _ _ _ (not_first_last t) (iblk m c 0 t) (iblk m c 1 t) (iblk m c 2 t) (iblk m c 3 t) (iblk m c 4 t) (iblk m c 5 t) (iblk m c 6 t) (iblk m c 7 t) (iblk m c 8 t) Set.univ)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexists _; iexact H11
    isplitl [H12]; · iexact H12
    isplitl [S0]; · iexact S0
    isplitl [S1]; · iexact S1
    isplitl [S2]; · iexact S2
    isplitl [S3]; · iexact S3
    iexact S4
  iintro %u ⟨H0, H1, H2, H3, H4, H5, H6, H7, H8, H9, H10, H11, H12, S0, S1, S2, S3, S4⟩
  isplitl [S0 S1 S2 S3 S4 Hg]
  · isplitr [Hg]
    · isplitl [S0]; · iexact S0
      isplitl [S1]; · iexact S1
      isplitl [S2]; · iexact S2
      isplitl [S3]; · iexact S3
      iexact S4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem defs₀_row (t : Fin cfg0.N) :
    defs₀ (F := F) .tc cfg0.body (cfg0.bodyArgs t (cfg0.slots t)) = bodyAt0 t := by
  unfold defs₀; rw [Defs.onTc_tc]

theorem obligationF (c : Dev nD) : BodyObligation (datF (F := F) m 0 c) (defs₀ (F := F)) Variants.none () Set.univ outs := fun t => by
  rw [bigSep_W0, bigSep_W0, defs₀_row]
  exact triple_restated (bodyF m c t) rfl .rfl fun _ => .rfl

set_option backward.isDefEq.respectTransparency.types false in
theorem runF : θ_run defs (onTc (τ := τ) (main (F := F))) (s₀ m ρ)
    (fun r => (Pipeline.RDat.FramePost (cfgs 0) (fun c => (datF m 0 c).toRForget outs) (V m)) r ∧ r.2.sem = fun _ => 0) :=
  Pipeline.θ_run_frame_track_forget_shared (Q' := _) cfgs (datF m) (0 : Fin 1) launch₀0 defs₀ Variants.none outs m ρ main
    (hbody := fun c => (obligationF m c).loose) (hq := fun _ _ _ => rfl)
    (howed := fun _ _ => rfl) (V := V m) (hmain := hmain m Variants.none) (hA := datF_A m) (hin := fun _ => .rfl) (hout := fun _ => .rfl)

/-- The frame. -/
theorem quiescent : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(Pipeline.RDat.FramePost.arr_in h.1 c 7 rfl).trans ((datF_A m c 7).trans (V_main_arg0 m c)),
       ((h.1 c).2 main_arg1 (Pipeline.mem_restRefs_of main_arg1 (by decide) (by decide))).trans (V_main_arg1 m c),
       (Pipeline.RDat.FramePost.arr_in h.1 c 4 rfl).trans ((datF_A m c 4).trans (V_main_arg2 m c))⟩, h.2⟩) (runF m ρ)

end Cert.Proof.KernelIdeal

end
-- ==== Proof.FoxSpec.lean ====
/- The attention's quantities as plain functions of the projections `a` (their rows are batch·2048 + position; the queries
   of head h are columns 64h.., its keys 512 + 64h..) and of the cumulated gates `c`. -/
module

public import Idealize.ShloMosaic.PureOps.Ideal
public import Idealize.ShloMosaic.Lib.Pointwise

@[expose] public section

set_option maxRecDepth 16384
set_option maxHeartbeats 4000000

noncomputable section

namespace Cert.Proof.Fox

open Idealize.ShloMosaic

variable (a : Fin 4096 → Fin 2048 → EReal) (c : Fin 2 → Fin 8 → Fin 2048 → EReal) (o : Fin 4096 → Fin 512 → EReal)

/-- The row of position `y` of batch `b`. -/
def row (b : Fin 2) (y : Fin 2048) : Fin 4096 := ⟨b.val * 2048 + y.val, by omega⟩
/-- Column `t` of head `h`, and the same in the keys' part. -/
def colq (h : Fin 8) (t : Fin 64) : Fin 2048 := ⟨h.val * 64 + t.val, by omega⟩
def colk (h : Fin 8) (t : Fin 64) : Fin 2048 := ⟨512 + (h.val * 64 + t.val), by omega⟩

/-- The product of query `y` and key `x`. -/
def qk (b : Fin 2) (h : Fin 8) (y x : Fin 2048) : EReal := ∑ t : Fin 64, a (row b y) (colq h t) * a (row b x) (colk h t)

/-- The masked logit. -/
def lg (b : Fin 2) (h : Fin 8) (y x : Fin 2048) : EReal :=
  qk a b h y x * Ideal.ofBits .f32 0x3E000000#32
    + Scalar.select (IntOp.cmpi .sle (BitVec.ofNat 32 x.val) (BitVec.ofNat 32 y.val)) (c b h y - c b h x) (Ideal.ofBits .f32 0xFF800000#32)

/-- A query row's greatest logit. -/
def mx (b : Fin 2) (h : Fin 8) (y : Fin 2048) : EReal := Finset.fold max (Ideal.ofBits .f32 0xFF800000#32) (lg a c b h y) Finset.univ

/-- Its log of the sum of exponentials, as the saved one is computed. -/
def ls (b : Fin 2) (h : Fin 8) (y : Fin 2048) : EReal := mx a c b h y + Ideal.log (∑ x, Ideal.exp (lg a c b h y x - mx a c b h y))

/-- The probability of key `x` for query `y`. -/
def pr (b : Fin 2) (h : Fin 8) (y x : Fin 2048) : EReal :=
  Ideal.div (Ideal.exp (lg a c b h y x - max (Ideal.ofBits .f32 0xFF800000#32) (mx a c b h y)))
    (Ideal.ofBits .f32 0x00000000#32 + ∑ x', Ideal.exp (lg a c b h y x' - max (Ideal.ofBits .f32 0xFF800000#32) (mx a c b h y)))

end Cert.Proof.Fox

end
-- ==== Proof.FoxHost.lean ====
/- What the host lines leave in the call's arguments, and the blocks of the windows, at an index. -/
module

public import proofs.«01_k».proof.Proof.Gen.KernelIdeal.Frame
public import proofs.«01_k».proof.Proof.FoxSpec
public import Idealize.ShloMosaic.Lib.Pipeline.ValueKit
public import Idealize.ShloMosaic.Lib.StableHlo.ReadAt

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄G" => MT nD τ sig Unit (Elt F) ℕ (UR sig nD τ) ℕ

open Idealize.ShloMosaic.Pipeline
variable (m : (ℓ : Loc nD τ sig) → Buf (Elt Ideal) ℓ)

theorem idx_all : ∀ t : Fin grid0.N,
    win0_0.index t = ![(grid0.coords t 0).val, (grid0.coords t 1).val]
    ∧ win0_1.index t = ![4 * (grid0.coords t 0).val + (grid0.coords t 2).val, 4 + (grid0.coords t 1).val]
    ∧ win0_3.index t = ![(grid0.coords t 0).val, (grid0.coords t 1).val, 0, 0, 0]
    ∧ win0_4.index t = ![(grid0.coords t 0).val, (grid0.coords t 1).val]
    ∧ win0_5.index t = ![4 * (grid0.coords t 0).val + (grid0.coords t 2).val, (grid0.coords t 1).val]
    ∧ win0_11.index t = ![4 * (grid0.coords t 0).val + (grid0.coords t 2).val, (grid0.coords t 1).val] := by decide +kernel

theorem iblk0_at (c : Dev nD) (t : Fin cfg0.N) (y : Fin 2048) (d : Fin 128) : iblk m c 0 t (ix2 y d)
    = m ((c.tc : Thread nD τ).loc main_arg0) (ix2 ⟨2048 * (grid0.coords t 0).val + y.val, by have := (grid0.coords t 0).isLt; have : grid0.bound 0 = 2 := rfl; omega⟩ ⟨128 * (grid0.coords t 1).val + d.val, by have := (grid0.coords t 1).isLt; have : grid0.bound 1 = 4 := rfl; omega⟩) := by
  blk_ext [iblk, V_main_arg0, idx_all t]

theorem iblk1_at (c : Dev nD) (t : Fin cfg0.N) (y : Fin 512) (d : Fin 128) : iblk m c 1 t (ix2 y d)
    = m ((c.tc : Thread nD τ).loc main_arg0) (ix2 ⟨2048 * (grid0.coords t 0).val + 512 * (grid0.coords t 2).val + y.val, by have := (grid0.coords t 0).isLt; have := (grid0.coords t 2).isLt; have : grid0.bound 0 = 2 := rfl; have : grid0.bound 2 = 4 := rfl; omega⟩ ⟨512 + 128 * (grid0.coords t 1).val + d.val, by have := (grid0.coords t 1).isLt; have : grid0.bound 1 = 4 := rfl; omega⟩) := by
  blk_ext [iblk, V_main_arg0, idx_all t]

/-- The arguments as functions of their coordinates. -/
abbrev fa (c : Dev nD) : Fin 4096 → Fin 2048 → EReal := fun r l => m ((c.tc : Thread nD τ).loc main_arg0) (ix2 r l)
abbrev fc (c : Dev nD) : Fin 2 → Fin 8 → Fin 2048 → EReal := fun b h y => m ((c.tc : Thread nD τ).loc main_arg1) (ix3 b h y)
abbrev fo (c : Dev nD) : Fin 4096 → Fin 512 → EReal := fun r l => m ((c.tc : Thread nD τ).loc main_arg2) (ix2 r l)

theorem v43_at (c : Dev nD) (r : Fin 4096) (l : Fin 1024) : V m c main_v43 (ix2 r l)
    = Ideal.div (fc m c ⟨r.val / 2048, by omega⟩ ⟨l.val / 128, by omega⟩ ⟨r.val % 2048, Nat.mod_lt _ (by omega)⟩) (Ideal.log (Ideal.ofBits .f32 0x40000000#32)) := by
  unfold V
  after_reads_at

open StableHlo in
theorem tail37 (W : Valuation τ sig (Elt Ideal)) (b : Fin 2) (g n : Fin 4) (j : Fin 2) (y : Fin 512) (L : Fin 2048 → EReal) (M C : EReal)
    (hL : ∀ x, W (Proc.devRef .tc main_v23) (ix4 b ⟨g.val * 2 + j.val, by omega⟩ ⟨n.val * 512 + y.val, by omega⟩ x) = L x) (hM : W (Proc.devRef .tc main_v24) (ix3 b ⟨g.val * 2 + j.val, by omega⟩ ⟨n.val * 512 + y.val, by omega⟩) = M) (hC : W (Proc.devRef .tc main_arg1) (ix3 b ⟨g.val * 2 + j.val, by omega⟩ ⟨n.val * 512 + y.val, by omega⟩) = C) :
    after ((hostOps0_2 (F := Ideal)).drop 7) W (Proc.devRef .tc main_v37) (ix5 b g n j y)
      = Ideal.div (M + Ideal.log (∑ x : Fin 2048, Ideal.exp (L x - M)) - C) (Ideal.log (Ideal.ofBits .f32 0x40000000#32)) := by
  obtain rfl := hM
  obtain rfl := hC
  obtain rfl : (fun x => W (Proc.devRef .tc main_v23) (ix4 b ⟨g.val * 2 + j.val, by omega⟩ ⟨n.val * 512 + y.val, by omega⟩ x)) = L := funext hL
  simp only [List.drop_succ_cons, List.drop_zero]
  after_reads_at

open StableHlo in
theorem cut (c : Dev nD) (r : Ref sig .tc) : V m c r = after ((hostOps0_2 (F := Ideal)).drop 7) (after (List.flatten [hostOps0 (F := Ideal), hostOps0_1, (hostOps0_2 (F := Ideal)).take 7]) (fun b => m (c, b))) r := rfl

open StableHlo in
theorem head23 (c : Dev nD) (b : Fin 2) (h : Fin 8) (y x : Fin 2048) :
    after (List.flatten [hostOps0 (F := Ideal), hostOps0_1, (hostOps0_2 (F := Ideal)).take 7]) (fun b => m (c, b)) (Proc.devRef .tc main_v23) (ix4 b h y x) = Fox.lg (fa m c) (fc m c) b h y x := by
  simp only [List.take_succ_cons, List.take_zero]
  after_reads_at
  rfl

open StableHlo in
theorem head24 (c : Dev nD) (b : Fin 2) (h : Fin 8) (y : Fin 2048) :
    after (List.flatten [hostOps0 (F := Ideal), hostOps0_1, (hostOps0_2 (F := Ideal)).take 7]) (fun b => m (c, b)) (Proc.devRef .tc main_v24) (ix3 b h y) = Fox.mx (fa m c) (fc m c) b h y := by
  simp only [List.take_succ_cons, List.take_zero]
  after_reads_at
  rfl

open StableHlo in
theorem head1 (c : Dev nD) :
    after (List.flatten [hostOps0 (F := Ideal), hostOps0_1, (hostOps0_2 (F := Ideal)).take 7]) (fun b => m (c, b)) (Proc.devRef .tc main_arg1) = m ((c.tc : Thread nD τ).loc main_arg1) := by
  simp only [List.take_succ_cons, List.take_zero]
  after_reads_simp

theorem v37_at (c : Dev nD) (b : Fin 2) (g n : Fin 4) (j : Fin 2) (y : Fin 512) : V m c main_v37 (ix5 b g n j y)
    = Ideal.div (Fox.ls (fa m c) (fc m c) b ⟨g.val * 2 + j.val, by omega⟩ ⟨n.val * 512 + y.val, by omega⟩
        - fc m c b ⟨g.val * 2 + j.val, by omega⟩ ⟨n.val * 512 + y.val, by omega⟩) (Ideal.log (Ideal.ofBits .f32 0x40000000#32)) := by
  rw [cut]
  exact tail37 _ b g n j y _ _ _ (fun x => head23 m c _ _ _ x) (head24 m c _ _ _) (congrFun (head1 m c) _)

theorem co_lt (t : Fin cfg0.N) : (grid0.coords t 0).val < 2 ∧ (grid0.coords t 1).val < 4 ∧ (grid0.coords t 2).val < 4 :=
  ⟨(grid0.coords t 0).isLt, (grid0.coords t 1).isLt, (grid0.coords t 2).isLt⟩

theorem iblk3_at (c : Dev nD) (t : Fin cfg0.N) (n : Fin 4) (j : Fin 2) (y : Fin 512) : iblk m c 3 t (ix5 0 0 n j y)
    = V m c main_v37 (ix5 ⟨(grid0.coords t 0).val, (co_lt t).1⟩ ⟨(grid0.coords t 1).val, (co_lt t).2.1⟩ n j y) := by
  blk_ext [iblk, idx_all t]

theorem iblk4_at (c : Dev nD) (t : Fin cfg0.N) (y : Fin 2048) (d : Fin 128) : iblk m c 4 t (ix2 y d)
    = m ((c.tc : Thread nD τ).loc main_arg2) (ix2 ⟨2048 * (grid0.coords t 0).val + y.val, by have := co_lt t; omega⟩ ⟨128 * (grid0.coords t 1).val + d.val, by have := co_lt t; omega⟩) := by
  blk_ext [iblk, V_main_arg2, idx_all t]

theorem iblk5_at (c : Dev nD) (t : Fin cfg0.N) (x : Fin 512) (l : Fin 256) : iblk m c 5 t (ix2 x l)
    = V m c main_v43 (ix2 ⟨2048 * (grid0.coords t 0).val + 512 * (grid0.coords t 2).val + x.val, by have := co_lt t; omega⟩ ⟨256 * (grid0.coords t 1).val + l.val, by have := co_lt t; omega⟩) := by
  blk_ext [iblk, idx_all t]

end Cert.Proof.KernelIdeal

end
-- ==== Proof.FoxMath.lean ====
/- The saved log of the sum of exponentials gives back the softmax: on real arguments, `exp2` of a scaled logit minus it is
   the probability. -/
module

public import proofs.«01_k».proof.Proof.FoxSpec
public import Idealize.ShloMosaic.Lib.WordCmp

@[expose] public section

set_option maxRecDepth 16384
set_option maxHeartbeats 4000000

noncomputable section

namespace Cert.Proof.Fox

open Idealize.ShloMosaic

theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

theorem bits_two : Ideal.ofBits .f32 0x40000000#32 = ((2 : ℝ) : EReal) := by
  simp [Ideal.ofBits, Ideal.ieee, -EReal.coe_mul]; norm_num
theorem bits_eighth : Ideal.ofBits .f32 0x3E000000#32 = (((1 : ℝ) / 8 : ℝ) : EReal) := by
  simp [Ideal.ofBits, Ideal.ieee, -EReal.coe_mul]; norm_num
theorem bits_bot : Ideal.ofBits .f32 0xFF800000#32 = (⊥ : EReal) := by
  simp [Ideal.ofBits, Ideal.ieee, -EReal.coe_mul]
theorem bits_zero : Ideal.ofBits .f32 0x00000000#32 = (0 : EReal) := by
  simp [Ideal.ofBits, Ideal.ieee, -EReal.coe_mul]

theorem log_bits_two : Ideal.log (Ideal.ofBits .f32 0x40000000#32) = ((Real.log 2 : ℝ) : EReal) := by
  rw [bits_two, Ideal.log_coe, if_neg (by norm_num)]

theorem log_two_ne : Real.log 2 ≠ 0 := (Real.log_pos (by norm_num)).ne'

/-- A row of logits, each a real or −∞ and one a real: its greatest is a real, and the sum of exponentials a positive one. -/
theorem soft {n : ℕ} (f : Fin n → EReal) (hf : ∀ x, f x = ⊥ ∨ ∃ r : ℝ, f x = (r : EReal)) (x0 : Fin n) (r0 : ℝ) (h0 : f x0 = (r0 : EReal)) :
    ∃ M Z : ℝ, 0 < Z ∧ Finset.fold max (⊥ : EReal) f Finset.univ = (M : EReal) ∧ ∑ x, Ideal.exp (f x - (M : EReal)) = (Z : EReal) := by
  obtain ⟨i, -, hi⟩ := Finset.exists_mem_eq_sup Finset.univ ⟨x0, Finset.mem_univ x0⟩ f
  have hle : f x0 ≤ f i := hi ▸ Finset.le_sup (f := f) (Finset.mem_univ x0)
  obtain ⟨M, hM⟩ : ∃ M : ℝ, f i = (M : EReal) := by
    rcases hf i with h | h
    · rw [h, h0] at hle
      exact absurd (le_bot_iff.mp hle) (EReal.coe_ne_bot r0)
    · exact h
  have he : ∀ x, ∃ e : ℝ, 0 ≤ e ∧ Ideal.exp (f x - (M : EReal)) = (e : EReal) := by
    intro x
    rcases hf x with h | ⟨r, h⟩
    · exact ⟨0, le_refl _, by rw [h, EReal.bot_sub, Ideal.exp_bot, EReal.coe_zero]⟩
    · exact ⟨Real.exp (r - M), (Real.exp_pos _).le, by rw [h, ← EReal.coe_sub, Ideal.exp_coe]⟩
  choose e e0 he using he
  have hp : 0 < e x0 := by
    have := he x0
    rw [h0, ← EReal.coe_sub, Ideal.exp_coe, EReal.coe_eq_coe_iff] at this
    rw [← this]
    exact Real.exp_pos _
  refine ⟨M, ∑ x, e x, Finset.sum_pos' (fun x _ => e0 x) ⟨x0, Finset.mem_univ _, hp⟩, ?_, ?_⟩
  · exact Eq.trans (show _ = Finset.univ.sup f from rfl) (hi.trans hM)
  · rw [coe_sum]
    exact Finset.sum_congr rfl fun x _ => he x

variable {a : Fin 4096 → Fin 2048 → EReal} {c : Fin 2 → Fin 8 → Fin 2048 → EReal}
variable {ar : Fin 4096 → Fin 2048 → ℝ} {cr : Fin 2 → Fin 8 → Fin 2048 → ℝ}

theorem qk_coe (ha : ∀ r l, a r l = (ar r l : EReal)) (b : Fin 2) (h : Fin 8) (y x : Fin 2048) :
    qk a b h y x = ((∑ t : Fin 64, ar (row b y) (colq h t) * ar (row b x) (colk h t) : ℝ) : EReal) := by
  unfold qk
  rw [coe_sum]
  exact Finset.sum_congr rfl fun t _ => by rw [ha, ha, EReal.coe_mul]

theorem lg_le (b : Fin 2) (h : Fin 8) (y x : Fin 2048) (hx : x.val ≤ y.val) :
    lg a c b h y x = qk a b h y x * Ideal.ofBits .f32 0x3E000000#32 + (c b h y - c b h x) := by
  have e : IntOp.cmpi .sle (BitVec.ofNat 32 x.val) (BitVec.ofNat 32 y.val) = 1#1 := by
    rw [WordCmp.cmpi_sle_ofNat (by omega) (by omega)]
    simp [hx]
  unfold lg
  rw [e]
  rfl

theorem lg_gt (ha : ∀ r l, a r l = (ar r l : EReal)) (b : Fin 2) (h : Fin 8) (y x : Fin 2048) (hx : ¬ x.val ≤ y.val) : lg a c b h y x = ⊥ := by
  have e : IntOp.cmpi .sle (BitVec.ofNat 32 x.val) (BitVec.ofNat 32 y.val) = 0#1 := by
    rw [WordCmp.cmpi_sle_ofNat (by omega) (by omega)]
    simp [hx]
  unfold lg
  rw [e, bits_bot]
  exact EReal.add_bot _

theorem lg_coe (ha : ∀ r l, a r l = (ar r l : EReal)) (hc : ∀ b h y, c b h y = (cr b h y : EReal)) (b : Fin 2) (h : Fin 8) (y x : Fin 2048) (hx : x.val ≤ y.val) :
    lg a c b h y x = (((∑ t : Fin 64, ar (row b y) (colq h t) * ar (row b x) (colk h t)) * (1 / 8) + (cr b h y - cr b h x) : ℝ) : EReal) := by
  rw [lg_le b h y x hx, qk_coe ha, bits_eighth, hc, hc, ← EReal.coe_mul, ← EReal.coe_sub, ← EReal.coe_add]

theorem row_soft (ha : ∀ r l, a r l = (ar r l : EReal)) (hc : ∀ b h y, c b h y = (cr b h y : EReal)) (b : Fin 2) (h : Fin 8) (y : Fin 2048) :
    ∃ M Z : ℝ, 0 < Z ∧ mx a c b h y = (M : EReal) ∧ ∑ x, Ideal.exp (lg a c b h y x - (M : EReal)) = (Z : EReal) := by
  unfold mx
  rw [bits_bot]
  refine soft (lg a c b h y) (fun x => ?_) y _ (lg_coe ha hc b h y y (le_refl _))
  by_cases hx : x.val ≤ y.val
  · exact Or.inr ⟨_, lg_coe ha hc b h y x hx⟩
  · exact Or.inl (lg_gt ha b h y x hx)

theorem pr_eq (ha : ∀ r l, a r l = (ar r l : EReal)) (hc : ∀ b h y, c b h y = (cr b h y : EReal)) (b : Fin 2) (h : Fin 8) (y x : Fin 2048) (M Z : ℝ) (hZ : 0 < Z)
    (hM : mx a c b h y = (M : EReal)) (hS : ∑ x, Ideal.exp (lg a c b h y x - (M : EReal)) = (Z : EReal)) :
    pr a c b h y x = Ideal.exp (lg a c b h y x - (M : EReal)) * ((1 / Z : ℝ) : EReal) := by
  unfold pr
  rw [bits_bot, bits_zero, hM, max_eq_right bot_le, hS, zero_add, Ideal.div_coe hZ.ne']

/-- A key after its query has probability zero. -/
theorem pr_gt (ha : ∀ r l, a r l = (ar r l : EReal)) (hc : ∀ b h y, c b h y = (cr b h y : EReal)) (b : Fin 2) (h : Fin 8) (y x : Fin 2048) (hx : ¬ x.val ≤ y.val) : pr a c b h y x = 0 := by
  obtain ⟨M, Z, hZ, hM, hS⟩ := row_soft ha hc b h y
  rw [pr_eq ha hc b h y x M Z hZ hM hS, lg_gt ha b h y x hx, EReal.bot_sub, Ideal.exp_bot, zero_mul]

/-- Any other's is `exp2` of its scaled logit minus the saved row constant. -/
theorem pr_le (ha : ∀ r l, a r l = (ar r l : EReal)) (hc : ∀ b h y, c b h y = (cr b h y : EReal)) (b : Fin 2) (h : Fin 8) (y x : Fin 2048) (hx : x.val ≤ y.val) :
    Ideal.exp2 (qk a b h y x * (((8 * Real.log 2)⁻¹ : ℝ) : EReal) - Ideal.div (c b h x) (Ideal.log (Ideal.ofBits .f32 0x40000000#32))
      - Ideal.div (ls a c b h y - c b h y) (Ideal.log (Ideal.ofBits .f32 0x40000000#32))) = pr a c b h y x := by
  obtain ⟨M, Z, hZ, hM, hS⟩ := row_soft ha hc b h y
  rw [pr_eq ha hc b h y x M Z hZ hM hS, lg_coe ha hc b h y x hx]
  unfold ls
  rw [hM, hS, Ideal.log_coe, if_neg (not_le.mpr hZ), log_bits_two, Ideal.div_coe log_two_ne, Ideal.div_coe log_two_ne, qk_coe ha, hc, hc]
  generalize (∑ t : Fin 64, ar (row b y) (colq h t) * ar (row b x) (colk h t)) = S
  simp only [← EReal.coe_mul, ← EReal.coe_sub, ← EReal.coe_add]
  rw [Ideal.exp2_coe, Ideal.exp_coe, ← EReal.coe_mul, EReal.coe_eq_coe_iff]
  show (2 : ℝ) ^ (_ : ℝ) = _
  rw [Real.rpow_def_of_pos (by norm_num), show (1 / Z : ℝ) = Real.exp (-Real.log Z) from by rw [Real.exp_neg, Real.exp_log hZ, one_div], ← Real.exp_add]
  congr 1
  have := log_two_ne
  field_simp
  ring

end Cert.Proof.Fox

end
-- ==== Proof.FoxPay.lean ====
/- The payloads of the value-gradient rows read at an index, over the extended reals. -/
module

public import proofs.«01_k».proof.Proof.Gen.KernelIdeal.Skeleton
public import Idealize.ShloMosaic.Lib.Pointwise
public import Idealize.ShloMosaic.Lib.VecWindow

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The block product of keys and queries restricted to head `j` of the pair. -/
def sc (j : ℕ) (k q : S512x128.Idx → EReal) (x y : Fin 512) : EReal :=
  ∑ d : Fin 128, if d.val / 64 = j then k (ix2 x d) * q (ix2 y d) else 0

/-- The lane the replicated offsets of head `j` are read at, for query `y`. -/
def lane (j : Fin 2) (y : Fin 512) : Fin 256 := ⟨128 * j.val + y.val % 128, by omega⟩

theorem sel_lo {α : Type} (d : Fin 128) (a b : α) :
    Scalar.select (IntOp.andi (IntOp.cmpi CmpIPredicate.sge (BitVec.ofNat 32 d.val) 0#32) (IntOp.cmpi CmpIPredicate.slt (BitVec.ofNat 32 d.val) 64#32)) a b
      = if d.val / 64 = 0 then a else b := by
  have h : ∀ d : Fin 128, IntOp.andi (IntOp.cmpi CmpIPredicate.sge (BitVec.ofNat 32 d.val) 0#32) (IntOp.cmpi CmpIPredicate.slt (BitVec.ofNat 32 d.val) 64#32)
      = if d.val / 64 = 0 then 1#1 else 0#1 := by decide +kernel
  rw [h d]; split <;> rfl

theorem sel_hi {α : Type} (d : Fin 128) (a b : α) :
    Scalar.select (IntOp.andi (IntOp.cmpi CmpIPredicate.sge (BitVec.ofNat 32 d.val) 64#32) (IntOp.cmpi CmpIPredicate.slt (BitVec.ofNat 32 d.val) 128#32)) a b
      = if d.val / 64 = 1 then a else b := by
  have h : ∀ d : Fin 128, IntOp.andi (IntOp.cmpi CmpIPredicate.sge (BitVec.ofNat 32 d.val) 64#32) (IntOp.cmpi CmpIPredicate.slt (BitVec.ofNat 32 d.val) 128#32)
      = if d.val / 64 = 1 then 1#1 else 0#1 := by decide +kernel
  rw [h d]; split <;> rfl

theorem sel_mask {α : Type} (b : Fin 4) (x y : Fin 512) (u v : α) :
    Scalar.select (IntOp.cmpi CmpIPredicate.sle (IntOp.addi (Scalar.muli (BitVec.ofNat 32 b.val) 512#32) (BitVec.ofNat 32 x.val))
        (IntOp.addi (Scalar.muli (BitVec.ofNat 32 b.val) 512#32) (BitVec.ofNat 32 y.val))) u v
      = if x.val ≤ y.val then u else v := by
  have e : ∀ b : Fin 4, ∀ z : Fin 512, (IntOp.addi (Scalar.muli (BitVec.ofNat 32 b.val) 512#32) (BitVec.ofNat 32 z.val)).toInt
      = 512 * b.val + z.val := by decide +kernel
  have h : IntOp.cmpi CmpIPredicate.sle (IntOp.addi (Scalar.muli (BitVec.ofNat 32 b.val) 512#32) (BitVec.ofNat 32 x.val))
        (IntOp.addi (Scalar.muli (BitVec.ofNat 32 b.val) 512#32) (BitVec.ofNat 32 y.val)) = if x.val ≤ y.val then 1#1 else 0#1 := by
    unfold IntOp.cmpi
    dsimp only
    simp only [BitVec.sle_eq_decide, e]
    by_cases hxy : x.val ≤ y.val
    · simp [hxy]
    · simp [hxy]
  rw [h]; split <;> rfl

theorem lad (f : Fin 256 → EReal) (j : Fin 2) (y : Fin 512) (k : Fin 256) (h : k.val = 128 * j.val + y.val % 128) : f k = f (lane j y) :=
  congrArg f (Fin.ext h)

theorem named_scale : (Named.named κ "scale_log2e" 1043900987#32 : Ideal .f32) = (((8 * (Real.log 2))⁻¹ : ℝ) : EReal) := rfl
theorem named_mask : (Named.named κ "mask" 4048155338#32 : Ideal .f32) = (⊥ : EReal) := rfl

/-- The exponent before the row's offset: scores of head `j` less the keys' offset. -/
def ex (j : Fin 2) (k q : S512x128.Idx → EReal) (cf : S512x256.Idx → EReal) (x y : Fin 512) : EReal :=
  sc j.val k q x y * (((8 * (Real.log 2))⁻¹ : ℝ) : EReal) - cf (ix2 x (lane j y))

section
variable (k q : Vec Ideal S512x128 .bf16) (cf : Vec Ideal S512x256 .f32) (ls : Vec Ideal S1x1x1x2x512 .f32) (x y : Fin 512)

theorem pay13_at : k0_pay13 (F := Ideal) k q cf ls (ix2 x y)
    = FloatOps.exp2 (F := Ideal) (φ := .f32) (ex 0 k q cf x y - ls (ix5 0 0 0 0 y)) := by
  unfold_payloads
  pointwise
  simp only [sel_lo]
  unfold ex sc
  congr 3
  split_ifs <;> exact lad (fun l => cf (ix2 x l)) 0 y _ (by simp only [Fin.val_zero]; omega)

theorem pay22_at : k0_pay22 (F := Ideal) k q cf ls (ix2 x y)
    = FloatOps.exp2 (F := Ideal) (φ := .f32) (ex 1 k q cf x y - ls (ix5 0 0 0 1 y)) := by
  unfold_payloads
  pointwise
  simp only [sel_hi]
  unfold ex sc
  congr 3
  split_ifs <;> exact lad (fun l => cf (ix2 x l)) 1 y _ (by simp only [Fin.val_one]; omega)

theorem pay55_at (b : Fin 4) : k0_pay55 (F := Ideal) (BitVec.ofNat 32 b.val) (Scalar.muli (BitVec.ofNat 32 b.val) 512#32) k q cf ls (ix2 x y)
    = FloatOps.exp2 (F := Ideal) (φ := .f32) ((if x.val ≤ y.val then ex 0 k q cf x y else ⊥) - ls (ix5 0 0 0 0 y)) := by
  unfold_payloads
  pointwise
  rw [sel_mask]
  simp only [sel_lo]
  unfold ex sc
  congr 4
  split_ifs <;> exact lad (fun l => cf (ix2 x l)) 0 y _ (by simp only [Fin.val_zero]; omega)

theorem pay65_at (b : Fin 4) : k0_pay65 (F := Ideal) (k0_pay62 k q cf) (k0_pay63 (Scalar.muli (BitVec.ofNat 32 b.val) 512#32)) (k0_pay64 (BitVec.ofNat 32 b.val)) ls (ix2 x y)
    = FloatOps.exp2 (F := Ideal) (φ := .f32) ((if x.val ≤ y.val then ex 1 k q cf x y else ⊥) - ls (ix5 0 0 0 1 y)) := by
  unfold_payloads
  pointwise
  rw [sel_mask]
  simp only [sel_hi]
  unfold ex sc
  congr 4
  split_ifs <;> exact lad (fun l => cf (ix2 x l)) 1 y _ (by simp only [Fin.val_one]; omega)

variable (g : Vec Ideal S512x128 .bf16) (p : FVec Ideal S512x512 .f32) (r r' : Vec Ideal S1x512x128 .f32) (d : Fin 128)

theorem pay19_at : k0_pay19 (F := Ideal) g p r (ix3 0 x d) = r (ix3 0 x d) + ∑ y, p (ix2 x y) * g (ix2 y d) := by
  unfold_payloads
  pointwise

theorem pay27_at : k0_pay27 (F := Ideal) g p r (ix3 0 x d) = r (ix3 0 x d) + ∑ y, p (ix2 x y) * g (ix2 y d) := by
  unfold_payloads
  pointwise

theorem pay59_at : k0_pay59 (F := Ideal) g p r (ix3 0 x d) = r (ix3 0 x d) + ∑ y, p (ix2 x y) * g (ix2 y d) := by
  unfold_payloads
  pointwise

theorem pay70_at : k0_pay70 (F := Ideal) g p (k0_pay69 r) (ix3 0 x d) = r (ix3 0 x d) + ∑ y, p (ix2 x y) * g (ix2 y d) := by
  unfold_payloads
  pointwise

theorem pay78_at : k0_pay78 (F := Ideal) k0_pay45 r r' (ix2 x d) = if d.val / 64 = 0 then r (ix3 0 x d) else r' (ix3 0 x d) := by
  unfold_payloads
  pointwise
  exact sel_lo d _ _

theorem pay52_at (e : S2x512x128.Idx) : k0_pay52 (F := Ideal) e = 0 := by
  unfold_payloads
  pointwise

end

/-! ### Rows of the accumulator -/

theorem row0_at (D : S2x512x128.Idx → EReal) (x : Fin 512) (d : Fin 128) :
    VecWindow.window D ![0, 0, 0] S1x512x128.size inb_S2x512x128_S1x512x128_0_0_0 (ix3 0 x d) = D (ix3 0 x d) := by
  unfold VecWindow.window
  congr 1; funext a; apply Fin.ext
  match a with
  | ⟨0, _⟩ => rfl
  | ⟨1, _⟩ => show 0 + 1 * x.val = x.val; omega
  | ⟨2, _⟩ => show 0 + 1 * d.val = d.val; omega

theorem row1_at (D : S2x512x128.Idx → EReal) (x : Fin 512) (d : Fin 128) :
    VecWindow.window D ![1, 0, 0] S1x512x128.size inb_S2x512x128_S1x512x128_1_0_0 (ix3 0 x d) = D (ix3 1 x d) := by
  unfold VecWindow.window
  congr 1; funext a; apply Fin.ext
  match a with
  | ⟨0, _⟩ => rfl
  | ⟨1, _⟩ => show 0 + 1 * x.val = x.val; omega
  | ⟨2, _⟩ => show 0 + 1 * d.val = d.val; omega

theorem put0_0 (D : S2x512x128.Idx → EReal) (w : S1x512x128.Idx → EReal) (x : Fin 512) (d : Fin 128) :
    VecWindow.put D ![0, 0, 0] S1x512x128.size w (ix3 0 x d) = w (ix3 0 x d) := by
  rw [← row0_at (VecWindow.put D ![0, 0, 0] S1x512x128.size w), VecWindow.window_put_same]

theorem put1_1 (D : S2x512x128.Idx → EReal) (w : S1x512x128.Idx → EReal) (x : Fin 512) (d : Fin 128) :
    VecWindow.put D ![1, 0, 0] S1x512x128.size w (ix3 1 x d) = w (ix3 0 x d) := by
  rw [← row1_at (VecWindow.put D ![1, 0, 0] S1x512x128.size w), VecWindow.window_put_same]

theorem put0_1 (D : S2x512x128.Idx → EReal) (w : S1x512x128.Idx → EReal) (x : Fin 512) (d : Fin 128) :
    VecWindow.put D ![0, 0, 0] S1x512x128.size w (ix3 1 x d) = D (ix3 1 x d) := by
  unfold VecWindow.put
  exact dif_neg fun h => absurd (h 0).2 (by show ¬ (1 < 0 + 1); omega)

theorem put1_0 (D : S2x512x128.Idx → EReal) (w : S1x512x128.Idx → EReal) (x : Fin 512) (d : Fin 128) :
    VecWindow.put D ![1, 0, 0] S1x512x128.size w (ix3 0 x d) = D (ix3 0 x d) := by
  unfold VecWindow.put
  exact dif_neg fun h => absurd (h 0).1 (by show ¬ (1 ≤ 0); omega)

end Cert.Proof.KernelIdeal

end
-- ==== Proof.FoxDvIdeal.lean ====
/- The value-gradient block of a program at an index, over the extended reals. -/
module

public import proofs.«01_k».proof.Proof.FoxDvDef
public import proofs.«01_k».proof.Proof.FoxPay

@[expose] public section

set_option maxRecDepth 16384
set_option maxHeartbeats 4000000

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- Row `y` of query block `n`. -/
def qr (n : Fin 4) (y : Fin 512) : Fin 2048 := ⟨512 * n.val + y.val, by omega⟩

/-- Query block `n` of a whole operand. -/
def qblk (D : S2048x128.Idx → EReal) (n : Fin 4) : S512x128.Idx → EReal := fun e => D (ix2 (qr n (e 0)) (e 1))

theorem win2 (D : S2048x128.Idx → EReal) (n : Fin 4) (off : Fin 2 → ℕ) (inb : ∀ a, off a + S512x128.size a ≤ S2048x128.size a) (h : off = ![512 * n.val, 0]) :
    VecWindow.window D off S512x128.size inb = qblk D n := by
  subst h
  funext e
  unfold VecWindow.window qblk
  congr 1; funext a; apply Fin.ext
  match a with
  | ⟨0, _⟩ => show 512 * n.val + 1 * (e 0).val = 512 * n.val + (e 0).val; omega
  | ⟨1, _⟩ => show 0 + 1 * (e 1).val = (e 1).val; omega

theorem win5 (D : S1x1x4x2x512.Idx → EReal) (n : Fin 4) (j : Fin 2) (y : Fin 512) (off : Fin 5 → ℕ) (inb : ∀ a, off a + S1x1x1x2x512.size a ≤ S1x1x4x2x512.size a) (h : off = ![0, 0, n.val, 0, 0]) :
    VecWindow.window D off S1x1x1x2x512.size inb (ix5 0 0 0 j y) = D (ix5 0 0 n j y) := by
  subst h
  unfold VecWindow.window
  congr 1; funext a; apply Fin.ext
  match a with
  | ⟨0, _⟩ => rfl
  | ⟨1, _⟩ => rfl
  | ⟨2, _⟩ => show n.val + 1 * 0 = n.val; omega
  | ⟨3, _⟩ => show 0 + 1 * j.val = j.val; omega
  | ⟨4, _⟩ => show 0 + 1 * y.val = y.val; omega

theorem winCf (D : S512x256.Idx → EReal) : VecWindow.window D ![0, 0] S512x256.size inb_S512x256_S512x256_0_0 = D := by
  funext e
  unfold VecWindow.window
  congr 1; funext a; apply Fin.ext
  match a with
  | ⟨0, _⟩ => show 0 + 1 * (e 0).val = (e 0).val; omega
  | ⟨1, _⟩ => show 0 + 1 * (e 1).val = (e 1).val; omega

theorem winK (D : S512x128.Idx → EReal) : VecWindow.window D ![0, 0] S512x128.size inb_S512x128_S512x128_0_0 = D := by
  funext e
  unfold VecWindow.window
  congr 1; funext a; apply Fin.ext
  match a with
  | ⟨0, _⟩ => show 0 + 1 * (e 0).val = (e 0).val; omega
  | ⟨1, _⟩ => show 0 + 1 * (e 1).val = (e 1).val; omega

/-! ### The blocks a program's windows take -/

theorem trips4 (i : grid0.Coords) : (k0_t4_loop i).trips = 3 - (i 2).val := by
  have h : ∀ b : Fin 4, (Scf.Loop.trips ⟨Scalar.addi (BitVec.ofNat 32 b.val) 1#32, Scalar.addi (Scalar.addi (BitVec.ofNat 32 b.val) 1#32) (Scalar.muli (Scalar.divsi (Scalar.subi 4#32 (Scalar.addi (BitVec.ofNat 32 b.val) 1#32)) 1#32) 1#32), 1#32⟩) = 3 - b.val := by decide
  exact h (i 2)

theorem off12 (i : grid0.Coords) : k0_off12 i = ![512 * (i 2).val, 0] := by
  have h : ∀ b : Fin 4, (Scalar.indexCast (Scalar.muli (BitVec.ofNat 32 b.val) 512#32)).toNat = 512 * b.val := by decide
  funext a
  match a with
  | ⟨0, _⟩ => exact h (i 2)
  | ⟨1, _⟩ => rfl

theorem off13 (i : grid0.Coords) : k0_off13 i = ![0, 0, (i 2).val, 0, 0] := by
  have h : ∀ b : Fin 4, (Scalar.indexCast (BitVec.ofNat 32 b.val)).toNat = b.val := by decide
  funext a
  match a with
  | ⟨0, _⟩ => rfl
  | ⟨1, _⟩ => rfl
  | ⟨2, _⟩ => exact h (i 2)
  | ⟨3, _⟩ => rfl
  | ⟨4, _⟩ => rfl

theorem off17 (i : grid0.Coords) (k : Fin (k0_t4_loop i).trips) : k0_off17 i k = ![512 * ((i 2).val + 1 + k.val), 0] := by
  have h : ∀ b k : Fin 4, k.val < 3 - b.val → (Scalar.indexCast (Scalar.muli (Scf.iv (Scalar.addi (BitVec.ofNat 32 b.val) 1#32) 1#32 k.val) 512#32)).toNat = 512 * (b.val + 1 + k.val) := by decide
  have hk : k.val < 3 - (i 2).val := (trips4 i) ▸ k.isLt
  funext a
  match a with
  | ⟨0, _⟩ => exact h (i 2) ⟨k.val, by omega⟩ hk
  | ⟨1, _⟩ => rfl

theorem off18 (i : grid0.Coords) (k : Fin (k0_t4_loop i).trips) : k0_off18 i k = ![0, 0, (i 2).val + 1 + k.val, 0, 0] := by
  have h : ∀ b k : Fin 4, k.val < 3 - b.val → (Scalar.indexCast (Scf.iv (Scalar.addi (BitVec.ofNat 32 b.val) 1#32) 1#32 k.val)).toNat = b.val + 1 + k.val := by decide
  have hk : k.val < 3 - (i 2).val := (trips4 i) ▸ k.isLt
  funext a
  match a with
  | ⟨0, _⟩ => rfl
  | ⟨1, _⟩ => rfl
  | ⟨2, _⟩ => exact h (i 2) ⟨k.val, by omega⟩ hk
  | ⟨3, _⟩ => rfl
  | ⟨4, _⟩ => rfl

/-- The weight key `x` of block `b` gives query `y` of block `n`, head `j`. -/
def pt (b : ℕ) (D3 : S2048x128.Idx → EReal) (D4 : S512x128.Idx → EReal) (D6 : S1x1x4x2x512.Idx → EReal) (D8 : S512x256.Idx → EReal) (j : Fin 2) (n : Fin 4) (x y : Fin 512) : EReal :=
  FloatOps.exp2 (F := Ideal) (φ := .f32) ((if n.val = b ∧ ¬ x.val ≤ y.val then ⊥ else ex j D4 (qblk D3 n) D8 x y) - D6 (ix5 0 0 n j y))

/-- What query block `n` adds. -/
def tm (b : ℕ) (D3 : S2048x128.Idx → EReal) (D4 : S512x128.Idx → EReal) (D6 : S1x1x4x2x512.Idx → EReal) (D7 : S2048x128.Idx → EReal) (D8 : S512x256.Idx → EReal) (j : Fin 2) (n : Fin 4) (x : Fin 512) (d : Fin 128) : EReal :=
  ∑ y : Fin 512, pt b D3 D4 D6 D8 j n x y * qblk D7 n (ix2 y d)

section
variable (i : grid0.Coords) (D3 : S2048x128.Idx → EReal) (D4 : S512x128.Idx → EReal) (D6 : S1x1x4x2x512.Idx → EReal) (D7 : S2048x128.Idx → EReal) (D8 : S512x256.Idx → EReal) (D : S2x512x128.Idx → EReal) (j : Fin 2) (x : Fin 512) (d : Fin 128)

theorem dvTrip_at (k : Fin (k0_t4_loop i).trips) (n : Fin 4) (hn : n.val = (i 2).val + 1 + k.val) :
    dvTrip (F := Ideal) i D4 D3 D6 D7 D8 k D (ix3 j x d) = D (ix3 j x d) + tm (i 2).val D3 D4 D6 D7 D8 j n x d := by
  have h17 : k0_off17 i k = ![512 * n.val, 0] := by rw [off17, hn]
  have h18 : k0_off18 i k = ![0, 0, n.val, 0, 0] := by rw [off18, hn]
  have hne : ¬ n.val = (i 2).val := by omega
  unfold dvTrip tm pt
  dsimp only
  rw [win2 D3 n _ _ h17, win2 D7 n _ _ h17, winCf]
  match j with
  | ⟨0, _⟩ =>
    refine (put1_0 _ _ _ _).trans ((put0_0 _ _ _ _).trans ((pay19_at _ _ _ _ _).trans ?_))
    rw [row0_at]
    simp only [pay13_at, hne, false_and, if_false]
    refine congrArg (D (ix3 0 x d) + ·) (Finset.sum_congr rfl fun y _ => ?_)
    rw [win5 D6 n 0 y _ _ h18]
    rfl
  | ⟨1, _⟩ =>
    refine (put1_1 _ _ _ _).trans ((pay27_at _ _ _ _ _).trans ?_)
    rw [row1_at]
    simp only [pay22_at, hne, false_and, if_false]
    refine congrArg (D (ix3 1 x d) + ·) (Finset.sum_congr rfl fun y _ => ?_)
    rw [win5 D6 n 1 y _ _ h18]
    rfl

theorem dvDiag_at :
    dvDiag (F := Ideal) i D4 D3 D6 D7 D8 D (ix3 j x d) = D (ix3 j x d) + tm (i 2).val D3 D4 D6 D7 D8 j (i 2) x d := by
  unfold dvDiag tm pt
  dsimp only
  rw [win2 D3 (i 2) _ _ (off12 i), win2 D7 (i 2) _ _ (off12 i), winCf]
  have hm : ∀ (y : Fin 512) (e : EReal), (if (i 2).val = (i 2).val ∧ ¬ x.val ≤ y.val then ⊥ else e) = if x.val ≤ y.val then e else ⊥ := fun y e => by
    by_cases h : x.val ≤ y.val
    · rw [if_pos h, if_neg fun h' => h'.2 h]
    · rw [if_neg h, if_pos ⟨rfl, h⟩]
  match j with
  | ⟨0, _⟩ =>
    refine (put1_0 _ _ _ _).trans ((put0_0 _ _ _ _).trans ((pay59_at _ _ _ _ _).trans ?_))
    rw [row0_at]
    refine congrArg (D (ix3 0 x d) + ·) (Finset.sum_congr rfl fun y _ => ?_)
    rw [hm, pay55_at D4 (qblk D3 (i 2)) D8 _ x y (i 2), win5 D6 (i 2) 0 y _ _ (off13 i)]
    rfl
  | ⟨1, _⟩ =>
    refine (put1_1 _ _ _ _).trans ((pay70_at _ _ _ _ _).trans ?_)
    rw [row1_at, put0_1]
    refine congrArg (D (ix3 1 x d) + ·) (Finset.sum_congr rfl fun y _ => ?_)
    rw [hm, pay65_at D4 (qblk D3 (i 2)) D8 _ x y (i 2), win5 D6 (i 2) 1 y _ _ (off13 i)]
    rfl

/-- The term of block `n`, none past the last. -/
def tmN (n : ℕ) : EReal := if h : n < 4 then tm (i 2).val D3 D4 D6 D7 D8 j ⟨n, h⟩ x d else 0

theorem dvIter_at (N : ℕ) (hN : N ≤ 3 - (i 2).val) :
    dvIter (F := Ideal) i D4 D3 D6 D7 D8 D N (ix3 j x d)
      = D (ix3 j x d) + ∑ k ∈ Finset.range N, tmN i D3 D4 D6 D7 D8 j x d ((i 2).val + 1 + k) := by
  induction N with
  | zero => rw [Finset.range_zero, Finset.sum_empty, add_zero]; rfl
  | succ N ih =>
    have h : N < (k0_t4_loop i).trips := by rw [trips4]; omega
    have hn : (i 2).val + 1 + N < 4 := by omega
    rw [dvIter.eq_2, dif_pos h, dvTrip_at i D3 D4 D6 D7 D8 _ j x d ⟨N, h⟩ ⟨(i 2).val + 1 + N, hn⟩ rfl, ih (by omega), Finset.sum_range_succ, add_assoc]
    congr 2
    unfold tmN
    rw [dif_pos hn]

/-- The block written, at an index: the sum over the query blocks not before the key block. -/
theorem dvOut_at : dvOut (F := Ideal) i D3 D4 D6 D7 D8 (ix2 x d)
    = ∑ n : Fin 4, if (i 2).val ≤ n.val then tm (i 2).val D3 D4 D6 D7 D8 ⟨d.val / 64, by omega⟩ n x d else 0 := by
  have hrow : ∀ j : Fin 2, dvIter (F := Ideal) i D4 D3 D6 D7 D8 (dvDiag i D4 D3 D6 D7 D8 (k0_pay52 (F := Ideal))) (k0_t4_loop i).trips (ix3 j x d)
      = ∑ n : Fin 4, if (i 2).val ≤ n.val then tm (i 2).val D3 D4 D6 D7 D8 j n x d else 0 := fun j => by
    rw [trips4, dvIter_at i D3 D4 D6 D7 D8 _ j x d _ le_rfl, dvDiag_at, pay52_at, zero_add]
    have e : tm (i 2).val D3 D4 D6 D7 D8 j (i 2) x d = tmN i D3 D4 D6 D7 D8 j x d (i 2).val := by
      unfold tmN; split
      · rfl
      · next h => exact absurd (i 2).isLt h
    have e' : ∀ n : Fin 4, tm (i 2).val D3 D4 D6 D7 D8 j n x d = tmN i D3 D4 D6 D7 D8 j x d n.val := fun n => by
      unfold tmN; split
      · rfl
      · next h => exact absurd n.isLt h
    rw [e]
    simp only [e']
    generalize tmN i D3 D4 D6 D7 D8 j x d = f
    have hb : ∀ b : Fin 4, f b.val + ∑ k ∈ Finset.range (3 - b.val), f (b.val + 1 + k) = ∑ n : Fin 4, if b.val ≤ n.val then f n.val else 0 := by
      intro b
      rw [Fin.sum_univ_four]
      fin_cases b <;> simp [Finset.sum_range_succ, add_assoc]
    exact hb (i 2)
  unfold dvOut
  dsimp only
  rw [winK]
  refine (pay78_at _ _ _ _).trans ?_
  by_cases hd : d.val / 64 = 0
  · rw [if_pos hd, row0_at, hrow 0]
    have ej : (0 : Fin 2) = ⟨d.val / 64, by omega⟩ := Fin.ext hd.symm
    rw [← ej]
  · rw [if_neg hd, row1_at, hrow 1]
    have ej : (1 : Fin 2) = ⟨d.val / 64, by omega⟩ := Fin.ext (by show 1 = d.val / 64; omega)
    rw [← ej]

end

end Cert.Proof.KernelIdeal

end
-- ==== Proof.FoxTie.lean ====
/- The block the kernel writes, from blocks that are those of `a`, `c`, `o`, is the reference's. -/
module

public import proofs.«01_k».proof.Proof.FoxMath
public import proofs.«01_k».proof.Proof.FoxDvIdeal

@[expose] public section

set_option maxRecDepth 16384
set_option maxHeartbeats 4000000

noncomputable section

namespace Cert.Proof.Fox

open Idealize.ShloMosaic

/-- Head `j` of pair `g`; position `y` of block `n`; column `d` of pair `g`, in the output, the queries' part, the keys' part. -/
def hd (g : Fin 4) (j : Fin 2) : Fin 8 := ⟨g.val * 2 + j.val, by omega⟩
def ps (n : Fin 4) (y : Fin 512) : Fin 2048 := ⟨n.val * 512 + y.val, by omega⟩
def co (g : Fin 4) (d : Fin 128) : Fin 512 := ⟨g.val * 128 + d.val, by omega⟩
def cq (g : Fin 4) (d : Fin 128) : Fin 2048 := ⟨g.val * 128 + d.val, by omega⟩
def ck (g : Fin 4) (d : Fin 128) : Fin 2048 := ⟨512 + (g.val * 128 + d.val), by omega⟩

/-- The gradient of the values: its row `x` of batch `b`, column `l` (head `l / 64`). -/
def dval (a : Fin 4096 → Fin 2048 → EReal) (c : Fin 2 → Fin 8 → Fin 2048 → EReal) (o : Fin 4096 → Fin 512 → EReal) (b : Fin 2) (x : Fin 2048) (l : Fin 512) : EReal :=
  ∑ y : Fin 2048, o (row b y) l * pr a c b ⟨l.val / 64, by omega⟩ y x

theorem sum_split (m n : ℕ) (F : Fin (m * n) → EReal) :
    ∑ i, F i = ∑ p : Fin m, ∑ t : Fin n, F ⟨p.val * n + t.val, by
      calc p.val * n + t.val < p.val * n + n := by omega
        _ = (p.val + 1) * n := by ring
        _ ≤ m * n := Nat.mul_le_mul_right n p.isLt⟩ := by
  rw [← Fintype.sum_prod_type']
  exact (Fintype.sum_equiv finProdFinEquiv _ _ fun p => congrArg F (Fin.ext (by simp only [finProdFinEquiv_apply_val]; ring))).symm

end Cert.Proof.Fox

namespace Cert.Proof.KernelIdeal

open Cert.KernelIdeal Cert.KernelIdeal.Gen Cert.Proof.Fox
open Idealize.ShloMosaic Idealize.ShloMosaic.TcCoe

variable {a : Fin 4096 → Fin 2048 → EReal} {c : Fin 2 → Fin 8 → Fin 2048 → EReal} {o : Fin 4096 → Fin 512 → EReal}
variable {ar : Fin 4096 → Fin 2048 → ℝ} {cr : Fin 2 → Fin 8 → Fin 2048 → ℝ}
variable {D3 : S2048x128.Idx → EReal} {D4 : S512x128.Idx → EReal} {D6 : S1x1x4x2x512.Idx → EReal} {D7 : S2048x128.Idx → EReal} {D8 : S512x256.Idx → EReal}
variable {b : Fin 2} {g kb : Fin 4}

theorem qr_ps (n : Fin 4) (y : Fin 512) : qr n y = ps n y := Fin.ext (by simp only [qr, ps]; omega)

theorem sc_qk (h3 : ∀ y d, D3 (ix2 y d) = a (row b y) (cq g d)) (h4 : ∀ x d, D4 (ix2 x d) = a (row b (ps kb x)) (ck g d))
    (j : Fin 2) (n : Fin 4) (x y : Fin 512) : sc j.val D4 (qblk D3 n) x y = qk a b (hd g j) (ps n y) (ps kb x) := by
  unfold sc
  refine (sum_split 2 64 _).trans ?_
  rw [Finset.sum_eq_single j]
  · unfold qk
    refine Finset.sum_congr rfl fun t _ => ?_
    have e : ∀ d, qblk D3 n (ix2 y d) = a (row b (ps n y)) (cq g d) := fun d => by
      rw [← qr_ps]
      exact h3 (qr n y) d
    rw [if_pos (by show (j.val * 64 + t.val) / 64 = j.val; omega), h4, e, mul_comm]
    refine congrArg₂ (fun u v => a (row b (ps n y)) u * a (row b (ps kb x)) v) (Fin.ext ?_) (Fin.ext ?_)
    · show g.val * 128 + (j.val * 64 + t.val) = (g.val * 2 + j.val) * 64 + t.val
      ring
    · show 512 + (g.val * 128 + (j.val * 64 + t.val)) = 512 + ((g.val * 2 + j.val) * 64 + t.val)
      ring
  · intro p _ hp
    refine Finset.sum_eq_zero fun t _ => if_neg ?_
    show ¬ (p.val * 64 + t.val) / 64 = j.val
    have : p.val ≠ j.val := fun h => hp (Fin.ext h)
    omega
  · exact fun h => absurd (Finset.mem_univ j) h

variable (ha : ∀ r l, a r l = (ar r l : EReal)) (hc : ∀ b h y, c b h y = (cr b h y : EReal))
  (h3 : ∀ y d, D3 (ix2 y d) = a (row b y) (cq g d)) (h4 : ∀ x d, D4 (ix2 x d) = a (row b (ps kb x)) (ck g d))
  (h6 : ∀ n j y, D6 (ix5 0 0 n j y) = Ideal.div (ls a c b (hd g j) (ps n y) - c b (hd g j) (ps n y)) (Ideal.log (Ideal.ofBits .f32 0x40000000#32)))
  (h7 : ∀ y d, D7 (ix2 y d) = o (row b y) (co g d))
  (h8 : ∀ x j y, D8 (ix2 x (lane j y)) = Ideal.div (c b (hd g j) (ps kb x)) (Ideal.log (Ideal.ofBits .f32 0x40000000#32)))

include ha hc h3 h4 h6 h8 in
theorem pt_pr (j : Fin 2) (n : Fin 4) (x y : Fin 512) (hn : kb.val ≤ n.val) :
    pt kb.val D3 D4 D6 D8 j n x y = pr a c b (hd g j) (ps n y) (ps kb x) := by
  show Ideal.exp2 ((if _ then _ else _) - _) = _
  rw [h6]
  by_cases hm : n.val = kb.val ∧ ¬ x.val ≤ y.val
  · rw [if_pos hm, EReal.bot_sub, Ideal.exp2_bot, pr_gt ha hc]
    show ¬ kb.val * 512 + x.val ≤ n.val * 512 + y.val
    omega
  · rw [if_neg hm]
    unfold ex
    rw [h8, sc_qk h3 h4]
    refine pr_le ha hc b (hd g j) (ps n y) (ps kb x) ?_
    show kb.val * 512 + x.val ≤ n.val * 512 + y.val
    omega

include ha hc h3 h4 h6 h7 h8 in
theorem dvOut_dval (i : grid0.Coords) (hi : (i 2).val = kb.val) (x : Fin 512) (d : Fin 128) :
    dvOut (F := Ideal) i D3 D4 D6 D7 D8 (ix2 x d) = dval a c o b (ps kb x) (co g d) := by
  rw [dvOut_at, hi]
  unfold dval
  refine Eq.trans (Finset.sum_congr rfl fun n _ => ?_) (sum_split 4 512 _).symm
  have hh : (⟨(co g d).val / 64, by omega⟩ : Fin 8) = hd g ⟨d.val / 64, by omega⟩ := Fin.ext (by show (g.val * 128 + d.val) / 64 = g.val * 2 + d.val / 64; omega)
  by_cases hn : kb.val ≤ n.val
  · rw [if_pos hn]
    refine Finset.sum_congr rfl fun y _ => ?_
    rw [pt_pr ha hc h3 h4 h6 h8 _ n x y hn, hh, mul_comm]
    refine congrArg₂ (· * ·) ?_ rfl
    show D7 (ix2 (qr n y) d) = _
    rw [h7, qr_ps]
    rfl
  · rw [if_neg hn]
    refine (Finset.sum_eq_zero fun y _ => ?_).symm
    rw [pr_gt ha hc, mul_zero]
    show ¬ kb.val * 512 + x.val ≤ n.val * 512 + y.val
    omega

end Cert.Proof.KernelIdeal

end
-- ==== Proof.FoxArr.lean ====
/- The value-gradient array after the run. -/
module

public import proofs.«01_k».proof.Proof.FoxFrame
public import proofs.«01_k».proof.Proof.FoxHost
public import proofs.«01_k».proof.Proof.FoxTie

@[expose] public section

set_option maxRecDepth 16384
set_option maxHeartbeats 4000000

noncomputable section

namespace Cert.Proof.KernelIdeal

open Cert.KernelIdeal Cert.KernelIdeal.Gen Cert.Proof.Fox
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ) (ρ : Dev nD → PrngReg)
variable {ar : Dev nD → Fin 4096 → Fin 2048 → ℝ} {cr : Dev nD → Fin 2 → Fin 8 → Fin 2048 → ℝ}

/-- The batch, head pair and key block of a point. -/
def pb (t : Fin cfg0.N) : Fin 2 := ⟨(grid0.coords t 0).val, (co_lt t).1⟩
def pg (t : Fin cfg0.N) : Fin 4 := ⟨(grid0.coords t 1).val, (co_lt t).2.1⟩
def pk (t : Fin cfg0.N) : Fin 4 := ⟨(grid0.coords t 2).val, (co_lt t).2.2⟩

theorem dvBlk_at (c : Dev nD) (t : Fin cfg0.N) (ha : ∀ r l, fa m c r l = (ar c r l : EReal)) (hc : ∀ b h y, fc m c b h y = (cr c b h y : EReal)) (x : Fin 512) (d : Fin 128) :
    dvBlk m c t (ix2 x d) = dval (fa m c) (fc m c) (fo m c) (pb t) (ps (pk t) x) (co (pg t) d) := by
  unfold dvBlk
  refine dvOut_dval (b := pb t) (g := pg t) (kb := pk t) ha hc (fun y d => ?_) (fun x d => ?_) (fun n j y => ?_) (fun y d => ?_) (fun x j y => ?_) _ rfl x d
  · rw [iblk0_at]
    exact congrArg₂ (fa m c) (Fin.ext (by simp only [row, pb]; omega)) (Fin.ext (by simp only [cq, pg]; omega))
  · rw [iblk1_at]
    exact congrArg₂ (fa m c) (Fin.ext (by simp only [row, pb, ps, pk]; omega)) (Fin.ext (by simp only [ck, pg]; omega))
  · rw [iblk3_at, v37_at]
    rfl
  · rw [iblk4_at]
    exact congrArg₂ (fo m c) (Fin.ext (by simp only [row, pb]; omega)) (Fin.ext (by simp only [co, pg]; omega))
  · rw [iblk5_at, v43_at]
    have e1 : ∀ u, (⟨(2048 * (grid0.coords t 0).val + 512 * (grid0.coords t 2).val + x.val) / 2048, u⟩ : Fin 2) = pb t := fun u => Fin.ext (by have := co_lt t; simp only [pb]; omega)
    have e2 : ∀ u, (⟨(2048 * (grid0.coords t 0).val + 512 * (grid0.coords t 2).val + x.val) % 2048, u⟩ : Fin 2048) = ps (pk t) x := fun u => Fin.ext (by have := co_lt t; simp only [ps, pk]; omega)
    have e3 : ∀ u, (⟨(256 * (grid0.coords t 1).val + (lane j y).val) / 128, u⟩ : Fin 8) = hd (pg t) j := fun u => Fin.ext (by simp only [lane, hd, pg]; omega)
    simp only [e1, e2, e3]

theorem arr11 (c : Dev nD) (ha : ∀ r l, fa m c r l = (ar c r l : EReal)) (hc : ∀ b h y, fc m c b h y = (cr c b h y : EReal)) :
    (datF m 0 c).arrAt 11 cfg0.N = fun e : S4096x512.Idx => dval (fa m c) (fc m c) (fo m c) ⟨(e 0).val / 2048, by have : (e 0).val < 4096 := (e 0).isLt; omega⟩ ⟨(e 0).val % 2048, Nat.mod_lt _ (by omega)⟩ (e 1) := by
  refine (datF m 0 c).arrAt_eq_of_covers 11 _ (by decide +kernel) fun t hf y => ?_
  rw [datF_after11]
  have hi := (idx_all t).2.2.2.2.2
  have h0 : win0_11.index t 0 = 4 * (grid0.coords t 0).val + (grid0.coords t 2).val := by rw [hi]; rfl
  have h1 : win0_11.index t 1 = (grid0.coords t 1).val := by rw [hi]; rfl
  have hc' := co_lt t
  have hy0 : (y 0).val < 512 := (y 0).isLt
  have hy : (y : S512x128.Idx) = ix2 (y 0) (y 1) := by
    funext a
    match a with
    | ⟨0, _⟩ => rfl
    | ⟨1, _⟩ => rfl
  refine Eq.trans ((congrArg (dvBlk m c t) hy).trans (dvBlk_at m c t ha hc (y 0) (y 1))) ?_
  refine congr (congr (congrArg _ (Fin.ext ?_)) (Fin.ext ?_)) (Fin.ext ?_)
  · blk_simp
    simp only [pb, h0]
    omega
  · blk_simp
    simp only [ps, pk, h0]
    omega
  · blk_simp
    simp only [co, pg, h1]

theorem runV (ha : ∀ c r l, fa m c r l = (ar c r l : EReal)) (hc : ∀ c b h y, fc m c b h y = (cr c b h y : EReal)) :
    θ_run defs (onTc (τ := τ) (main (F := Ideal))) ⟨m, fun _ => 0, ρ⟩ (fun r => ∀ c : Dev nD,
      r.2.mem ((c.tc : Thread nD τ).loc main_v44_2) = (fun e : S4096x512.Idx => dval (fa m c) (fc m c) (fo m c) ⟨(e 0).val / 2048, by have : (e 0).val < 4096 := (e 0).isLt; omega⟩ ⟨(e 0).val % 2048, Nat.mod_lt _ (by omega)⟩ (e 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨((Pipeline.Dat.toRForget_arrAt_iff (datF m 0 c) (fgt := outs) (w := 11) rfl cfg0.N _).mp ((h.1 c).1 11)).trans (arr11 m c (ha c) (hc c)),
       (Pipeline.RDat.FramePost.arr_in h.1 c 7 rfl).trans ((datF_A m c 7).trans (V_main_arg0 m c)),
       ((h.1 c).2 main_arg1 (Pipeline.mem_restRefs_of main_arg1 (by decide) (by decide))).trans (V_main_arg1 m c),
       (Pipeline.RDat.FramePost.arr_in h.1 c 4 rfl).trans ((datF_A m c 4).trans (V_main_arg2 m c))⟩) (runF m ρ)

end Cert.Proof.KernelIdeal

end
-- ==== Proof.FoxRef.lean ====
/- The reference's result at an index. -/
module

public import proofs.«01_k».proof.Proof.Gen.ReferenceIdeal.Read
public import proofs.«01_k».proof.Proof.FoxSpec
public import Idealize.ShloMosaic.Lib.Pointwise
public import Idealize.ShloMosaic.Lib.StableHlo.ReadAt

@[expose] public section

set_option maxRecDepth 16384
set_option maxHeartbeats 4000000

noncomputable section

namespace Cert.Proof.ReferenceIdeal

open Cert.ReferenceIdeal Cert.ReferenceIdeal.Gen Cert.ReferenceIdeal.Read
open Idealize.ShloMosaic Idealize.ShloMosaic.TcCoe Idealize.ShloMosaic.Tactic

variable (x0 : (⟨S4096x2048, .bf16⟩ : BufTy).Contents (Elt Ideal)) (x1 : (⟨S2x8x2048, .f32⟩ : BufTy).Contents (Elt Ideal)) (x2 : (⟨S4096x512, .bf16⟩ : BufTy).Contents (Elt Ideal))

/-- The arguments as functions of their coordinates. -/
abbrev fa : Fin 4096 → Fin 2048 → EReal := fun r l => x0 (ix2 r l)
abbrev fc : Fin 2 → Fin 8 → Fin 2048 → EReal := fun b h y => x1 (ix3 b h y)
abbrev fo : Fin 4096 → Fin 512 → EReal := fun r l => x2 (ix2 r l)

theorem v3_at (b : Fin 2) (h : Fin 8) (y : Fin 2048) (t : Fin 64) : val_main_v3 (F := Ideal) x0 (ix4 b h y t) = fa x0 (Fox.row b y) (Fox.colq h t) := by
  unfold val_main_v3 val_main_v2 val_main_v1 val_main_v0
  pointwise
  rfl

theorem v7_at (b : Fin 2) (h : Fin 8) (y : Fin 2048) (t : Fin 64) : val_main_v7 (F := Ideal) x0 (ix4 b h y t) = fa x0 (Fox.row b y) (Fox.colk h t) := by
  unfold val_main_v7 val_main_v6 val_main_v5 val_main_v4
  pointwise
  rfl

theorem v24_at (b : Fin 2) (h : Fin 8) (y x : Fin 2048) : val_main_v24 (F := Ideal) x0 (ix4 b h y x) = Fox.qk (fa x0) b h y x := by
  refine Eq.trans ?_ (Finset.sum_congr rfl fun t _ => congrArg₂ (· * ·) (v3_at x0 b h y t) (v7_at x0 b h x t))
  unfold val_main_v24
  generalize val_main_v3 (F := Ideal) x0 = X
  generalize val_main_v7 (F := Ideal) x0 = Y
  pointwise

theorem v23_at (b : Fin 2) (h : Fin 8) (y x : Fin 2048) : val_main_v23_0 (F := Ideal) x1 (ix4 b h y x)
    = Scalar.select (IntOp.cmpi .sle (BitVec.ofNat 32 x.val) (BitVec.ofNat 32 y.val)) (fc x1 b h y - fc x1 b h x) (Ideal.ofBits .f32 0xFF800000#32) := by
  unfold val_main_v23_0 val_main_v23_1 val_main_v22 val_main_v21 val_main_v20 val_main_v19 val_main_v18 val_main_v17 val_main_v16 val_main_v15 val_main_v14 val_main_v13 val_main_v12 val_main_call0_v2 val_main_call0_v0 val_main_cst
  pointwise
  rfl

theorem v27_at (b : Fin 2) (h : Fin 8) (y x : Fin 2048) : val_main_v27 (F := Ideal) x0 x1 (ix4 b h y x) = Fox.lg (fa x0) (fc x1) b h y x := by
  unfold Fox.lg
  rw [← v24_at x0, ← v23_at x1]
  rfl

theorem v28_at (b : Fin 2) (h : Fin 8) (y : Fin 2048) : val_main_v28 (F := Ideal) x0 x1 (ix3 b h y) = Fox.mx (fa x0) (fc x1) b h y := by
  unfold Fox.mx
  rw [show Fox.lg (fa x0) (fc x1) b h y = fun x => val_main_v27 (F := Ideal) x0 x1 (ix4 b h y x) from funext fun x => (v27_at x0 x1 b h y x).symm]
  unfold val_main_v28 val_main_cst_1
  generalize val_main_v27 (F := Ideal) x0 x1 = X
  pointwise

theorem v48_at (b : Fin 2) (h : Fin 8) (y x : Fin 2048) : val_main_v48 (F := Ideal) x0 x1 (ix4 b h y x)
    = Ideal.exp (Fox.lg (fa x0) (fc x1) b h y x - max (Ideal.ofBits .f32 0xFF800000#32) (Fox.mx (fa x0) (fc x1) b h y)) := by
  have e : val_main_v46 (F := Ideal) x0 x1 (ix4 b h y x) = val_main_v35 (F := Ideal) x0 x1 (ix3 b h y) := by
    unfold val_main_v46 val_main_v45
    generalize val_main_v35 (F := Ideal) x0 x1 = X
    pointwise
  have e1 : val_main_v35 (F := Ideal) x0 x1 (ix3 b h y) = max (val_main_v34 (F := Ideal) (ix3 b h y)) (val_main_v28 (F := Ideal) x0 x1 (ix3 b h y)) :=
    (val_main_v35_apply x0 x1 (ix3 b h y)).trans (Ideal.maximumf_def _ _)
  have e2 : val_main_v34 (F := Ideal) (ix3 b h y) = Ideal.ofBits .f32 0xFF800000#32 := rfl
  have e3 : val_main_v48 (F := Ideal) x0 x1 (ix4 b h y x) = Ideal.exp (val_main_v27 (F := Ideal) x0 x1 (ix4 b h y x) - val_main_v46 (F := Ideal) x0 x1 (ix4 b h y x)) := rfl
  rw [e3, e, e1, e2, v27_at, v28_at]

theorem v49_at (b : Fin 2) (h : Fin 8) (y : Fin 2048) : val_main_v49 (F := Ideal) x0 x1 (ix3 b h y)
    = Ideal.ofBits .f32 0x00000000#32 + ∑ x, val_main_v48 (F := Ideal) x0 x1 (ix4 b h y x) := by
  rw [val_main_v49_apply]
  refine congrArg₂ (· + ·) rfl (Finset.sum_congr rfl fun x _ => congrArg _ (funext fun d => ?_))
  match d with
  | ⟨0, _⟩ => rfl
  | ⟨1, _⟩ => rfl
  | ⟨2, _⟩ => rfl
  | ⟨3, _⟩ => rfl

theorem v52_at (b : Fin 2) (h : Fin 8) (y x : Fin 2048) : val_main_v52 (F := Ideal) x0 x1 (ix4 b h y x) = Fox.pr (fa x0) (fc x1) b h y x := by
  have e : val_main_v51 (F := Ideal) x0 x1 (ix4 b h y x) = val_main_v49 (F := Ideal) x0 x1 (ix3 b h y) := by
    unfold val_main_v51 val_main_v50
    generalize val_main_v49 (F := Ideal) x0 x1 = X
    pointwise
  have e' : val_main_v52 (F := Ideal) x0 x1 (ix4 b h y x) = Ideal.div (val_main_v48 (F := Ideal) x0 x1 (ix4 b h y x)) (val_main_v51 (F := Ideal) x0 x1 (ix4 b h y x)) := rfl
  rw [e', e, v49_at, v48_at]
  unfold Fox.pr
  exact congrArg _ (congrArg _ (Finset.sum_congr rfl fun x' _ => v48_at x0 x1 b h y x'))

theorem v90_at (r : Fin 4096) (l : Fin 512) : val_main_v90 (F := Ideal) x0 x1 x2 (ix2 r l)
    = ∑ y : Fin 2048, fo x2 (Fox.row ⟨r.val / 2048, by omega⟩ y) l * Fox.pr (fa x0) (fc x1) ⟨r.val / 2048, by omega⟩ ⟨l.val / 64, by omega⟩ y ⟨r.val % 2048, Nat.mod_lt _ (by omega)⟩ := by
  have e : ∀ y : Fin 2048, val_main_v58 (F := Ideal) x2 (ix4 ⟨r.val / 2048, by omega⟩ y ⟨l.val / 64, by omega⟩ ⟨l.val % 64, Nat.mod_lt _ (by omega)⟩) = fo x2 (Fox.row ⟨r.val / 2048, by omega⟩ y) l := by
    intro y
    unfold val_main_v58 val_main_v57
    pointwise
    rfl
  refine Eq.trans ?_ (Finset.sum_congr rfl fun y _ => congrArg₂ (· * ·) (e y) (v52_at x0 x1 _ _ _ _))
  unfold val_main_v90 val_main_v89 val_main_v88 val_main_v61 val_main_v60 val_main_v59
  generalize val_main_v52 (F := Ideal) x0 x1 = X
  pointwise

end Cert.Proof.ReferenceIdeal

end
-- ==== Proof.Blocks.lean ====
/- What the arrays made of blocks share: an index is its two coordinates, and a block's entry is the array's at its place. -/
module

public import Idealize.ShloMosaic.Lib.Pipeline.ValueKit
public import Idealize.ShloMosaic.Lib.Pointwise

@[expose] public section

noncomputable section

namespace Cert.Proof

open Idealize.ShloMosaic Idealize.ShloMosaic.Tactic

/-- An index of two places is its two coordinates. -/
theorem ix2_ex {n0 n1 : ℕ} (e : (⟨2, ![n0, n1]⟩ : Shape).Idx) : ∃ (r : Fin n0) (l : Fin n1), e = ix2 r l :=
  ⟨e 0, e 1, funext fun a => match a with
    | ⟨0, _⟩ => rfl
    | ⟨1, _⟩ => rfl⟩

/-- A block `O` that holds `G` at rows `r` and columns `s` holds it at the place of each of its indices. -/
theorem at_block {h w H W : ℕ} {O : (⟨2, ![h, w]⟩ : Shape).Idx → EReal} {G : Fin H → Fin W → EReal} {r : Fin h → Fin H} {s : Fin w → Fin W}
    (ho : ∀ x y, O (ix2 x y) = G (r x) (s y)) (y : (⟨2, ![h, w]⟩ : Shape).Idx) {i : Fin H} {j : Fin W}
    (hi : i.val = (r (y 0)).val) (hj : j.val = (s (y 1)).val) : O y = G i j := by
  obtain ⟨a, b, rfl⟩ := ix2_ex y
  rw [ho, Fin.ext hi, Fin.ext hj]
  rfl

/-- Row `r` of `a` times row `l` of `b`, column `r` of `a` times column `l` of `b`, and row `r` of `a` times column `l` of `b`. -/
def rows {M N K : ℕ} (a : (⟨2, ![M, K]⟩ : Shape).Idx → EReal) (b : (⟨2, ![N, K]⟩ : Shape).Idx → EReal) (r : Fin M) (l : Fin N) : EReal :=
  ∑ k : Fin K, a (ix2 r k) * b (ix2 l k)
def cols {M N K : ℕ} (a : (⟨2, ![K, M]⟩ : Shape).Idx → EReal) (b : (⟨2, ![K, N]⟩ : Shape).Idx → EReal) (r : Fin M) (l : Fin N) : EReal :=
  ∑ k : Fin K, a (ix2 k r) * b (ix2 k l)
def prod {M N K : ℕ} (a : (⟨2, ![M, K]⟩ : Shape).Idx → EReal) (b : (⟨2, ![K, N]⟩ : Shape).Idx → EReal) (r : Fin M) (l : Fin N) : EReal :=
  ∑ k : Fin K, a (ix2 r k) * b (ix2 k l)

end Cert.Proof

end
-- ==== Proof.Ff2x.lean ====
/- The feed-forward's second product transposed, times the squared rectifier's derivative: the array the call leaves, and
   the reference's result. -/
module

public import proofs.«01_k».proof.Proof.Gen.Kernel2Ideal.Value
public import proofs.«01_k».proof.Proof.Gen.Reference2Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

namespace Cert.Proof.Kernel2Ideal

open Cert.Kernel2Ideal Cert.Kernel2Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ) (ρ : Dev nD → PrngReg)

/-- Row `r` of the incoming gradient times row `l` of the weights, times twice the rectified activation. -/
def val (z w : S4096x1024.Idx → EReal) (u : S4096x4096.Idx → EReal) (r l : Fin 4096) : EReal :=
  (∑ k : Fin 1024, z (ix2 r k) * w (ix2 l k)) * (Ideal.ofBits .f32 0x40000000#32 * max (u (ix2 r l)) 0)

theorem pay_at (a b u : Vec Ideal S1024x1024 .bf16) (x y : Fin 1024) : k0_pay1 (F := Ideal) a b u (ix2 x y)
    = (∑ k : Fin 1024, a (ix2 x k) * b (ix2 y k)) * (Ideal.ofBits .f32 0x40000000#32 * max (u (ix2 x y)) 0) := by
  unfold_payloads
  pointwise

theorem idx_all : ∀ t : Fin grid0.N,
    win0_0.index t = ![(grid0.coords t 0).val, 0]
    ∧ win0_1.index t = ![(grid0.coords t 1).val, 0]
    ∧ win0_2.index t = ![(grid0.coords t 0).val, (grid0.coords t 1).val]
    ∧ win0_3.index t = ![(grid0.coords t 0).val, (grid0.coords t 1).val] := by decide +kernel

/-- Row or column `x` of block `i`. -/
def at4 (i : Fin 4) (x : Fin 1024) : Fin 4096 := ⟨1024 * i.val + x.val, by omega⟩
def pi (t : Fin cfg0.N) : Fin 4 := grid0.coords t 0
def pj (t : Fin cfg0.N) : Fin 4 := grid0.coords t 1

theorem iblk0_at (c : Dev nD) (t : Fin cfg0.N) (x k : Fin 1024) : iblk m c 0 t (ix2 x k)
    = m ((c.tc : Thread nD τ).loc main_arg0) (ix2 (at4 (pi t) x) k) := by
  blk_ext [iblk, V_main_arg0, idx_all t, at4, pi]

theorem iblk1_at (c : Dev nD) (t : Fin cfg0.N) (x k : Fin 1024) : iblk m c 1 t (ix2 x k)
    = m ((c.tc : Thread nD τ).loc main_arg1) (ix2 (at4 (pj t) x) k) := by
  blk_ext [iblk, V_main_arg1, idx_all t, at4, pj]

theorem iblk2_at (c : Dev nD) (t : Fin cfg0.N) (x y : Fin 1024) : iblk m c 2 t (ix2 x y)
    = m ((c.tc : Thread nD τ).loc main_arg2) (ix2 (at4 (pi t) x) (at4 (pj t) y)) := by
  blk_ext [iblk, V_main_arg2, idx_all t, at4, pi, pj]

theorem out_at (c : Dev nD) (t : Fin cfg0.N) (x y : Fin 1024) : out0_3 (F := Ideal) (iblk m c 0 t) (iblk m c 1 t) (iblk m c 2 t) (ix2 x y)
    = val (m ((c.tc : Thread nD τ).loc main_arg0)) (m ((c.tc : Thread nD τ).loc main_arg1)) (m ((c.tc : Thread nD τ).loc main_arg2)) (at4 (pi t) x) (at4 (pj t) y) := by
  unfold out0_3
  rw [View.canon_unit_zero (by decide), View.ld_unit_zero (by decide), View.ld_unit_zero (by decide), View.ld_unit_zero (by decide)]
  refine (pay_at _ _ _ x y).trans ?_
  unfold val
  rw [iblk2_at]
  exact congrArg (· * _) (Finset.sum_congr rfl fun k _ => congrArg₂ (· * ·) (iblk0_at m c t x k) (iblk1_at m c t y k))

theorem arr3 (c : Dev nD) : (dats m 0 c).arrAt 3 cfg0.N = fun e : S4096x4096.Idx =>
    val (m ((c.tc : Thread nD τ).loc main_arg0)) (m ((c.tc : Thread nD τ).loc main_arg1)) (m ((c.tc : Thread nD τ).loc main_arg2)) (e 0) (e 1) := by
  refine (dats m 0 c).arrAt_eq_of_covers 3 _ (by decide +kernel) fun t hf y => ?_
  rw [after0_3]
  have ho := out_at m c t
  generalize out0_3 (F := Ideal) (iblk m c 0 t) (iblk m c 1 t) (iblk m c 2 t) = O at ho ⊢
  generalize val (m ((c.tc : Thread nD τ).loc main_arg0)) (m ((c.tc : Thread nD τ).loc main_arg1)) (m ((c.tc : Thread nD τ).loc main_arg2)) = G at ho ⊢
  have hi := (idx_all t).2.2.2
  have h0 : win0_3.index t 0 = (grid0.coords t 0).val := by rw [hi]; rfl
  have h1 : win0_3.index t 1 = (grid0.coords t 1).val := by rw [hi]; rfl
  refine at_block ho y ?_ ?_
  · blk_simp
    simp only [at4, pi, h0, Nat.mul_comm]
  · blk_simp
    simp only [at4, pj, h1, Nat.mul_comm]

end Cert.Proof.Kernel2Ideal

namespace Cert.Proof.Reference2Ideal

open Cert.Reference2Ideal Cert.Reference2Ideal.Gen Cert.Reference2Ideal.Read
open Idealize.ShloMosaic Idealize.ShloMosaic.TcCoe Idealize.ShloMosaic.Tactic

/-- The squared rectifier's derivative: where the activation is not positive, the rectified activation is zero already. -/
theorem relu_sq (s d u : EReal) : Scalar.select (Ideal.cmp .ogt u 0) (s * (d * max u 0)) 0 = s * (d * max u 0) := by
  unfold Scalar.select
  by_cases h : 0 < u
  · exact if_pos (by simp [Ideal.cmp, h])
  · rw [max_eq_right (not_lt.1 h), mul_zero, mul_zero, ite_self]

variable (x0 x1 : (⟨S4096x1024, .bf16⟩ : BufTy).Contents (Elt Ideal)) (x2 : (⟨S4096x4096, .bf16⟩ : BufTy).Contents (Elt Ideal))

theorem v15_at (r l : Fin 4096) : val_main_v15 (F := Ideal) x0 x1 x2 (ix2 r l) = Kernel2Ideal.val x0 x1 x2 r l := by
  have e11 : val_main_v11 (F := Ideal) x0 x1 (ix2 r l) = ∑ k : Fin 1024, x0 (ix2 r k) * x1 (ix2 l k) := by
    unfold val_main_v11 val_main_v10 val_main_v8
    pointwise
  have ez : Ideal.ofBits .f32 0x00000000#32 = (0 : EReal) := Ideal.ofBits_zero .f32
  have e1 : val_main_v1 (F := Ideal) x2 (ix2 r l) = max (x2 (ix2 r l)) 0 := by
    rw [val_main_v1_apply, Ideal.maximumf_def]
    exact congrArg (max _) ez
  have e : val_main_v15 (F := Ideal) x0 x1 x2 (ix2 r l) = Scalar.select (Ideal.cmp .ogt (x2 (ix2 r l)) (Ideal.ofBits .f32 0x00000000#32))
      (val_main_v11 (F := Ideal) x0 x1 (ix2 r l) * (Ideal.ofBits .f32 0x40000000#32 * val_main_v1 (F := Ideal) x2 (ix2 r l))) (Ideal.ofBits .f32 0x00000000#32) := rfl
  rw [e, e11, e1, ez]
  unfold Kernel2Ideal.val
  exact relu_sq _ _ _

end Cert.Proof.Reference2Ideal

end
-- ==== Proof.Bwd.lean ====
/- Products of the backward pass: the arrays the calls leave, and the references' results. -/
module

public import proofs.«01_k».proof.Proof.Gen.Kernel3Ideal.Value
public import proofs.«01_k».proof.Proof.Gen.Reference3Ideal.Read
public import proofs.«01_k».proof.Proof.Gen.Kernel4Ideal.Value
public import proofs.«01_k».proof.Proof.Gen.Reference4Ideal.Read
public import proofs.«01_k».proof.Proof.Gen.Kernel5Ideal.Value
public import proofs.«01_k».proof.Proof.Gen.Reference5Ideal.Read
public import proofs.«01_k».proof.Proof.Gen.Kernel7Ideal.Value
public import proofs.«01_k».proof.Proof.Gen.Reference7Ideal.Read
public import proofs.«01_k».proof.Proof.Gen.Kernel8Ideal.Value
public import proofs.«01_k».proof.Proof.Gen.Reference8Ideal.Read
public import proofs.«01_k».proof.Proof.Gen.Kernel9Ideal.Value
public import proofs.«01_k».proof.Proof.Gen.Reference9Ideal.Read
public import proofs.«01_k».proof.Proof.Gen.Kernel10Ideal.Value
public import proofs.«01_k».proof.Proof.Gen.Reference10Ideal.Read
public import proofs.«01_k».proof.Proof.Gen.Kernel11Ideal.Value
public import proofs.«01_k».proof.Proof.Gen.Reference11Ideal.Read
public import proofs.«01_k».proof.Proof.Gen.Kernel12Ideal.Value
public import proofs.«01_k».proof.Proof.Gen.Reference12Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

/-! The feed-forward's second weights. -/

namespace Cert.Proof.Kernel3Ideal

open Cert.Kernel3Ideal Cert.Kernel3Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x512 .bf16) (b : Vec Ideal S4096x1024 .bf16) (x : Fin 512) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 8 := grid0.coords t 0
def pj (t : Fin cfg0.N) : Fin 1 := grid0.coords t 1
/-- Row `x` of row block `i`, column `y` of column block `j`. -/
def ati (i : Fin 8) (x : Fin 512) : Fin 4096 := ⟨512 * i.val + x.val, by omega⟩
def atj (j : Fin 1) (y : Fin 1024) : Fin 1024 := ⟨1024 * j.val + y.val, by omega⟩

theorem iblk0_at (c : Dev nD) (t : Fin cfg0.N) (x : Fin 512) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x1024.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel3Ideal

namespace Cert.Proof.Reference3Ideal

open Cert.Reference3Ideal Cert.Reference3Ideal.Gen Cert.Reference3Ideal.Read
open Idealize.ShloMosaic Idealize.ShloMosaic.TcCoe Idealize.ShloMosaic.Tactic

theorem res_at (x0 : (⟨S4096x4096, .bf16⟩ : BufTy).Contents (Elt Ideal)) (x1 : (⟨S4096x1024, .bf16⟩ : BufTy).Contents (Elt Ideal)) (r : Fin 4096) (l : Fin 1024) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference3Ideal

/-! The feed-forward's first weights. -/

namespace Cert.Proof.Kernel4Ideal

open Cert.Kernel4Ideal Cert.Kernel4Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x512 .bf16) (b : Vec Ideal S4096x1024 .bf16) (x : Fin 512) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 2 := grid0.coords t 0
def pj (t : Fin cfg0.N) : Fin 4 := grid0.coords t 1
/-- Row `x` of row block `i`, column `y` of column block `j`. -/
def ati (i : Fin 2) (x : Fin 512) : Fin 1024 := ⟨512 * i.val + x.val, by omega⟩
def atj (j : Fin 4) (y : Fin 1024) : Fin 4096 := ⟨1024 * j.val + y.val, by omega⟩

theorem iblk0_at (c : Dev nD) (t : Fin cfg0.N) (x : Fin 512) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S1024x4096.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel4Ideal

namespace Cert.Proof.Reference4Ideal

open Cert.Reference4Ideal Cert.Reference4Ideal.Gen Cert.Reference4Ideal.Read
open Idealize.ShloMosaic Idealize.ShloMosaic.TcCoe Idealize.ShloMosaic.Tactic

theorem res_at (x0 : (⟨S4096x1024, .bf16⟩ : BufTy).Contents (Elt Ideal)) (x1 : (⟨S4096x4096, .bf16⟩ : BufTy).Contents (Elt Ideal)) (r : Fin 1024) (l : Fin 4096) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference4Ideal

/-! Through the feed-forward's first product. -/

namespace Cert.Proof.Kernel5Ideal

open Cert.Kernel5Ideal Cert.Kernel5Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S512x4096 .bf16) (b : Vec Ideal S1024x4096 .bf16) (x : Fin 512) (y : Fin 1024) :
    k0_pay1 (F := Ideal) a b (ix2 x y) = rows a b x y := by
  unfold rows
  unfold_payloads
  pointwise

theorem idx_all : ∀ t : Fin grid0.N, win0_0.index t = ![(grid0.coords t 0).val, 0] ∧ win0_1.index t = ![(grid0.coords t 1).val, 0]
    ∧ win0_2.index t = ![(grid0.coords t 0).val, (grid0.coords t 1).val] := by decide +kernel

def pi (t : Fin cfg0.N) : Fin 8 := grid0.coords t 0
def pj (t : Fin cfg0.N) : Fin 1 := grid0.coords t 1
/-- Row `x` of row block `i`, column `y` of column block `j`. -/
def ati (i : Fin 8) (x : Fin 512) : Fin 4096 := ⟨512 * i.val + x.val, by omega⟩
def atj (j : Fin 1) (y : Fin 1024) : Fin 1024 := ⟨1024 * j.val + y.val, by omega⟩

theorem iblk0_at (c : Dev nD) (t : Fin cfg0.N) (x : Fin 512) (k : Fin 4096) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 1024) (k : Fin 4096) : iblk m c 1 t (ix2 y k)
    = m ((c.tc : Thread nD τ).loc main_arg1) (ix2 (atj (pj t) y) k) := by
  blk_ext [iblk, V_main_arg1, idx_all t, atj, pj]

theorem out_at (c : Dev nD) (t : Fin cfg0.N) (x : Fin 512) (y : Fin 1024) : out0_2 (F := Ideal) (iblk m c 0 t) (iblk m c 1 t) (ix2 x y)
    = rows (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x1024.Idx => rows (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize rows (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel5Ideal

namespace Cert.Proof.Reference5Ideal

open Cert.Reference5Ideal Cert.Reference5Ideal.Gen Cert.Reference5Ideal.Read
open Idealize.ShloMosaic Idealize.ShloMosaic.TcCoe Idealize.ShloMosaic.Tactic

theorem res_at (x0 : (⟨S4096x4096, .bf16⟩ : BufTy).Contents (Elt Ideal)) (x1 : (⟨S1024x4096, .bf16⟩ : BufTy).Contents (Elt Ideal)) (r : Fin 4096) (l : Fin 1024) :
    val_main_v4 (F := Ideal) x0 x1 (ix2 r l) = rows x0 x1 r l := by
  unfold rows val_main_v4 val_main_v1 val_main_v3
  pointwise

end Cert.Proof.Reference5Ideal

/-! The attention projections' weights. -/

namespace Cert.Proof.Kernel7Ideal

open Cert.Kernel7Ideal Cert.Kernel7Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x512 .bf16) (b : Vec Ideal S4096x1024 .bf16) (x : Fin 512) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 2 := grid0.coords t 0
def pj (t : Fin cfg0.N) : Fin 2 := grid0.coords t 1
/-- Row `x` of row block `i`, column `y` of column block `j`. -/
def ati (i : Fin 2) (x : Fin 512) : Fin 1024 := ⟨512 * i.val + x.val, by omega⟩
def atj (j : Fin 2) (y : Fin 1024) : Fin 2048 := ⟨1024 * j.val + y.val, by omega⟩

theorem iblk0_at (c : Dev nD) (t : Fin cfg0.N) (x : Fin 512) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S1024x2048.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel7Ideal

namespace Cert.Proof.Reference7Ideal

open Cert.Reference7Ideal Cert.Reference7Ideal.Gen Cert.Reference7Ideal.Read
open Idealize.ShloMosaic Idealize.ShloMosaic.TcCoe Idealize.ShloMosaic.Tactic

theorem res_at (x0 : (⟨S4096x1024, .bf16⟩ : BufTy).Contents (Elt Ideal)) (x1 : (⟨S4096x2048, .bf16⟩ : BufTy).Contents (Elt Ideal)) (r : Fin 1024) (l : Fin 2048) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference7Ideal

/-! The output projection's weights. -/

namespace Cert.Proof.Kernel8Ideal

open Cert.Kernel8Ideal Cert.Kernel8Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x512 .bf16) (b : Vec Ideal S4096x1024 .bf16) (x : Fin 512) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 2 := grid0.coords t 0
def pj (t : Fin cfg0.N) : Fin 1 := grid0.coords t 1
/-- Row `x` of row block `i`, column `y` of column block `j`. -/
def ati (i : Fin 2) (x : Fin 512) : Fin 1024 := ⟨512 * i.val + x.val, by omega⟩
def atj (j : Fin 1) (y : Fin 1024) : Fin 1024 := ⟨1024 * j.val + y.val, by omega⟩

theorem iblk0_at (c : Dev nD) (t : Fin cfg0.N) (x : Fin 512) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S1024x1024.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel8Ideal

namespace Cert.Proof.Reference8Ideal

open Cert.Reference8Ideal Cert.Reference8Ideal.Gen Cert.Reference8Ideal.Read
open Idealize.ShloMosaic Idealize.ShloMosaic.TcCoe Idealize.ShloMosaic.Tactic

theorem res_at (x0 : (⟨S4096x1024, .bf16⟩ : BufTy).Contents (Elt Ideal)) (x1 : (⟨S4096x1024, .bf16⟩ : BufTy).Contents (Elt Ideal)) (r : Fin 1024) (l : Fin 1024) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference8Ideal

/-! Through the output projection. -/

namespace Cert.Proof.Kernel9Ideal

open Cert.Kernel9Ideal Cert.Kernel9Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x1024 .bf16) (b : Vec Ideal S1024x1024 .bf16) (x : Fin 1024) (y : Fin 1024) :
    k0_pay1 (F := Ideal) a b (ix2 x y) = rows a b x y := by
  unfold rows
  unfold_payloads
  pointwise

theorem idx_all : ∀ t : Fin grid0.N, win0_0.index t = ![(grid0.coords t 0).val, 0] ∧ win0_1.index t = ![(grid0.coords t 1).val, 0]
    ∧ win0_2.index t = ![(grid0.coords t 0).val, (grid0.coords t 1).val] := by decide +kernel

def pi (t : Fin cfg0.N) : Fin 4 := grid0.coords t 0
def pj (t : Fin cfg0.N) : Fin 1 := grid0.coords t 1
/-- Row `x` of row block `i`, column `y` of column block `j`. -/
def ati (i : Fin 4) (x : Fin 1024) : Fin 4096 := ⟨1024 * i.val + x.val, by omega⟩
def atj (j : Fin 1) (y : Fin 1024) : Fin 1024 := ⟨1024 * j.val + y.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 1024) (k : Fin 1024) : iblk m c 1 t (ix2 y k)
    = m ((c.tc : Thread nD τ).loc main_arg1) (ix2 (atj (pj t) y) k) := by
  blk_ext [iblk, V_main_arg1, idx_all t, atj, pj]

theorem out_at (c : Dev nD) (t : Fin cfg0.N) (x : Fin 1024) (y : Fin 1024) : out0_2 (F := Ideal) (iblk m c 0 t) (iblk m c 1 t) (ix2 x y)
    = rows (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x1024.Idx => rows (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize rows (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel9Ideal

namespace Cert.Proof.Reference9Ideal

open Cert.Reference9Ideal Cert.Reference9Ideal.Gen Cert.Reference9Ideal.Read
open Idealize.ShloMosaic Idealize.ShloMosaic.TcCoe Idealize.ShloMosaic.Tactic

theorem res_at (x0 : (⟨S4096x1024, .bf16⟩ : BufTy).Contents (Elt Ideal)) (x1 : (⟨S1024x1024, .bf16⟩ : BufTy).Contents (Elt Ideal)) (r : Fin 4096) (l : Fin 1024) :
    val_main_v4 (F := Ideal) x0 x1 (ix2 r l) = rows x0 x1 r l := by
  unfold rows val_main_v4 val_main_v1 val_main_v3
  pointwise

end Cert.Proof.Reference9Ideal

/-! Through a branch's projection. -/

namespace Cert.Proof.Kernel10Ideal

open Cert.Kernel10Ideal Cert.Kernel10Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x1024 .bf16) (b : Vec Ideal S512x1024 .bf16) (x : Fin 1024) (y : Fin 512) :
    k0_pay1 (F := Ideal) a b (ix2 x y) = rows a b x y := by
  unfold rows
  unfold_payloads
  pointwise

theorem idx_all : ∀ t : Fin grid0.N, win0_0.index t = ![(grid0.coords t 0).val, 0] ∧ win0_1.index t = ![(grid0.coords t 1).val, 0]
    ∧ win0_2.index t = ![(grid0.coords t 0).val, (grid0.coords t 1).val] := by decide +kernel

def pi (t : Fin cfg0.N) : Fin 4 := grid0.coords t 0
def pj (t : Fin cfg0.N) : Fin 1 := grid0.coords t 1
/-- Row `x` of row block `i`, column `y` of column block `j`. -/
def ati (i : Fin 4) (x : Fin 1024) : Fin 4096 := ⟨1024 * i.val + x.val, by omega⟩
def atj (j : Fin 1) (y : Fin 512) : Fin 512 := ⟨512 * j.val + y.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 512) (k : Fin 1024) : iblk m c 1 t (ix2 y k)
    = m ((c.tc : Thread nD τ).loc main_arg1) (ix2 (atj (pj t) y) k) := by
  blk_ext [iblk, V_main_arg1, idx_all t, atj, pj]

theorem out_at (c : Dev nD) (t : Fin cfg0.N) (x : Fin 1024) (y : Fin 512) : out0_2 (F := Ideal) (iblk m c 0 t) (iblk m c 1 t) (ix2 x y)
    = rows (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x512.Idx => rows (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize rows (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel10Ideal

namespace Cert.Proof.Reference10Ideal

open Cert.Reference10Ideal Cert.Reference10Ideal.Gen Cert.Reference10Ideal.Read
open Idealize.ShloMosaic Idealize.ShloMosaic.TcCoe Idealize.ShloMosaic.Tactic

theorem res_at (x0 : (⟨S4096x1024, .bf16⟩ : BufTy).Contents (Elt Ideal)) (x1 : (⟨S512x1024, .bf16⟩ : BufTy).Contents (Elt Ideal)) (r : Fin 4096) (l : Fin 512) :
    val_main_v5 (F := Ideal) x0 x1 (ix2 r l) = rows x0 x1 r l := by
  unfold rows val_main_v5 val_main_v4 val_main_v1 val_main_v3
  pointwise

end Cert.Proof.Reference10Ideal

/-! A branch's projection weights. -/

namespace Cert.Proof.Kernel11Ideal

open Cert.Kernel11Ideal Cert.Kernel11Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x512 .f32) (b : Vec Ideal S4096x512 .bf16) (x : Fin 512) (y : Fin 512) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 1 := grid0.coords t 0
def pj (t : Fin cfg0.N) : Fin 2 := grid0.coords t 1
/-- Row `x` of row block `i`, column `y` of column block `j`. -/
def ati (i : Fin 1) (x : Fin 512) : Fin 512 := ⟨512 * i.val + x.val, by omega⟩
def atj (j : Fin 2) (y : Fin 512) : Fin 1024 := ⟨512 * j.val + y.val, by omega⟩

theorem iblk0_at (c : Dev nD) (t : Fin cfg0.N) (x : Fin 512) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 512) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 512) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S512x1024.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel11Ideal

namespace Cert.Proof.Reference11Ideal

open Cert.Reference11Ideal Cert.Reference11Ideal.Gen Cert.Reference11Ideal.Read
open Idealize.ShloMosaic Idealize.ShloMosaic.TcCoe Idealize.ShloMosaic.Tactic

theorem res_at (x0 : (⟨S4096x512, .f32⟩ : BufTy).Contents (Elt Ideal)) (x1 : (⟨S4096x1024, .bf16⟩ : BufTy).Contents (Elt Ideal)) (r : Fin 512) (l : Fin 1024) :
    val_main_v5 (F := Ideal) x0 x1 (ix2 r l) = cols x0 x1 r l := by
  unfold cols val_main_v5 val_main_v4 val_main_v3 val_main_v2
  pointwise
  exact Finset.sum_congr rfl fun k _ => mul_comm _ _

end Cert.Proof.Reference11Ideal

/-! The narrow projections' weights. -/

namespace Cert.Proof.Kernel12Ideal

open Cert.Kernel12Ideal Cert.Kernel12Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x512 .bf16) (b : Vec Ideal S4096x896 .bf16) (x : Fin 512) (y : Fin 896) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 2 := grid0.coords t 0
def pj (t : Fin cfg0.N) : Fin 1 := grid0.coords t 1
/-- Row `x` of row block `i`, column `y` of column block `j`. -/
def ati (i : Fin 2) (x : Fin 512) : Fin 1024 := ⟨512 * i.val + x.val, by omega⟩
def atj (j : Fin 1) (y : Fin 896) : Fin 896 := ⟨896 * j.val + y.val, by omega⟩

theorem iblk0_at (c : Dev nD) (t : Fin cfg0.N) (x : Fin 512) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 896) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 896) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S1024x896.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel12Ideal

namespace Cert.Proof.Reference12Ideal

open Cert.Reference12Ideal Cert.Reference12Ideal.Gen Cert.Reference12Ideal.Read
open Idealize.ShloMosaic Idealize.ShloMosaic.TcCoe Idealize.ShloMosaic.Tactic

theorem res_at (x0 : (⟨S4096x1024, .bf16⟩ : BufTy).Contents (Elt Ideal)) (x1 : (⟨S4096x896, .bf16⟩ : BufTy).Contents (Elt Ideal)) (r : Fin 1024) (l : Fin 896) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference12Ideal

end
-- ==== Proof.ProjX.lean ====
/- The gradient through the input projections: the array the call leaves, and the reference's result. -/
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise
public import Idealize.ShloMosaic.Lib.StableHlo.ReadAt
public import proofs.«01_k».proof.Proof.Blocks

@[expose] public section

set_option maxRecDepth 16384
set_option maxHeartbeats 4000000

noncomputable section

namespace Cert.Proof.Kernel6Ideal

open Cert.Kernel6Ideal Cert.Kernel6Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ) (ρ : Dev nD → PrngReg)

/-- Column `k` of gate `n` among the three gates' columns. -/
def gcol (n : Fin 3) (k : Fin 1024) : Fin 3072 := ⟨1024 * n.val + k.val, by omega⟩

/-- Row `r` of each group's incoming gradient times row `l` of that group's weights, the five groups added. -/
def val (a : S4096x2048.Idx → EReal) (wa : S1024x2048.Idx → EReal) (g0 g1 g2 : S4096x1024.Idx → EReal) (wg : S1024x3072.Idx → EReal)
    (s : S4096x896.Idx → EReal) (ws : S1024x896.Idx → EReal) (r : Fin 4096) (l : Fin 1024) : EReal :=
  (∑ k : Fin 2048, a (ix2 r k) * wa (ix2 l k)) + (∑ k : Fin 1024, g0 (ix2 r k) * wg (ix2 l (gcol 0 k)))
    + (∑ k : Fin 1024, g1 (ix2 r k) * wg (ix2 l (gcol 1 k))) + (∑ k : Fin 1024, g2 (ix2 r k) * wg (ix2 l (gcol 2 k)))
    + (∑ k : Fin 896, s (ix2 r k) * ws (ix2 l k))

theorem pay_at (v0 : Vec Ideal S256x2048 .bf16) (v1 : Vec Ideal S1024x2048 .bf16) (v3 : Vec Ideal S256x1024 .bf16) (v4 : Vec Ideal S1024x1024 .bf16)
    (v7 : Vec Ideal S256x1024 .bf16) (v8 : Vec Ideal S1024x1024 .bf16) (v11 : Vec Ideal S256x1024 .bf16) (v12 : Vec Ideal S1024x1024 .bf16)
    (v15 : Vec Ideal S256x896 .bf16) (v16 : Vec Ideal S1024x896 .bf16) (x : Fin 256) (y : Fin 1024) :
    k0_pay1 (F := Ideal) v0 v1 v3 v4 v7 v8 v11 v12 v15 v16 (ix2 x y)
    = (∑ k : Fin 2048, v0 (ix2 x k) * v1 (ix2 y k)) + (∑ k : Fin 1024, v3 (ix2 x k) * v4 (ix2 y k))
      + (∑ k : Fin 1024, v7 (ix2 x k) * v8 (ix2 y k)) + (∑ k : Fin 1024, v11 (ix2 x k) * v12 (ix2 y k))
      + (∑ k : Fin 896, v15 (ix2 x k) * v16 (ix2 y k)) := by
  unfold_payloads
  pointwise

theorem idx_all : ∀ t : Fin grid0.N,
    win0_0.index t = ![(grid0.coords t 0).val, 0]
    ∧ win0_1.index t = ![0, 0]
    ∧ win0_2.index t = ![(grid0.coords t 0).val, 0]
    ∧ win0_3.index t = ![0, 0]
    ∧ win0_4.index t = ![(grid0.coords t 0).val, 0]
    ∧ win0_5.index t = ![0, 0]
    ∧ win0_6.index t = ![(grid0.coords t 0).val, 0]
    ∧ win0_7.index t = ![0, 0]
    ∧ win0_8.index t = ![(grid0.coords t 0).val, 0]
    ∧ win0_9.index t = ![0, 0]
    ∧ win0_10.index t = ![(grid0.coords t 0).val, 0] := by
  have h : ∀ t : Fin grid0.N, (grid0.coords t 1).val = 0 := by decide +kernel
  decide +kernel

def pi (t : Fin cfg0.N) : Fin 16 := grid0.coords t 0
/-- Row `x` of row block `i`. -/
def ati (i : Fin 16) (x : Fin 256) : Fin 4096 := ⟨256 * i.val + x.val, by omega⟩

theorem v0_at (c : Dev nD) (l k : Fin 1024) : V m c main_v0 (ix2 l k) = m ((c.tc : Thread nD τ).loc main_arg5) (ix2 l (gcol 0 k)) := by
  unfold V gcol
  after_reads_at

theorem v1_at (c : Dev nD) (l k : Fin 1024) : V m c main_v1 (ix2 l k) = m ((c.tc : Thread nD τ).loc main_arg5) (ix2 l (gcol 1 k)) := by
  unfold V gcol
  after_reads_at

theorem v2_at (c : Dev nD) (l k : Fin 1024) : V m c main_v2 (ix2 l k) = m ((c.tc : Thread nD τ).loc main_arg5) (ix2 l (gcol 2 k)) := by
  unfold V gcol
  after_reads_at

theorem iblk0_at (c : Dev nD) (t : Fin cfg0.N) (x : Fin 256) (k : Fin 2048) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 1024) (k : Fin 2048) : iblk m c 1 t (ix2 y k)
    = m ((c.tc : Thread nD τ).loc main_arg1) (ix2 y k) := by
  blk_ext [iblk, V_main_arg1, idx_all t]

theorem iblk2_at (c : Dev nD) (t : Fin cfg0.N) (x : Fin 256) (k : Fin 1024) : iblk m c 2 t (ix2 x k)
    = m ((c.tc : Thread nD τ).loc main_arg2) (ix2 (ati (pi t) x) k) := by
  blk_ext [iblk, V_main_arg2, idx_all t, ati, pi]

theorem iblk3_at (c : Dev nD) (t : Fin cfg0.N) (y k : Fin 1024) : iblk m c 3 t (ix2 y k)
    = m ((c.tc : Thread nD τ).loc main_arg5) (ix2 y (gcol 0 k)) := by
  refine Eq.trans ?_ (v0_at m c y k)
  blk_ext [iblk, idx_all t]

theorem iblk4_at (c : Dev nD) (t : Fin cfg0.N) (x : Fin 256) (k : Fin 1024) : iblk m c 4 t (ix2 x k)
    = m ((c.tc : Thread nD τ).loc main_arg3) (ix2 (ati (pi t) x) k) := by
  blk_ext [iblk, V_main_arg3, idx_all t, ati, pi]

theorem iblk5_at (c : Dev nD) (t : Fin cfg0.N) (y k : Fin 1024) : iblk m c 5 t (ix2 y k)
    = m ((c.tc : Thread nD τ).loc main_arg5) (ix2 y (gcol 1 k)) := by
  refine Eq.trans ?_ (v1_at m c y k)
  blk_ext [iblk, idx_all t]

theorem iblk6_at (c : Dev nD) (t : Fin cfg0.N) (x : Fin 256) (k : Fin 1024) : iblk m c 6 t (ix2 x k)
    = m ((c.tc : Thread nD τ).loc main_arg4) (ix2 (ati (pi t) x) k) := by
  blk_ext [iblk, V_main_arg4, idx_all t, ati, pi]

theorem iblk7_at (c : Dev nD) (t : Fin cfg0.N) (y k : Fin 1024) : iblk m c 7 t (ix2 y k)
    = m ((c.tc : Thread nD τ).loc main_arg5) (ix2 y (gcol 2 k)) := by
  refine Eq.trans ?_ (v2_at m c y k)
  blk_ext [iblk, idx_all t]

theorem iblk8_at (c : Dev nD) (t : Fin cfg0.N) (x : Fin 256) (k : Fin 896) : iblk m c 8 t (ix2 x k)
    = m ((c.tc : Thread nD τ).loc main_arg6) (ix2 (ati (pi t) x) k) := by
  blk_ext [iblk, V_main_arg6, idx_all t, ati, pi]

theorem iblk9_at (c : Dev nD) (t : Fin cfg0.N) (y : Fin 1024) (k : Fin 896) : iblk m c 9 t (ix2 y k)
    = m ((c.tc : Thread nD τ).loc main_arg7) (ix2 y k) := by
  blk_ext [iblk, V_main_arg7, idx_all t]

/-- One group's sum, term by term. -/
theorem sums {n : ℕ} {f f' g g' : Fin n → EReal} (hf : ∀ k, f k = f' k) (hg : ∀ k, g k = g' k) : (∑ k, f k * g k) = ∑ k, f' k * g' k :=
  Finset.sum_congr rfl fun k _ => congrArg₂ (· * ·) (hf k) (hg k)

/-- The array, from the arguments. -/
abbrev want (c : Dev nD) : Fin 4096 → Fin 1024 → EReal :=
  val (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7))

theorem out_at (c : Dev nD) (t : Fin cfg0.N) (x : Fin 256) (y : Fin 1024) :
    out0_10 (F := Ideal) (iblk m c 0 t) (iblk m c 1 t) (iblk m c 2 t) (iblk m c 3 t) (iblk m c 4 t) (iblk m c 5 t) (iblk m c 6 t) (iblk m c 7 t) (iblk m c 8 t) (iblk m c 9 t) (ix2 x y)
    = want m c (ati (pi t) x) y := by
  unfold out0_10
  rw [View.canon_unit_zero (by decide), View.ld_unit_zero (by decide), View.ld_unit_zero (by decide), View.ld_unit_zero (by decide), View.ld_unit_zero (by decide),
    View.ld_unit_zero (by decide), View.ld_unit_zero (by decide), View.ld_unit_zero (by decide), View.ld_unit_zero (by decide), View.ld_unit_zero (by decide), View.ld_unit_zero (by decide)]
  refine (pay_at _ _ _ _ _ _ _ _ _ _ x y).trans ?_
  unfold want val
  exact congrArg₂ (· + ·) (congrArg₂ (· + ·) (congrArg₂ (· + ·) (congrArg₂ (· + ·)
    (sums (iblk0_at m c t x) (iblk1_at m c t y)) (sums (iblk2_at m c t x) (iblk3_at m c t y)))
    (sums (iblk4_at m c t x) (iblk5_at m c t y))) (sums (iblk6_at m c t x) (iblk7_at m c t y))) (sums (iblk8_at m c t x) (iblk9_at m c t y))

theorem arr (c : Dev nD) : (dats m 0 c).arrAt 10 cfg0.N = fun e : S4096x1024.Idx => want m c (e 0) (e 1) := by
  refine (dats m 0 c).arrAt_eq_of_covers 10 _ (by decide +kernel) fun t hf y => ?_
  rw [after0_10]
  have ho := out_at m c t
  generalize out0_10 (F := Ideal) (iblk m c 0 t) (iblk m c 1 t) (iblk m c 2 t) (iblk m c 3 t) (iblk m c 4 t) (iblk m c 5 t) (iblk m c 6 t) (iblk m c 7 t) (iblk m c 8 t) (iblk m c 9 t) = O at ho ⊢
  generalize want m c = G at ho ⊢
  have hi := (idx_all t).2.2.2.2.2.2.2.2.2.2
  have h0 : win0_10.index t 0 = (grid0.coords t 0).val := by rw [hi]; rfl
  have h1 : win0_10.index t 1 = 0 := by rw [hi]; rfl
  refine at_block ho y ?_ ?_
  · blk_simp
    simp only [ati, pi, h0, Nat.mul_comm]
  · blk_simp
    simp only [h1, Nat.mul_zero, Nat.zero_mul, Nat.zero_add]

end Cert.Proof.Kernel6Ideal

namespace Cert.Proof.Reference6Ideal

open Cert.Reference6Ideal Cert.Reference6Ideal.Gen Cert.Reference6Ideal.Read
open Idealize.ShloMosaic Idealize.ShloMosaic.TcCoe Idealize.ShloMosaic.Tactic

variable (x0 : (⟨S4096x2048, .bf16⟩ : BufTy).Contents (Elt Ideal)) (x1 : (⟨S1024x2048, .bf16⟩ : BufTy).Contents (Elt Ideal))
  (x2 x3 x4 : (⟨S4096x1024, .bf16⟩ : BufTy).Contents (Elt Ideal)) (x5 : (⟨S1024x3072, .bf16⟩ : BufTy).Contents (Elt Ideal))
  (x6 : (⟨S4096x896, .bf16⟩ : BufTy).Contents (Elt Ideal)) (x7 : (⟨S1024x896, .bf16⟩ : BufTy).Contents (Elt Ideal))

/-- A sum over the 6016 columns is the five groups' sums. -/
theorem split (f : Fin 6016 → EReal) : (∑ k, f k) = (∑ k : Fin 2048, f ⟨k.val, by omega⟩) + (∑ k : Fin 1024, f ⟨2048 + k.val, by omega⟩)
    + (∑ k : Fin 1024, f ⟨3072 + k.val, by omega⟩) + (∑ k : Fin 1024, f ⟨4096 + k.val, by omega⟩) + (∑ k : Fin 896, f ⟨5120 + k.val, by omega⟩) := by
  have h4 := Fin.sum_univ_add (a := 5120) (b := 896) f
  have h3 := Fin.sum_univ_add (a := 4096) (b := 1024) fun k : Fin 5120 => f (Fin.castAdd 896 k)
  have h2 := Fin.sum_univ_add (a := 3072) (b := 1024) fun k : Fin 4096 => f (Fin.castAdd 896 (Fin.castAdd 1024 k : Fin 5120))
  have h1 := Fin.sum_univ_add (a := 2048) (b := 1024) fun k : Fin 3072 => f (Fin.castAdd 896 (Fin.castAdd 1024 (Fin.castAdd 1024 k : Fin 4096) : Fin 5120))
  rw [h4, h3, h2, h1]
  rfl

/-- The gradients side by side, at a column of each group. -/
theorem ct0 (r : Fin 4096) (k : Fin 2048) : val_main_v0 (F := Ideal) x0 x2 x3 x4 x6 (ix2 r ⟨k.val, by omega⟩) = x0 (ix2 r k) := by
  unfold val_main_v0
  pointwise

theorem ct1 (r : Fin 4096) (k : Fin 1024) : val_main_v0 (F := Ideal) x0 x2 x3 x4 x6 (ix2 r ⟨2048 + k.val, by omega⟩) = x2 (ix2 r k) := by
  unfold val_main_v0
  pointwise

theorem ct2 (r : Fin 4096) (k : Fin 1024) : val_main_v0 (F := Ideal) x0 x2 x3 x4 x6 (ix2 r ⟨3072 + k.val, by omega⟩) = x3 (ix2 r k) := by
  unfold val_main_v0
  pointwise
  split_ifs <;> first | omega | exact congrArg (fun j => x3 (ix2 r j)) (Fin.ext (show 3072 + k.val - 2048 - 1024 = k.val by omega))

theorem ct3 (r : Fin 4096) (k : Fin 1024) : val_main_v0 (F := Ideal) x0 x2 x3 x4 x6 (ix2 r ⟨4096 + k.val, by omega⟩) = x4 (ix2 r k) := by
  unfold val_main_v0
  pointwise
  split_ifs <;> first | omega | exact congrArg (fun j => x4 (ix2 r j)) (Fin.ext (show 4096 + k.val - 2048 - 1024 - 1024 = k.val by omega))

theorem ct4 (r : Fin 4096) (k : Fin 896) : val_main_v0 (F := Ideal) x0 x2 x3 x4 x6 (ix2 r ⟨5120 + k.val, by omega⟩) = x6 (ix2 r k) := by
  unfold val_main_v0
  pointwise
  split_ifs <;> first | omega | exact congrArg (fun j => x6 (ix2 r j)) (Fin.ext (show 5120 + k.val - 2048 - 1024 - 1024 - 1024 = k.val by omega))

/-- The weights side by side, at a column of each group. -/
theorem w0 (l : Fin 1024) (k : Fin 2048) : val_main_v3 (F := Ideal) x1 x5 x7 (ix2 l ⟨k.val, by omega⟩) = x1 (ix2 l k) := by
  unfold val_main_v3
  pointwise

theorem w1 (l : Fin 1024) (k : Fin 1024) : val_main_v3 (F := Ideal) x1 x5 x7 (ix2 l ⟨2048 + k.val, by omega⟩) = x5 (ix2 l (Kernel6Ideal.gcol 0 k)) := by
  unfold val_main_v3 Kernel6Ideal.gcol
  pointwise
  rw [dif_pos (by omega)]

theorem w2 (l : Fin 1024) (k : Fin 1024) : val_main_v3 (F := Ideal) x1 x5 x7 (ix2 l ⟨3072 + k.val, by omega⟩) = x5 (ix2 l (Kernel6Ideal.gcol 1 k)) := by
  unfold val_main_v3 Kernel6Ideal.gcol
  pointwise
  split_ifs <;> first | omega | exact congrArg (fun j => x5 (ix2 l j)) (Fin.ext (show 3072 + k.val - 2048 = 1024 + k.val by omega))

theorem w3 (l : Fin 1024) (k : Fin 1024) : val_main_v3 (F := Ideal) x1 x5 x7 (ix2 l ⟨4096 + k.val, by omega⟩) = x5 (ix2 l (Kernel6Ideal.gcol 2 k)) := by
  unfold val_main_v3 Kernel6Ideal.gcol
  pointwise
  split_ifs <;> first | omega | exact congrArg (fun j => x5 (ix2 l j)) (Fin.ext (show 4096 + k.val - 2048 = 2048 + k.val by omega))

theorem w4 (l : Fin 1024) (k : Fin 896) : val_main_v3 (F := Ideal) x1 x5 x7 (ix2 l ⟨5120 + k.val, by omega⟩) = x7 (ix2 l k) := by
  unfold val_main_v3
  pointwise
  split_ifs <;> first | omega | exact congrArg (fun j => x7 (ix2 l j)) (Fin.ext (show 5120 + k.val - 2048 - 3072 = k.val by omega))

theorem dot_at (r : Fin 4096) (l : Fin 1024) : val_main_v6 (F := Ideal) x0 x1 x2 x3 x4 x5 x6 x7 (ix2 r l)
    = ∑ k : Fin 6016, val_main_v0 (F := Ideal) x0 x2 x3 x4 x6 (ix2 r k) * val_main_v3 (F := Ideal) x1 x5 x7 (ix2 l k) := by
  unfold val_main_v6 val_main_v1 val_main_v4
  generalize val_main_v0 (F := Ideal) x0 x2 x3 x4 x6 = A
  generalize val_main_v3 (F := Ideal) x1 x5 x7 = B
  pointwise

theorem res_at (r : Fin 4096) (l : Fin 1024) : val_main_v6 (F := Ideal) x0 x1 x2 x3 x4 x5 x6 x7 (ix2 r l) = Kernel6Ideal.val x0 x1 x2 x3 x4 x5 x6 x7 r l := by
  rw [dot_at, split]
  unfold Kernel6Ideal.val
  exact congrArg₂ (· + ·) (congrArg₂ (· + ·) (congrArg₂ (· + ·) (congrArg₂ (· + ·)
    (Kernel6Ideal.sums (ct0 x0 x2 x3 x4 x6 r) (w0 x1 x5 x7 l)) (Kernel6Ideal.sums (ct1 x0 x2 x3 x4 x6 r) (w1 x1 x5 x7 l)))
    (Kernel6Ideal.sums (ct2 x0 x2 x3 x4 x6 r) (w2 x1 x5 x7 l))) (Kernel6Ideal.sums (ct3 x0 x2 x3 x4 x6 r) (w3 x1 x5 x7 l)))
    (Kernel6Ideal.sums (ct4 x0 x2 x3 x4 x6 r) (w4 x1 x5 x7 l))

end Cert.Proof.Reference6Ideal

end
-- ==== Proof.Merge.lean ====
/- The gradient of the gated merge of the three branches: the six arrays the call leaves, and the reference's results. -/
module

public import proofs.«01_k».proof.Proof.Gen.Kernel13Ideal.Value
public import proofs.«01_k».proof.Proof.Gen.Reference13Ideal.Read
public import Idealize.ShloMosaic.Lib.Pipeline.ValueKit
public import Idealize.ShloMosaic.Lib.Pointwise
public import Idealize.ShloMosaic.Lib.IdealHost
public import Idealize.ShloMosaic.Lib.StableHlo.ReadAt
public import proofs.«01_k».proof.Proof.Blocks

@[expose] public section

set_option maxRecDepth 16384
set_option maxHeartbeats 4000000

noncomputable section

namespace Cert.Proof.Kernel13Ideal

open Cert.Kernel13Ideal Cert.Kernel13Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ) (ρ : Dev nD → PrngReg)

/-- Column `l` of gate `n` among the three gates' columns. -/
def gcol (n : Fin 3) (l : Fin 1024) : Fin 3072 := ⟨1024 * n.val + l.val, by omega⟩

/-- The gate of branch `n`: the logistic function of its logit. -/
def gate (g : S4096x3072.Idx → EReal) (n : Fin 3) (r : Fin 4096) (l : Fin 1024) : EReal := Ideal.logistic (g (ix2 r (gcol n l)))

/-- The gradient of branch `n`'s projection: the incoming gradient times the gate. -/
def valB (d : S4096x1024.Idx → EReal) (g : S4096x3072.Idx → EReal) (n : Fin 3) (r : Fin 4096) (l : Fin 1024) : EReal :=
  d (ix2 r l) * gate g n r l

/-- The gradient of gate `n`'s logit: the incoming gradient times the projected branch times the logistic function's derivative. -/
def valG (d : S4096x1024.Idx → EReal) (g : S4096x3072.Idx → EReal) (o : S4096x512.Idx → EReal) (w : S3x512x1024.Idx → EReal) (n : Fin 3) (r : Fin 4096) (l : Fin 1024) : EReal :=
  d (ix2 r l) * (∑ k : Fin 512, o (ix2 r k) * w (ix3 n k l)) * gate g n r l * (1 - gate g n r l)

/-- A gate of a block's row. -/
def bgate (g : Vec Ideal S256x3072 .f32) (n : Fin 3) (x : Fin 256) (y : Fin 1024) : EReal := Ideal.logistic (g (ix2 x (gcol n y)))

theorem pay8_at (g : Vec Ideal S256x3072 .f32) (x : Fin 256) (y : Fin 1024) : k0_pay8 (F := Ideal) g (ix2 x y) = bgate g 0 x y := by
  unfold bgate gcol
  unfold_payloads
  pointwise

theorem pay9_at (g : Vec Ideal S256x3072 .f32) (x : Fin 256) (y : Fin 1024) : k0_pay9 (F := Ideal) g (ix2 x y) = bgate g 1 x y := by
  unfold bgate gcol
  unfold_payloads
  pointwise

theorem pay10_at (g : Vec Ideal S256x3072 .f32) (x : Fin 256) (y : Fin 1024) : k0_pay10 (F := Ideal) g (ix2 x y) = bgate g 2 x y := by
  unfold bgate gcol
  unfold_payloads
  pointwise

theorem pay11_at (a : Vec Ideal S256x512 .f32) (b : Vec Ideal S512x1024 .bf16) (d : Vec Ideal S256x1024 .f32) (g : Vec Ideal S256x3072 .f32) (x : Fin 256) (y : Fin 1024) :
    k0_pay1 (F := Ideal) (k0_pay11 (F := Ideal) a b d g) (ix2 x y) = d (ix2 x y) * (∑ k : Fin 512, a (ix2 x k) * b (ix2 k y)) * bgate g 0 x y * (1 - bgate g 0 x y) := by
  rw [← pay8_at]
  unfold k0_pay1 k0_pay11
  generalize k0_pay8 (F := Ideal) g = G
  pointwise

theorem pay4_at (d : Vec Ideal S256x1024 .f32) (g : Vec Ideal S256x3072 .f32) (x : Fin 256) (y : Fin 1024) :
    k0_pay4 (F := Ideal) d (k0_pay8 (F := Ideal) g) (ix2 x y) = d (ix2 x y) * bgate g 0 x y := by
  rw [← pay8_at]
  unfold k0_pay4
  generalize k0_pay8 (F := Ideal) g = G
  pointwise

theorem pay12_at (a : Vec Ideal S256x512 .f32) (b : Vec Ideal S512x1024 .bf16) (d : Vec Ideal S256x1024 .f32) (g : Vec Ideal S256x3072 .f32) (x : Fin 256) (y : Fin 1024) :
    k0_pay2 (F := Ideal) (k0_pay12 (F := Ideal) a b d g) (ix2 x y) = d (ix2 x y) * (∑ k : Fin 512, a (ix2 x k) * b (ix2 k y)) * bgate g 1 x y * (1 - bgate g 1 x y) := by
  rw [← pay9_at]
  unfold k0_pay2 k0_pay12
  generalize k0_pay9 (F := Ideal) g = G
  pointwise

theorem pay5_at (d : Vec Ideal S256x1024 .f32) (g : Vec Ideal S256x3072 .f32) (x : Fin 256) (y : Fin 1024) :
    k0_pay5 (F := Ideal) d (k0_pay9 (F := Ideal) g) (ix2 x y) = d (ix2 x y) * bgate g 1 x y := by
  rw [← pay9_at]
  unfold k0_pay5
  generalize k0_pay9 (F := Ideal) g = G
  pointwise

theorem pay13_at (a : Vec Ideal S256x512 .f32) (b : Vec Ideal S512x1024 .bf16) (d : Vec Ideal S256x1024 .f32) (g : Vec Ideal S256x3072 .f32) (x : Fin 256) (y : Fin 1024) :
    k0_pay3 (F := Ideal) (k0_pay13 (F := Ideal) a b d g) (ix2 x y) = d (ix2 x y) * (∑ k : Fin 512, a (ix2 x k) * b (ix2 k y)) * bgate g 2 x y * (1 - bgate g 2 x y) := by
  rw [← pay10_at]
  unfold k0_pay3 k0_pay13
  generalize k0_pay10 (F := Ideal) g = G
  pointwise

theorem pay6_at (d : Vec Ideal S256x1024 .f32) (g : Vec Ideal S256x3072 .f32) (x : Fin 256) (y : Fin 1024) :
    k0_pay6 (F := Ideal) d (k0_pay10 (F := Ideal) g) (ix2 x y) = d (ix2 x y) * bgate g 2 x y := by
  rw [← pay10_at]
  unfold k0_pay6
  generalize k0_pay10 (F := Ideal) g = G
  pointwise

theorem idx_all : ∀ t : Fin grid0.N,
    win0_0.index t = ![(grid0.coords t 0).val, 0]
    ∧ win0_1.index t = ![0, 0]
    ∧ win0_2.index t = ![(grid0.coords t 0).val, 0]
    ∧ win0_3.index t = ![0, 0]
    ∧ win0_4.index t = ![(grid0.coords t 0).val, 0]
    ∧ win0_5.index t = ![0, 0]
    ∧ win0_6.index t = ![(grid0.coords t 0).val, 0]
    ∧ win0_7.index t = ![(grid0.coords t 0).val, 0] := by decide +kernel

theorem idx_out : ∀ t : Fin grid0.N,
    win0_8.index t = ![(grid0.coords t 0).val, 0]
    ∧ win0_9.index t = ![(grid0.coords t 0).val, 0]
    ∧ win0_10.index t = ![(grid0.coords t 0).val, 0]
    ∧ win0_11.index t = ![(grid0.coords t 0).val, 0]
    ∧ win0_12.index t = ![(grid0.coords t 0).val, 0]
    ∧ win0_13.index t = ![(grid0.coords t 0).val, 0] := by decide +kernel

def pi (t : Fin cfg0.N) : Fin 16 := grid0.coords t 0
/-- Row `x` of row block `i`. -/
def ati (i : Fin 16) (x : Fin 256) : Fin 4096 := ⟨256 * i.val + x.val, by omega⟩

theorem v1_at (c : Dev nD) (k : Fin 512) (l : Fin 1024) : V m c main_v1 (ix2 k l) = m ((c.tc : Thread nD τ).loc main_arg5) (ix3 0 k l) := by
  unfold V
  after_reads_at

theorem iblk0_at (c : Dev nD) (t : Fin cfg0.N) (x : Fin 256) (k : Fin 512) : iblk m c 0 t (ix2 x k)
    = m ((c.tc : Thread nD τ).loc main_arg2) (ix2 (ati (pi t) x) k) := by
  blk_ext [iblk, V_main_arg2, idx_all t, ati, pi]

theorem iblk1_at (c : Dev nD) (t : Fin cfg0.N) (k : Fin 512) (l : Fin 1024) : iblk m c 1 t (ix2 k l)
    = m ((c.tc : Thread nD τ).loc main_arg5) (ix3 0 k l) := by
  refine Eq.trans ?_ (v1_at m c k l)
  blk_ext [iblk, idx_all t, ati, pi]

theorem v3_at (c : Dev nD) (k : Fin 512) (l : Fin 1024) : V m c main_v3 (ix2 k l) = m ((c.tc : Thread nD τ).loc main_arg5) (ix3 1 k l) := by
  unfold V
  after_reads_at

theorem iblk2_at (c : Dev nD) (t : Fin cfg0.N) (x : Fin 256) (k : Fin 512) : iblk m c 2 t (ix2 x k)
    = m ((c.tc : Thread nD τ).loc main_arg3) (ix2 (ati (pi t) x) k) := by
  blk_ext [iblk, V_main_arg3, idx_all t, ati, pi]

theorem iblk3_at (c : Dev nD) (t : Fin cfg0.N) (k : Fin 512) (l : Fin 1024) : iblk m c 3 t (ix2 k l)
    = m ((c.tc : Thread nD τ).loc main_arg5) (ix3 1 k l) := by
  refine Eq.trans ?_ (v3_at m c k l)
  blk_ext [iblk, idx_all t, ati, pi]

theorem v5_at (c : Dev nD) (k : Fin 512) (l : Fin 1024) : V m c main_v5 (ix2 k l) = m ((c.tc : Thread nD τ).loc main_arg5) (ix3 2 k l) := by
  unfold V
  after_reads_at

theorem iblk4_at (c : Dev nD) (t : Fin cfg0.N) (x : Fin 256) (k : Fin 512) : iblk m c 4 t (ix2 x k)
    = m ((c.tc : Thread nD τ).loc main_arg4) (ix2 (ati (pi t) x) k) := by
  blk_ext [iblk, V_main_arg4, idx_all t, ati, pi]

theorem iblk5_at (c : Dev nD) (t : Fin cfg0.N) (k : Fin 512) (l : Fin 1024) : iblk m c 5 t (ix2 k l)
    = m ((c.tc : Thread nD τ).loc main_arg5) (ix3 2 k l) := by
  refine Eq.trans ?_ (v5_at m c k l)
  blk_ext [iblk, idx_all t, ati, pi]

theorem iblk6_at (c : Dev nD) (t : Fin cfg0.N) (x : Fin 256) (y : Fin 1024) : iblk m c 6 t (ix2 x y)
    = m ((c.tc : Thread nD τ).loc main_arg0) (ix2 (ati (pi t) x) y) := by
  blk_ext [iblk, V_main_arg0, idx_all t, ati, pi]

theorem iblk7_at (c : Dev nD) (t : Fin cfg0.N) (x : Fin 256) (y : Fin 3072) : iblk m c 7 t (ix2 x y)
    = m ((c.tc : Thread nD τ).loc main_arg1) (ix2 (ati (pi t) x) y) := by
  blk_ext [iblk, V_main_arg1, idx_all t, ati, pi]

theorem bgate_at (c : Dev nD) (t : Fin cfg0.N) (n : Fin 3) (x : Fin 256) (y : Fin 1024) : bgate (iblk m c 7 t) n x y
    = gate (m ((c.tc : Thread nD τ).loc main_arg1)) n (ati (pi t) x) y := congrArg Ideal.logistic (iblk7_at m c t x _)

/-- The gradient of a gate's logit from a block's entries. -/
theorem valG_of (d : S4096x1024.Idx → EReal) (g : S4096x3072.Idx → EReal) (o : S4096x512.Idx → EReal) (w : S3x512x1024.Idx → EReal) (n : Fin 3)
    {r : Fin 4096} {x : Fin 256} {y : Fin 1024} (a : S256x512.Idx → EReal) (b : S512x1024.Idx → EReal) (D : EReal) (S : EReal)
    (hd : D = d (ix2 r y)) (hs : S = gate g n r y) (ha : ∀ k, a (ix2 x k) = o (ix2 r k)) (hb : ∀ k, b (ix2 k y) = w (ix3 n k y)) :
    D * (∑ k : Fin 512, a (ix2 x k) * b (ix2 k y)) * S * (1 - S) = valG d g o w n r y := by
  unfold valG
  rw [hd, hs, Finset.sum_congr rfl fun k _ => congrArg₂ (· * ·) (ha k) (hb k)]

/-- The logits' gradient and the branches' gradient, of branch `n`, from the arguments. -/
abbrev wantG (c : Dev nD) (o : S4096x512.Idx → EReal) (n : Fin 3) : Fin 4096 → Fin 1024 → EReal :=
  valG (m ((c.tc : Thread nD τ).loc main_arg0)) (m ((c.tc : Thread nD τ).loc main_arg1)) o (m ((c.tc : Thread nD τ).loc main_arg5)) n
abbrev wantB (c : Dev nD) (n : Fin 3) : Fin 4096 → Fin 1024 → EReal :=
  valB (m ((c.tc : Thread nD τ).loc main_arg0)) (m ((c.tc : Thread nD τ).loc main_arg1)) n

theorem out8_at (c : Dev nD) (t : Fin cfg0.N) (x : Fin 256) (y : Fin 1024) : out0_8 (F := Ideal) (iblk m c 0 t) (iblk m c 1 t) (iblk m c 2 t) (iblk m c 3 t) (iblk m c 4 t) (iblk m c 5 t) (iblk m c 6 t) (iblk m c 7 t) (ix2 x y)
    = wantG m c (m ((c.tc : Thread nD τ).loc main_arg2)) 0 (ati (pi t) x) y := by
  unfold out0_8
  rw [View.canon_unit_zero (by decide), View.ld_unit_zero (by decide), View.ld_unit_zero (by decide), View.ld_unit_zero (by decide), View.ld_unit_zero (by decide)]
  refine (pay11_at _ _ _ _ x y).trans ?_
  exact valG_of _ _ _ _ 0 _ _ _ _ (iblk6_at m c t x y) (bgate_at m c t 0 x y) (fun k => iblk0_at m c t x k) fun k => iblk1_at m c t k y

theorem arr8 (c : Dev nD) : (dats m 0 c).arrAt 8 cfg0.N = fun e : S4096x1024.Idx =>
    wantG m c (m ((c.tc : Thread nD τ).loc main_arg2)) 0 (e 0) (e 1) := by
  refine (dats m 0 c).arrAt_eq_of_covers 8 _ (by decide +kernel) fun t hf y => ?_
  rw [after0_8]
  have ho := out8_at m c t
  generalize out0_8 (F := Ideal) (iblk m c 0 t) (iblk m c 1 t) (iblk m c 2 t) (iblk m c 3 t) (iblk m c 4 t) (iblk m c 5 t) (iblk m c 6 t) (iblk m c 7 t) = O at ho ⊢
  generalize wantG m c (m ((c.tc : Thread nD τ).loc main_arg2)) 0 = G at ho ⊢
  have hi := (idx_out t).1
  have h0 : win0_8.index t 0 = (grid0.coords t 0).val := by rw [hi]; rfl
  have h1 : win0_8.index t 1 = 0 := by rw [hi]; rfl
  refine at_block ho y ?_ ?_
  · blk_simp
    simp only [ati, pi, h0, Nat.mul_comm]
  · blk_simp
    simp only [h1, Nat.mul_zero, Nat.zero_mul, Nat.zero_add]

theorem out9_at (c : Dev nD) (t : Fin cfg0.N) (x : Fin 256) (y : Fin 1024) : out0_9 (F := Ideal) (iblk m c 0 t) (iblk m c 1 t) (iblk m c 2 t) (iblk m c 3 t) (iblk m c 4 t) (iblk m c 5 t) (iblk m c 6 t) (iblk m c 7 t) (ix2 x y)
    = wantG m c (m ((c.tc : Thread nD τ).loc main_arg3)) 1 (ati (pi t) x) y := by
  unfold out0_9
  rw [View.canon_unit_zero (by decide), View.ld_unit_zero (by decide), View.ld_unit_zero (by decide), View.ld_unit_zero (by decide), View.ld_unit_zero (by decide)]
  refine (pay12_at _ _ _ _ x y).trans ?_
  exact valG_of _ _ _ _ 1 _ _ _ _ (iblk6_at m c t x y) (bgate_at m c t 1 x y) (fun k => iblk2_at m c t x k) fun k => iblk3_at m c t k y

theorem arr9 (c : Dev nD) : (dats m 0 c).arrAt 9 cfg0.N = fun e : S4096x1024.Idx =>
    wantG m c (m ((c.tc : Thread nD τ).loc main_arg3)) 1 (e 0) (e 1) := by
  refine (dats m 0 c).arrAt_eq_of_covers 9 _ (by decide +kernel) fun t hf y => ?_
  rw [after0_9]
  have ho := out9_at m c t
  generalize out0_9 (F := Ideal) (iblk m c 0 t) (iblk m c 1 t) (iblk m c 2 t) (iblk m c 3 t) (iblk m c 4 t) (iblk m c 5 t) (iblk m c 6 t) (iblk m c 7 t) = O at ho ⊢
  generalize wantG m c (m ((c.tc : Thread nD τ).loc main_arg3)) 1 = G at ho ⊢
  have hi := (idx_out t).2.1
  have h0 : win0_9.index t 0 = (grid0.coords t 0).val := by rw [hi]; rfl
  have h1 : win0_9.index t 1 = 0 := by rw [hi]; rfl
  refine at_block ho y ?_ ?_
  · blk_simp
    simp only [ati, pi, h0, Nat.mul_comm]
  · blk_simp
    simp only [h1, Nat.mul_zero, Nat.zero_mul, Nat.zero_add]

theorem out10_at (c : Dev nD) (t : Fin cfg0.N) (x : Fin 256) (y : Fin 1024) : out0_10 (F := Ideal) (iblk m c 0 t) (iblk m c 1 t) (iblk m c 2 t) (iblk m c 3 t) (iblk m c 4 t) (iblk m c 5 t) (iblk m c 6 t) (iblk m c 7 t) (ix2 x y)
    = wantG m c (m ((c.tc : Thread nD τ).loc main_arg4)) 2 (ati (pi t) x) y := by
  unfold out0_10
  rw [View.canon_unit_zero (by decide), View.ld_unit_zero (by decide), View.ld_unit_zero (by decide), View.ld_unit_zero (by decide), View.ld_unit_zero (by decide)]
  refine (pay13_at _ _ _ _ x y).trans ?_
  exact valG_of _ _ _ _ 2 _ _ _ _ (iblk6_at m c t x y) (bgate_at m c t 2 x y) (fun k => iblk4_at m c t x k) fun k => iblk5_at m c t k y

theorem arr10 (c : Dev nD) : (dats m 0 c).arrAt 10 cfg0.N = fun e : S4096x1024.Idx =>
    wantG m c (m ((c.tc : Thread nD τ).loc main_arg4)) 2 (e 0) (e 1) := by
  refine (dats m 0 c).arrAt_eq_of_covers 10 _ (by decide +kernel) fun t hf y => ?_
  rw [after0_10]
  have ho := out10_at m c t
  generalize out0_10 (F := Ideal) (iblk m c 0 t) (iblk m c 1 t) (iblk m c 2 t) (iblk m c 3 t) (iblk m c 4 t) (iblk m c 5 t) (iblk m c 6 t) (iblk m c 7 t) = O at ho ⊢
  generalize wantG m c (m ((c.tc : Thread nD τ).loc main_arg4)) 2 = G at ho ⊢
  have hi := (idx_out t).2.2.1
  have h0 : win0_10.index t 0 = (grid0.coords t 0).val := by rw [hi]; rfl
  have h1 : win0_10.index t 1 = 0 := by rw [hi]; rfl
  refine at_block ho y ?_ ?_
  · blk_simp
    simp only [ati, pi, h0, Nat.mul_comm]
  · blk_simp
    simp only [h1, Nat.mul_zero, Nat.zero_mul, Nat.zero_add]

theorem out11_at (c : Dev nD) (t : Fin cfg0.N) (x : Fin 256) (y : Fin 1024) : out0_11 (F := Ideal) (iblk m c 0 t) (iblk m c 1 t) (iblk m c 2 t) (iblk m c 3 t) (iblk m c 4 t) (iblk m c 5 t) (iblk m c 6 t) (iblk m c 7 t) (ix2 x y)
    = wantB m c 0 (ati (pi t) x) y := by
  unfold out0_11
  rw [View.canon_unit_zero (by decide), View.ld_unit_zero (by decide), View.ld_unit_zero (by decide)]
  refine (pay4_at _ _ x y).trans ?_
  rw [bgate_at, iblk6_at]
  rfl

theorem arr11 (c : Dev nD) : (dats m 0 c).arrAt 11 cfg0.N = fun e : S4096x1024.Idx =>
    wantB m c 0 (e 0) (e 1) := by
  refine (dats m 0 c).arrAt_eq_of_covers 11 _ (by decide +kernel) fun t hf y => ?_
  rw [after0_11]
  have ho := out11_at m c t
  generalize out0_11 (F := Ideal) (iblk m c 0 t) (iblk m c 1 t) (iblk m c 2 t) (iblk m c 3 t) (iblk m c 4 t) (iblk m c 5 t) (iblk m c 6 t) (iblk m c 7 t) = O at ho ⊢
  generalize wantB m c 0 = G at ho ⊢
  have hi := (idx_out t).2.2.2.1
  have h0 : win0_11.index t 0 = (grid0.coords t 0).val := by rw [hi]; rfl
  have h1 : win0_11.index t 1 = 0 := by rw [hi]; rfl
  refine at_block ho y ?_ ?_
  · blk_simp
    simp only [ati, pi, h0, Nat.mul_comm]
  · blk_simp
    simp only [h1, Nat.mul_zero, Nat.zero_mul, Nat.zero_add]

theorem out12_at (c : Dev nD) (t : Fin cfg0.N) (x : Fin 256) (y : Fin 1024) : out0_12 (F := Ideal) (iblk m c 0 t) (iblk m c 1 t) (iblk m c 2 t) (iblk m c 3 t) (iblk m c 4 t) (iblk m c 5 t) (iblk m c 6 t) (iblk m c 7 t) (ix2 x y)
    = wantB m c 1 (ati (pi t) x) y := by
  unfold out0_12
  rw [View.canon_unit_zero (by decide), View.ld_unit_zero (by decide), View.ld_unit_zero (by decide)]
  refine (pay5_at _ _ x y).trans ?_
  rw [bgate_at, iblk6_at]
  rfl

theorem arr12 (c : Dev nD) : (dats m 0 c).arrAt 12 cfg0.N = fun e : S4096x1024.Idx =>
    wantB m c 1 (e 0) (e 1) := by
  refine (dats m 0 c).arrAt_eq_of_covers 12 _ (by decide +kernel) fun t hf y => ?_
  rw [after0_12]
  have ho := out12_at m c t
  generalize out0_12 (F := Ideal) (iblk m c 0 t) (iblk m c 1 t) (iblk m c 2 t) (iblk m c 3 t) (iblk m c 4 t) (iblk m c 5 t) (iblk m c 6 t) (iblk m c 7 t) = O at ho ⊢
  generalize wantB m c 1 = G at ho ⊢
  have hi := (idx_out t).2.2.2.2.1
  have h0 : win0_12.index t 0 = (grid0.coords t 0).val := by rw [hi]; rfl
  have h1 : win0_12.index t 1 = 0 := by rw [hi]; rfl
  refine at_block ho y ?_ ?_
  · blk_simp
    simp only [ati, pi, h0, Nat.mul_comm]
  · blk_simp
    simp only [h1, Nat.mul_zero, Nat.zero_mul, Nat.zero_add]

theorem out13_at (c : Dev nD) (t : Fin cfg0.N) (x : Fin 256) (y : Fin 1024) : out0_13 (F := Ideal) (iblk m c 0 t) (iblk m c 1 t) (iblk m c 2 t) (iblk m c 3 t) (iblk m c 4 t) (iblk m c 5 t) (iblk m c 6 t) (iblk m c 7 t) (ix2 x y)
    = wantB m c 2 (ati (pi t) x) y := by
  unfold out0_13
  rw [View.canon_unit_zero (by decide), View.ld_unit_zero (by decide), View.ld_unit_zero (by decide)]
  refine (pay6_at _ _ x y).trans ?_
  rw [bgate_at, iblk6_at]
  rfl

theorem arr13 (c : Dev nD) : (dats m 0 c).arrAt 13 cfg0.N = fun e : S4096x1024.Idx =>
    wantB m c 2 (e 0) (e 1) := by
  refine (dats m 0 c).arrAt_eq_of_covers 13 _ (by decide +kernel) fun t hf y => ?_
  rw [after0_13]
  have ho := out13_at m c t
  generalize out0_13 (F := Ideal) (iblk m c 0 t) (iblk m c 1 t) (iblk m c 2 t) (iblk m c 3 t) (iblk m c 4 t) (iblk m c 5 t) (iblk m c 6 t) (iblk m c 7 t) = O at ho ⊢
  generalize wantB m c 2 = G at ho ⊢
  have hi := (idx_out t).2.2.2.2.2
  have h0 : win0_13.index t 0 = (grid0.coords t 0).val := by rw [hi]; rfl
  have h1 : win0_13.index t 1 = 0 := by rw [hi]; rfl
  refine at_block ho y ?_ ?_
  · blk_simp
    simp only [ati, pi, h0, Nat.mul_comm]
  · blk_simp
    simp only [h1, Nat.mul_zero, Nat.zero_mul, Nat.zero_add]

end Cert.Proof.Kernel13Ideal

namespace Cert.Proof.Reference13Ideal

open Cert.Reference13Ideal Cert.Reference13Ideal.Gen Cert.Reference13Ideal.Read
open Idealize.ShloMosaic Idealize.ShloMosaic.TcCoe Idealize.ShloMosaic.Tactic

variable (x0 : (⟨S4096x1024, .f32⟩ : BufTy).Contents (Elt Ideal)) (x1 : (⟨S4096x3072, .f32⟩ : BufTy).Contents (Elt Ideal))
  (x2 x3 x4 : (⟨S4096x512, .f32⟩ : BufTy).Contents (Elt Ideal)) (x5 : (⟨S3x512x1024, .bf16⟩ : BufTy).Contents (Elt Ideal))

theorem gate0_at (r : Fin 4096) (l : Fin 1024) : val_main_v20 (F := Ideal) x1 (ix2 r l) = Kernel13Ideal.gate x1 0 r l := by
  have e : val_main_v20 (F := Ideal) x1 (ix2 r l) = Ideal.div (Ideal.ofBits .f32 0x3F800000#32) (Ideal.ofBits .f32 0x3F800000#32 + Ideal.exp (-(val_main_v0 (F := Ideal) x1 (ix2 r l)))) := rfl
  have e0 : val_main_v0 (F := Ideal) x1 (ix2 r l) = x1 (ix2 r (Kernel13Ideal.gcol 0 l)) := by
    unfold val_main_v0 Kernel13Ideal.gcol
    pointwise
  rw [e, Ideal.ofBits_one_f32, e0]
  rfl

theorem branch0_at (r : Fin 4096) (l : Fin 1024) : val_main_v6 (F := Ideal) x2 x5 (ix2 r l) = ∑ k : Fin 512, x2 (ix2 r k) * x5 (ix3 0 k l) := by
  unfold val_main_v6 val_main_v5 val_main_v4 val_main_v3
  pointwise

theorem same0_at (r : Fin 4096) (l : Fin 1024) : val_main_v47 (F := Ideal) x0 (ix2 r l) = x0 (ix2 r l) := by
  unfold val_main_v47
  pointwise

theorem v58_at (r : Fin 4096) (l : Fin 1024) : val_main_v58 (F := Ideal) x0 x1 x2 x5 (ix2 r l) = Kernel13Ideal.valG x0 x1 x2 x5 0 r l := by
  have e : val_main_v58 (F := Ideal) x0 x1 x2 x5 (ix2 r l) = val_main_v47 (F := Ideal) x0 (ix2 r l) * val_main_v6 (F := Ideal) x2 x5 (ix2 r l)
      * (val_main_v20 (F := Ideal) x1 (ix2 r l) * (Ideal.ofBits .f32 0x3F800000#32 - val_main_v20 (F := Ideal) x1 (ix2 r l))) := rfl
  rw [e, same0_at, gate0_at, branch0_at, Ideal.ofBits_one_f32]
  exact (mul_assoc _ _ _).symm

theorem v61_at (r : Fin 4096) (l : Fin 1024) : val_main_v61 (F := Ideal) x0 x1 (ix2 r l) = Kernel13Ideal.valB x0 x1 0 r l := by
  have e : val_main_v61 (F := Ideal) x0 x1 (ix2 r l) = val_main_v20 (F := Ideal) x1 (ix2 r l) * val_main_v47 (F := Ideal) x0 (ix2 r l) := rfl
  rw [e, same0_at, gate0_at]
  exact mul_comm _ _

theorem gate1_at (r : Fin 4096) (l : Fin 1024) : val_main_v30 (F := Ideal) x1 (ix2 r l) = Kernel13Ideal.gate x1 1 r l := by
  have e : val_main_v30 (F := Ideal) x1 (ix2 r l) = Ideal.div (Ideal.ofBits .f32 0x3F800000#32) (Ideal.ofBits .f32 0x3F800000#32 + Ideal.exp (-(val_main_v1 (F := Ideal) x1 (ix2 r l)))) := rfl
  have e0 : val_main_v1 (F := Ideal) x1 (ix2 r l) = x1 (ix2 r (Kernel13Ideal.gcol 1 l)) := by
    unfold val_main_v1 Kernel13Ideal.gcol
    pointwise
  rw [e, Ideal.ofBits_one_f32, e0]
  rfl

theorem branch1_at (r : Fin 4096) (l : Fin 1024) : val_main_v10 (F := Ideal) x3 x5 (ix2 r l) = ∑ k : Fin 512, x3 (ix2 r k) * x5 (ix3 1 k l) := by
  unfold val_main_v10 val_main_v9 val_main_v8 val_main_v7
  pointwise

theorem same1_at (r : Fin 4096) (l : Fin 1024) : val_main_v47 (F := Ideal) x0 (ix2 r l) = x0 (ix2 r l) := by
  unfold val_main_v47
  pointwise

theorem v59_at (r : Fin 4096) (l : Fin 1024) : val_main_v59 (F := Ideal) x0 x1 x3 x5 (ix2 r l) = Kernel13Ideal.valG x0 x1 x3 x5 1 r l := by
  have e : val_main_v59 (F := Ideal) x0 x1 x3 x5 (ix2 r l) = val_main_v47 (F := Ideal) x0 (ix2 r l) * val_main_v10 (F := Ideal) x3 x5 (ix2 r l)
      * (val_main_v30 (F := Ideal) x1 (ix2 r l) * (Ideal.ofBits .f32 0x3F800000#32 - val_main_v30 (F := Ideal) x1 (ix2 r l))) := rfl
  rw [e, same1_at, gate1_at, branch1_at, Ideal.ofBits_one_f32]
  exact (mul_assoc _ _ _).symm

theorem v62_at (r : Fin 4096) (l : Fin 1024) : val_main_v62 (F := Ideal) x0 x1 (ix2 r l) = Kernel13Ideal.valB x0 x1 1 r l := by
  have e : val_main_v62 (F := Ideal) x0 x1 (ix2 r l) = val_main_v30 (F := Ideal) x1 (ix2 r l) * val_main_v47 (F := Ideal) x0 (ix2 r l) := rfl
  rw [e, same1_at, gate1_at]
  exact mul_comm _ _

theorem gate2_at (r : Fin 4096) (l : Fin 1024) : val_main_v41 (F := Ideal) x1 (ix2 r l) = Kernel13Ideal.gate x1 2 r l := by
  have e : val_main_v41 (F := Ideal) x1 (ix2 r l) = Ideal.div (Ideal.ofBits .f32 0x3F800000#32) (Ideal.ofBits .f32 0x3F800000#32 + Ideal.exp (-(val_main_v2 (F := Ideal) x1 (ix2 r l)))) := rfl
  have e0 : val_main_v2 (F := Ideal) x1 (ix2 r l) = x1 (ix2 r (Kernel13Ideal.gcol 2 l)) := by
    unfold val_main_v2 Kernel13Ideal.gcol
    pointwise
  rw [e, Ideal.ofBits_one_f32, e0]
  rfl

theorem branch2_at (r : Fin 4096) (l : Fin 1024) : val_main_v14 (F := Ideal) x4 x5 (ix2 r l) = ∑ k : Fin 512, x4 (ix2 r k) * x5 (ix3 2 k l) := by
  unfold val_main_v14 val_main_v13 val_main_v12 val_main_v11
  pointwise

theorem same2_at (r : Fin 4096) (l : Fin 1024) : val_main_v48 (F := Ideal) x0 (ix2 r l) = x0 (ix2 r l) := by
  unfold val_main_v48
  pointwise

theorem v60_at (r : Fin 4096) (l : Fin 1024) : val_main_v60 (F := Ideal) x0 x1 x4 x5 (ix2 r l) = Kernel13Ideal.valG x0 x1 x4 x5 2 r l := by
  have e : val_main_v60 (F := Ideal) x0 x1 x4 x5 (ix2 r l) = val_main_v48 (F := Ideal) x0 (ix2 r l) * val_main_v14 (F := Ideal) x4 x5 (ix2 r l)
      * (val_main_v41 (F := Ideal) x1 (ix2 r l) * (Ideal.ofBits .f32 0x3F800000#32 - val_main_v41 (F := Ideal) x1 (ix2 r l))) := rfl
  rw [e, same2_at, gate2_at, branch2_at, Ideal.ofBits_one_f32]
  exact (mul_assoc _ _ _).symm

theorem v63_at (r : Fin 4096) (l : Fin 1024) : val_main_v63 (F := Ideal) x0 x1 (ix2 r l) = Kernel13Ideal.valB x0 x1 2 r l := by
  have e : val_main_v63 (F := Ideal) x0 x1 (ix2 r l) = val_main_v41 (F := Ideal) x1 (ix2 r l) * val_main_v48 (F := Ideal) x0 (ix2 r l) := rfl
  rw [e, same2_at, gate2_at]
  exact mul_comm _ _

end Cert.Proof.Reference13Ideal

end
-- ==== Proof.MlaW.lean ====
/- The gradients of the latent attention's projections made of one product: the arrays the calls leave, and the references' results. -/
module

public import proofs.«01_k».proof.Proof.Gen.Kernel14Ideal.Value
public import proofs.«01_k».proof.Proof.Gen.Reference14Ideal.Read
public import proofs.«01_k».proof.Proof.Gen.Kernel15Ideal.Value
public import proofs.«01_k».proof.Proof.Gen.Reference15Ideal.Read
public import proofs.«01_k».proof.Proof.Gen.Kernel16Ideal.Value
public import proofs.«01_k».proof.Proof.Gen.Reference16Ideal.Read
public import proofs.«01_k».proof.Proof.Gen.Kernel17Ideal.Value
public import proofs.«01_k».proof.Proof.Gen.Reference17Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

/-! The weights that raise the rank of the queries. -/

namespace Cert.Proof.Kernel14Ideal

open Cert.Kernel14Ideal Cert.Kernel14Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x384 .bf16) (b : Vec Ideal S4096x1024 .bf16) (x : Fin 384) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 1 := grid0.coords t 0
def pj (t : Fin cfg0.N) : Fin 1 := grid0.coords t 1
/-- Row `x` of row block `i`, column `y` of column block `j`. -/
def ati (i : Fin 1) (x : Fin 384) : Fin 384 := ⟨384 * i.val + x.val, by omega⟩
def atj (j : Fin 1) (y : Fin 1024) : Fin 1024 := ⟨1024 * j.val + y.val, by omega⟩

theorem iblk0_at (c : Dev nD) (t : Fin cfg0.N) (x : Fin 384) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 384) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S384x1024.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel14Ideal

namespace Cert.Proof.Reference14Ideal

open Cert.Reference14Ideal Cert.Reference14Ideal.Gen Cert.Reference14Ideal.Read
open Idealize.ShloMosaic Idealize.ShloMosaic.TcCoe Idealize.ShloMosaic.Tactic

theorem res_at (x0 : (⟨S4096x384, .bf16⟩ : BufTy).Contents (Elt Ideal)) (x1 : (⟨S4096x1024, .bf16⟩ : BufTy).Contents (Elt Ideal)) (r : Fin 384) (l : Fin 1024) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference14Ideal

/-! The normalised rank-reduced queries. -/

namespace Cert.Proof.Kernel15Ideal

open Cert.Kernel15Ideal Cert.Kernel15Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x1024 .bf16) (b : Vec Ideal S384x1024 .bf16) (x : Fin 1024) (y : Fin 384) :
    k0_pay1 (F := Ideal) a b (ix2 x y) = rows a b x y := by
  unfold rows
  unfold_payloads
  pointwise

theorem idx_all : ∀ t : Fin grid0.N, win0_0.index t = ![(grid0.coords t 0).val, 0] ∧ win0_1.index t = ![(grid0.coords t 1).val, 0]
    ∧ win0_2.index t = ![(grid0.coords t 0).val, (grid0.coords t 1).val] := by decide +kernel

def pi (t : Fin cfg0.N) : Fin 4 := grid0.coords t 0
def pj (t : Fin cfg0.N) : Fin 1 := grid0.coords t 1
/-- Row `x` of row block `i`, column `y` of column block `j`. -/
def ati (i : Fin 4) (x : Fin 1024) : Fin 4096 := ⟨1024 * i.val + x.val, by omega⟩
def atj (j : Fin 1) (y : Fin 384) : Fin 384 := ⟨384 * j.val + y.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 384) (k : Fin 1024) : iblk m c 1 t (ix2 y k)
    = m ((c.tc : Thread nD τ).loc main_arg1) (ix2 (atj (pj t) y) k) := by
  blk_ext [iblk, V_main_arg1, idx_all t, atj, pj]

theorem out_at (c : Dev nD) (t : Fin cfg0.N) (x : Fin 1024) (y : Fin 384) : out0_2 (F := Ideal) (iblk m c 0 t) (iblk m c 1 t) (ix2 x y)
    = rows (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x384.Idx => rows (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize rows (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel15Ideal

namespace Cert.Proof.Reference15Ideal

open Cert.Reference15Ideal Cert.Reference15Ideal.Gen Cert.Reference15Ideal.Read
open Idealize.ShloMosaic Idealize.ShloMosaic.TcCoe Idealize.ShloMosaic.Tactic

theorem res_at (x0 : (⟨S4096x1024, .bf16⟩ : BufTy).Contents (Elt Ideal)) (x1 : (⟨S384x1024, .bf16⟩ : BufTy).Contents (Elt Ideal)) (r : Fin 4096) (l : Fin 384) :
    val_main_v4 (F := Ideal) x0 x1 (ix2 r l) = rows x0 x1 r l := by
  unfold rows val_main_v4 val_main_v1 val_main_v3
  pointwise

end Cert.Proof.Reference15Ideal

/-! The weights that raise the rank of the keys. -/

namespace Cert.Proof.Kernel16Ideal

open Cert.Kernel16Ideal Cert.Kernel16Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x256 .bf16) (b : Vec Ideal S4096x1024 .bf16) (x : Fin 256) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 1 := grid0.coords t 0
def pj (t : Fin cfg0.N) : Fin 1 := grid0.coords t 1
/-- Row `x` of row block `i`, column `y` of column block `j`. -/
def ati (i : Fin 1) (x : Fin 256) : Fin 256 := ⟨256 * i.val + x.val, by omega⟩
def atj (j : Fin 1) (y : Fin 1024) : Fin 1024 := ⟨1024 * j.val + y.val, by omega⟩

theorem iblk0_at (c : Dev nD) (t : Fin cfg0.N) (x : Fin 256) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 256) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S256x1024.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel16Ideal

namespace Cert.Proof.Reference16Ideal

open Cert.Reference16Ideal Cert.Reference16Ideal.Gen Cert.Reference16Ideal.Read
open Idealize.ShloMosaic Idealize.ShloMosaic.TcCoe Idealize.ShloMosaic.Tactic

theorem res_at (x0 : (⟨S4096x256, .bf16⟩ : BufTy).Contents (Elt Ideal)) (x1 : (⟨S4096x1024, .bf16⟩ : BufTy).Contents (Elt Ideal)) (r : Fin 256) (l : Fin 1024) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference16Ideal

/-! The weights that raise the rank of the values. -/

namespace Cert.Proof.Kernel17Ideal

open Cert.Kernel17Ideal Cert.Kernel17Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S4096x256 .bf16) (b : Vec Ideal S4096x512 .bf16) (x : Fin 256) (y : Fin 512) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 1 := grid0.coords t 0
def pj (t : Fin cfg0.N) : Fin 1 := grid0.coords t 1
/-- Row `x` of row block `i`, column `y` of column block `j`. -/
def ati (i : Fin 1) (x : Fin 256) : Fin 256 := ⟨256 * i.val + x.val, by omega⟩
def atj (j : Fin 1) (y : Fin 512) : Fin 512 := ⟨512 * j.val + y.val, by omega⟩

theorem iblk0_at (c : Dev nD) (t : Fin cfg0.N) (x : Fin 256) (k : Fin 4096) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 512) (k : Fin 4096) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 256) (y : Fin 512) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S256x512.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel17Ideal

namespace Cert.Proof.Reference17Ideal

open Cert.Reference17Ideal Cert.Reference17Ideal.Gen Cert.Reference17Ideal.Read
open Idealize.ShloMosaic Idealize.ShloMosaic.TcCoe Idealize.ShloMosaic.Tactic

theorem res_at (x0 : (⟨S4096x256, .bf16⟩ : BufTy).Contents (Elt Ideal)) (x1 : (⟨S4096x512, .bf16⟩ : BufTy).Contents (Elt Ideal)) (r : Fin 256) (l : Fin 512) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference17Ideal

end
-- ==== Proof.MlaKv.lean ====
/- The gradient of the latent attention's normalised rank-reduced keys and values, of two products: the array the call leaves, and
   the reference's result. -/
module

public import proofs.«01_k».proof.Proof.Gen.Kernel18Ideal.Value
public import proofs.«01_k».proof.Proof.Gen.Reference18Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

namespace Cert.Proof.Kernel18Ideal

open Cert.Kernel18Ideal Cert.Kernel18Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

/-- The keys' product plus the values'. -/
def val {M N K L : ℕ} (a : (⟨2, ![M, K]⟩ : Shape).Idx → EReal) (b : (⟨2, ![N, K]⟩ : Shape).Idx → EReal) (a' : (⟨2, ![M, L]⟩ : Shape).Idx → EReal)
    (b' : (⟨2, ![N, L]⟩ : Shape).Idx → EReal) (r : Fin M) (l : Fin N) : EReal := rows a b r l + rows a' b' r l

theorem pay_at (a : Vec Ideal S1024x1024 .bf16) (b : Vec Ideal S256x1024 .bf16) (a' : Vec Ideal S1024x512 .bf16) (b' : Vec Ideal S256x512 .bf16) (x : Fin 1024) (y : Fin 256) :
    k0_pay1 (F := Ideal) a b a' b' (ix2 x y) = val a b a' b' x y := by
  unfold val rows
  unfold_payloads
  pointwise

theorem idx_all : ∀ t : Fin grid0.N, win0_0.index t = ![(grid0.coords t 0).val, 0] ∧ win0_1.index t = ![0, 0]
    ∧ win0_2.index t = ![(grid0.coords t 0).val, 0] ∧ win0_3.index t = ![0, 0] ∧ win0_4.index t = ![(grid0.coords t 0).val, 0] := by
  decide +kernel

def pi (t : Fin cfg0.N) : Fin 4 := grid0.coords t 0
/-- Row `x` of row block `i`. -/
def ati (i : Fin 4) (x : Fin 1024) : Fin 4096 := ⟨1024 * i.val + x.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 256) (k : Fin 1024) : iblk m c 1 t (ix2 y k)
    = m ((c.tc : Thread nD τ).loc main_arg1) (ix2 y k) := by
  blk_ext [iblk, V_main_arg1, idx_all t, ati, pi]

theorem iblk2_at (c : Dev nD) (t : Fin cfg0.N) (x : Fin 1024) (k : Fin 512) : iblk m c 2 t (ix2 x k)
    = m ((c.tc : Thread nD τ).loc main_arg2) (ix2 (ati (pi t) x) k) := by
  blk_ext [iblk, V_main_arg2, idx_all t, ati, pi]

theorem iblk3_at (c : Dev nD) (t : Fin cfg0.N) (y : Fin 256) (k : Fin 512) : iblk m c 3 t (ix2 y k)
    = m ((c.tc : Thread nD τ).loc main_arg3) (ix2 y k) := by
  blk_ext [iblk, V_main_arg3, idx_all t, ati, pi]

theorem out_at (c : Dev nD) (t : Fin cfg0.N) (x : Fin 1024) (y : Fin 256) : out0_4 (F := Ideal) (iblk m c 0 t) (iblk m c 1 t) (iblk m c 2 t) (iblk m c 3 t) (ix2 x y)
    = val (m ((c.tc : Thread nD τ).loc main_arg0)) (m ((c.tc : Thread nD τ).loc main_arg1)) (m ((c.tc : Thread nD τ).loc main_arg2)) (m ((c.tc : Thread nD τ).loc main_arg3)) (ati (pi t) x) (id y) := by
  unfold out0_4
  rw [View.canon_unit_zero (by decide), View.ld_unit_zero (by decide), View.ld_unit_zero (by decide), View.ld_unit_zero (by decide), View.ld_unit_zero (by decide)]
  exact (pay_at _ _ _ _ x y).trans (congrArg₂ (· + ·)
    (Finset.sum_congr rfl fun k _ => congrArg₂ (· * ·) (iblk0_at m c t x k) (iblk1_at m c t y k))
    (Finset.sum_congr rfl fun k _ => congrArg₂ (· * ·) (iblk2_at m c t x k) (iblk3_at m c t y k)))

theorem arr (c : Dev nD) : (dats m 0 c).arrAt 4 cfg0.N = fun e : S4096x256.Idx => val (m ((c.tc : Thread nD τ).loc main_arg0)) (m ((c.tc : Thread nD τ).loc main_arg1)) (m ((c.tc : Thread nD τ).loc main_arg2)) (m ((c.tc : Thread nD τ).loc main_arg3)) (e 0) (e 1) := by
  refine (dats m 0 c).arrAt_eq_of_covers 4 _ (by decide +kernel) fun t hf y => ?_
  rw [after0_4]
  have ho := out_at m c t
  generalize out0_4 (F := Ideal) (iblk m c 0 t) (iblk m c 1 t) (iblk m c 2 t) (iblk m c 3 t) = O at ho ⊢
  generalize val (m ((c.tc : Thread nD τ).loc main_arg0)) (m ((c.tc : Thread nD τ).loc main_arg1)) (m ((c.tc : Thread nD τ).loc main_arg2)) (m ((c.tc : Thread nD τ).loc main_arg3)) = G at ho ⊢
  have hi := (idx_all t).2.2.2.2
  have h0 : win0_4.index t 0 = (grid0.coords t 0).val := by rw [hi]; rfl
  have h1 : win0_4.index t 1 = 0 := by rw [hi]; rfl
  refine at_block ho y ?_ ?_
  · blk_simp
    simp only [ati, pi, h0, Nat.mul_comm]
  · blk_simp
    simp only [id, h1, Nat.mul_zero, Nat.zero_mul, Nat.zero_add]

end Cert.Proof.Kernel18Ideal

namespace Cert.Proof.Reference18Ideal

open Cert.Reference18Ideal Cert.Reference18Ideal.Gen Cert.Reference18Ideal.Read
open Idealize.ShloMosaic Idealize.ShloMosaic.TcCoe Idealize.ShloMosaic.Tactic

theorem res_at (x0 : (⟨S4096x1024, .bf16⟩ : BufTy).Contents (Elt Ideal)) (x1 : (⟨S256x1024, .bf16⟩ : BufTy).Contents (Elt Ideal))
    (x2 : (⟨S4096x512, .bf16⟩ : BufTy).Contents (Elt Ideal)) (x3 : (⟨S256x512, .bf16⟩ : BufTy).Contents (Elt Ideal)) (r : Fin 4096) (l : Fin 256) :
    val_main_v9 (F := Ideal) x0 x1 x2 x3 (ix2 r l) = Kernel18Ideal.val x0 x1 x2 x3 r l := by
  unfold Kernel18Ideal.val rows val_main_v9 val_main_v8 val_main_v7 val_main_v6 val_main_v5 val_main_v3 val_main_v1
  pointwise
  exact add_comm _ _

end Cert.Proof.Reference18Ideal

end
-- ==== Proof.Fwd.lean ====
/- Products of the forward pass: the arrays the calls leave, and the references' results. -/
module

public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel23Ideal.Value
public import proofs.«01_k».proof.Proof.Gen.Reference23Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

/-! The attentions' projections. -/

namespace Cert.Proof.Kernel19Ideal

open Cert.Kernel19Ideal Cert.Kernel19Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x1024 .bf16) (b : Vec Ideal S1024x1024 .bf16) (x : Fin 1024) (y : Fin 1024) :
    k0_pay1 (F := Ideal) a b (ix2 x y) = prod a b x y := by
  unfold prod
  unfold_payloads
  pointwise

theorem idx_all : ∀ t : Fin grid0.N, win0_0.index t = ![(grid0.coords t 0).val, 0] ∧ win0_1.index t = ![0, (grid0.coords t 1).val]
    ∧ win0_2.index t = ![(grid0.coords t 0).val, (grid0.coords t 1).val] := by decide +kernel

def pi (t : Fin cfg0.N) : Fin 4 := grid0.coords t 0
def pj (t : Fin cfg0.N) : Fin 2 := grid0.coords t 1
/-- Row `x` of row block `i`, column `y` of column block `j`. -/
def ati (i : Fin 4) (x : Fin 1024) : Fin 4096 := ⟨1024 * i.val + x.val, by omega⟩
def atj (j : Fin 2) (y : Fin 1024) : Fin 2048 := ⟨1024 * j.val + y.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 1024) (k : Fin 1024) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 1024) (y : Fin 1024) : out0_2 (F := Ideal) (iblk m c 0 t) (iblk m c 1 t) (ix2 x y)
    = prod (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x2048.Idx => prod (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize prod (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel19Ideal

namespace Cert.Proof.Reference19Ideal

open Cert.Reference19Ideal Cert.Reference19Ideal.Gen Cert.Reference19Ideal.Read
open Idealize.ShloMosaic Idealize.ShloMosaic.TcCoe Idealize.ShloMosaic.Tactic

theorem res_at (x0 : (⟨S4096x1024, .bf16⟩ : BufTy).Contents (Elt Ideal)) (x1 : (⟨S1024x2048, .bf16⟩ : BufTy).Contents (Elt Ideal)) (r : Fin 4096) (l : Fin 2048) :
    val_main_v3 (F := Ideal) x0 x1 (ix2 r l) = prod x0 x1 r l := by
  unfold prod val_main_v3 val_main_v2 val_main_v1 val_main_v0
  pointwise

end Cert.Proof.Reference19Ideal

/-! The gates' logits. -/

namespace Cert.Proof.Kernel20Ideal

open Cert.Kernel20Ideal Cert.Kernel20Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x1024 .bf16) (b : Vec Ideal S1024x1024 .bf16) (x : Fin 1024) (y : Fin 1024) :
    k0_pay1 (F := Ideal) a b (ix2 x y) = prod a b x y := by
  unfold prod
  unfold_payloads
  pointwise

theorem idx_all : ∀ t : Fin grid0.N, win0_0.index t = ![(grid0.coords t 0).val, 0] ∧ win0_1.index t = ![0, (grid0.coords t 1).val]
    ∧ win0_2.index t = ![(grid0.coords t 0).val, (grid0.coords t 1).val] := by decide +kernel

def pi (t : Fin cfg0.N) : Fin 4 := grid0.coords t 0
def pj (t : Fin cfg0.N) : Fin 3 := grid0.coords t 1
/-- Row `x` of row block `i`, column `y` of column block `j`. -/
def ati (i : Fin 4) (x : Fin 1024) : Fin 4096 := ⟨1024 * i.val + x.val, by omega⟩
def atj (j : Fin 3) (y : Fin 1024) : Fin 3072 := ⟨1024 * j.val + y.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 1024) (k : Fin 1024) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 1024) (y : Fin 1024) : out0_2 (F := Ideal) (iblk m c 0 t) (iblk m c 1 t) (ix2 x y)
    = prod (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x3072.Idx => prod (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize prod (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel20Ideal

namespace Cert.Proof.Reference20Ideal

open Cert.Reference20Ideal Cert.Reference20Ideal.Gen Cert.Reference20Ideal.Read
open Idealize.ShloMosaic Idealize.ShloMosaic.TcCoe Idealize.ShloMosaic.Tactic

theorem res_at (x0 : (⟨S4096x1024, .bf16⟩ : BufTy).Contents (Elt Ideal)) (x1 : (⟨S1024x3072, .bf16⟩ : BufTy).Contents (Elt Ideal)) (r : Fin 4096) (l : Fin 3072) :
    val_main_v2 (F := Ideal) x0 x1 (ix2 r l) = prod x0 x1 r l := by
  unfold prod val_main_v2 val_main_v1 val_main_v0
  pointwise

end Cert.Proof.Reference20Ideal

/-! The narrow projections. -/

namespace Cert.Proof.Kernel21Ideal

open Cert.Kernel21Ideal Cert.Kernel21Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x1024 .bf16) (b : Vec Ideal S1024x896 .bf16) (x : Fin 1024) (y : Fin 896) :
    k0_pay1 (F := Ideal) a b (ix2 x y) = prod a b x y := by
  unfold prod
  unfold_payloads
  pointwise

theorem idx_all : ∀ t : Fin grid0.N, win0_0.index t = ![(grid0.coords t 0).val, 0] ∧ win0_1.index t = ![0, (grid0.coords t 1).val]
    ∧ win0_2.index t = ![(grid0.coords t 0).val, (grid0.coords t 1).val] := by decide +kernel

def pi (t : Fin cfg0.N) : Fin 4 := grid0.coords t 0
def pj (t : Fin cfg0.N) : Fin 1 := grid0.coords t 1
/-- Row `x` of row block `i`, column `y` of column block `j`. -/
def ati (i : Fin 4) (x : Fin 1024) : Fin 4096 := ⟨1024 * i.val + x.val, by omega⟩
def atj (j : Fin 1) (y : Fin 896) : Fin 896 := ⟨896 * j.val + y.val, by omega⟩

theorem iblk0_at (c : Dev nD) (t : Fin cfg0.N) (x : Fin 1024) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 896) (k : Fin 1024) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 1024) (y : Fin 896) : out0_2 (F := Ideal) (iblk m c 0 t) (iblk m c 1 t) (ix2 x y)
    = prod (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x896.Idx => prod (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize prod (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel21Ideal

namespace Cert.Proof.Reference21Ideal

open Cert.Reference21Ideal Cert.Reference21Ideal.Gen Cert.Reference21Ideal.Read
open Idealize.ShloMosaic Idealize.ShloMosaic.TcCoe Idealize.ShloMosaic.Tactic

theorem res_at (x0 : (⟨S4096x1024, .bf16⟩ : BufTy).Contents (Elt Ideal)) (x1 : (⟨S1024x896, .bf16⟩ : BufTy).Contents (Elt Ideal)) (r : Fin 4096) (l : Fin 896) :
    val_main_v2 (F := Ideal) x0 x1 (ix2 r l) = prod x0 x1 r l := by
  unfold prod val_main_v2 val_main_v1 val_main_v0
  pointwise

end Cert.Proof.Reference21Ideal

/-! The latent attention's values. -/

namespace Cert.Proof.Kernel23Ideal

open Cert.Kernel23Ideal Cert.Kernel23Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S1024x256 .bf16) (b : Vec Ideal S256x512 .bf16) (x : Fin 1024) (y : Fin 512) :
    k0_pay1 (F := Ideal) a b (ix2 x y) = prod a b x y := by
  unfold prod
  unfold_payloads
  pointwise

theorem idx_all : ∀ t : Fin grid0.N, win0_0.index t = ![(grid0.coords t 0).val, 0] ∧ win0_1.index t = ![0, (grid0.coords t 1).val]
    ∧ win0_2.index t = ![(grid0.coords t 0).val, (grid0.coords t 1).val] := by decide +kernel

def pi (t : Fin cfg0.N) : Fin 4 := grid0.coords t 0
def pj (t : Fin cfg0.N) : Fin 1 := grid0.coords t 1
/-- Row `x` of row block `i`, column `y` of column block `j`. -/
def ati (i : Fin 4) (x : Fin 1024) : Fin 4096 := ⟨1024 * i.val + x.val, by omega⟩
def atj (j : Fin 1) (y : Fin 512) : Fin 512 := ⟨512 * j.val + y.val, by omega⟩

theorem iblk0_at (c : Dev nD) (t : Fin cfg0.N) (x : Fin 1024) (k : Fin 256) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 512) (k : Fin 256) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 1024) (y : Fin 512) : out0_2 (F := Ideal) (iblk m c 0 t) (iblk m c 1 t) (ix2 x y)
    = prod (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S4096x512.Idx => prod (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize prod (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel23Ideal

namespace Cert.Proof.Reference23Ideal

open Cert.Reference23Ideal Cert.Reference23Ideal.Gen Cert.Reference23Ideal.Read
open Idealize.ShloMosaic Idealize.ShloMosaic.TcCoe Idealize.ShloMosaic.Tactic

theorem res_at (x0 : (⟨S4096x256, .bf16⟩ : BufTy).Contents (Elt Ideal)) (x1 : (⟨S256x512, .bf16⟩ : BufTy).Contents (Elt Ideal)) (r : Fin 4096) (l : Fin 512) :
    val_main_v3 (F := Ideal) x0 x1 (ix2 r l) = prod x0 x1 r l := by
  unfold prod val_main_v3 val_main_v2 val_main_v1 val_main_v0
  pointwise

end Cert.Proof.Reference23Ideal

end
-- ==== Proof.Ff1.lean ====
/- The feed-forward's first product and its squared rectifier: the two arrays the call leaves, and the reference's results. -/
module

public import proofs.«01_k».proof.Proof.Gen.Kernel22Ideal.Value
public import proofs.«01_k».proof.Proof.Gen.Reference22Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

namespace Cert.Proof.Kernel22Ideal

open Cert.Kernel22Ideal Cert.Kernel22Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

/-- The positive part of a product's entry, squared. -/
def sq {M N K : ℕ} (a : (⟨2, ![M, K]⟩ : Shape).Idx → EReal) (b : (⟨2, ![K, N]⟩ : Shape).Idx → EReal) (r : Fin M) (l : Fin N) : EReal :=
  max (prod a b r l) 0 * max (prod a b r l) 0

theorem pay1_at (a b : Vec Ideal S1024x1024 .bf16) (x y : Fin 1024) : k0_pay1 (F := Ideal) a b (ix2 x y) = prod a b x y := by
  unfold prod
  unfold_payloads
  pointwise

theorem pay2_at (a b : Vec Ideal S1024x1024 .bf16) (x y : Fin 1024) : k0_pay2 (F := Ideal) a b (ix2 x y) = prod a b x y := by
  rw [← pay1_at]
  unfold k0_pay2
  generalize k0_pay1 (F := Ideal) a b = A
  pointwise

theorem pay3_at (a b : Vec Ideal S1024x1024 .bf16) (x y : Fin 1024) : k0_pay3 (F := Ideal) a b (ix2 x y) = sq a b x y := by
  unfold sq
  rw [← pay1_at]
  unfold k0_pay3
  generalize k0_pay1 (F := Ideal) a b = A
  pointwise

theorem idx_all : ∀ t : Fin grid0.N, win0_0.index t = ![(grid0.coords t 0).val, 0] ∧ win0_1.index t = ![0, (grid0.coords t 1).val]
    ∧ win0_2.index t = ![(grid0.coords t 0).val, (grid0.coords t 1).val] ∧ win0_3.index t = ![(grid0.coords t 0).val, (grid0.coords t 1).val] := by
  decide +kernel

def pi (t : Fin cfg0.N) : Fin 4 := grid0.coords t 0
def pj (t : Fin cfg0.N) : Fin 4 := grid0.coords t 1
/-- Row `x` of row block `i`, column `y` of column block `j`. -/
def ati (i : Fin 4) (x : Fin 1024) : Fin 4096 := ⟨1024 * i.val + x.val, by omega⟩
def atj (j : Fin 4) (y : Fin 1024) : Fin 4096 := ⟨1024 * j.val + y.val, by omega⟩

theorem iblk0_at (c : Dev nD) (t : Fin cfg0.N) (x k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y k : Fin 1024) : iblk m c 1 t (ix2 k y)
    = m ((c.tc : Thread nD τ).loc main_arg1) (ix2 k (atj (pj t) y)) := by
  blk_ext [iblk, V_main_arg1, idx_all t, atj, pj]

theorem prod_at (c : Dev nD) (t : Fin cfg0.N) (x y : Fin 1024) : prod (iblk m c 0 t) (iblk m c 1 t) x y
    = prod (m ((c.tc : Thread nD τ).loc main_arg0)) (m ((c.tc : Thread nD τ).loc main_arg1)) (ati (pi t) x) (atj (pj t) y) :=
  Finset.sum_congr rfl fun k _ => congrArg₂ (· * ·) (iblk0_at m c t x k) (iblk1_at m c t y k)

theorem out2_at (c : Dev nD) (t : Fin cfg0.N) (x y : Fin 1024) : out0_2 (F := Ideal) (iblk m c 0 t) (iblk m c 1 t) (ix2 x y)
    = prod (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay2_at _ _ x y).trans (prod_at m c t x y)

theorem out3_at (c : Dev nD) (t : Fin cfg0.N) (x y : Fin 1024) : out0_3 (F := Ideal) (iblk m c 0 t) (iblk m c 1 t) (ix2 x y)
    = sq (m ((c.tc : Thread nD τ).loc main_arg0)) (m ((c.tc : Thread nD τ).loc main_arg1)) (ati (pi t) x) (atj (pj t) y) := by
  unfold out0_3
  rw [View.canon_unit_zero (by decide), View.ld_unit_zero (by decide), View.ld_unit_zero (by decide)]
  refine (pay3_at _ _ x y).trans ?_
  unfold sq
  rw [prod_at]

theorem arr2 (c : Dev nD) : (dats m 0 c).arrAt 2 cfg0.N = fun e : S4096x4096.Idx => prod (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out2_at m c t
  generalize out0_2 (F := Ideal) (iblk m c 0 t) (iblk m c 1 t) = O at ho ⊢
  generalize prod (m ((c.tc : Thread nD τ).loc main_arg0)) (m ((c.tc : Thread nD τ).loc main_arg1)) = G at ho ⊢
  have hi := (idx_all t).2.2.1
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

theorem arr3 (c : Dev nD) : (dats m 0 c).arrAt 3 cfg0.N = fun e : S4096x4096.Idx => sq (m ((c.tc : Thread nD τ).loc main_arg0)) (m ((c.tc : Thread nD τ).loc main_arg1)) (e 0) (e 1) := by
  refine (dats m 0 c).arrAt_eq_of_covers 3 _ (by decide +kernel) fun t hf y => ?_
  rw [after0_3]
  have ho := out3_at m c t
  generalize out0_3 (F := Ideal) (iblk m c 0 t) (iblk m c 1 t) = O at ho ⊢
  generalize sq (m ((c.tc : Thread nD τ).loc main_arg0)) (m ((c.tc : Thread nD τ).loc main_arg1)) = G at ho ⊢
  have hi := (idx_all t).2.2.2
  have h0 : win0_3.index t 0 = (grid0.coords t 0).val := by rw [hi]; rfl
  have h1 : win0_3.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel22Ideal

namespace Cert.Proof.Reference22Ideal

open Cert.Reference22Ideal Cert.Reference22Ideal.Gen Cert.Reference22Ideal.Read
open Idealize.ShloMosaic Idealize.ShloMosaic.TcCoe Idealize.ShloMosaic.Tactic

variable (x0 : (⟨S4096x1024, .bf16⟩ : BufTy).Contents (Elt Ideal)) (x1 : (⟨S1024x4096, .bf16⟩ : BufTy).Contents (Elt Ideal))

theorem v2_at (r l : Fin 4096) : val_main_v2 (F := Ideal) x0 x1 (ix2 r l) = prod x0 x1 r l := by
  unfold prod val_main_v2 val_main_v1 val_main_v0
  pointwise

theorem v3_at (r l : Fin 4096) : val_main_v3 (F := Ideal) x0 x1 (ix2 r l) = prod x0 x1 r l := by
  rw [← v2_at]
  unfold val_main_v3
  generalize val_main_v2 (F := Ideal) x0 x1 = A
  pointwise

theorem v6_at (r l : Fin 4096) : val_main_v6 (F := Ideal) x0 x1 (ix2 r l) = Kernel22Ideal.sq x0 x1 r l := by
  unfold Kernel22Ideal.sq
  rw [← v2_at]
  unfold val_main_v6 val_main_v5 val_main_v4 val_main_call0_v0 val_main_call0_cst
  generalize val_main_v2 (F := Ideal) x0 x1 = A
  pointwise

end Cert.Proof.Reference22Ideal

end
-- ==== Proof.MergeF.lean ====
/- The gated merge of the three projected branches: the array the call leaves, and the reference's result. -/
module

public import proofs.«01_k».proof.Proof.Gen.Kernel24Ideal.Value
public import proofs.«01_k».proof.Proof.Gen.Reference24Ideal.Read
public import Idealize.ShloMosaic.Lib.Pipeline.ValueKit
public import Idealize.ShloMosaic.Lib.Pointwise
public import Idealize.ShloMosaic.Lib.StableHlo.ReadAt
public import Idealize.ShloMosaic.Lib.IdealHost
public import proofs.«01_k».proof.Proof.Blocks

@[expose] public section

set_option maxRecDepth 16384
set_option maxHeartbeats 4000000

noncomputable section

namespace Cert.Proof.Kernel24Ideal

open Cert.Kernel24Ideal Cert.Kernel24Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

/-- Column `k` of gate `n` among the three gates' columns. -/
def gcol (n : Fin 3) (k : Fin 1024) : Fin 3072 := ⟨1024 * n.val + k.val, by omega⟩

/-- A gate times the branch projected. -/
def term {M : ℕ} (g : (⟨2, ![M, 3072]⟩ : Shape).Idx → EReal) (n : Fin 3) (r : Fin M) (l : Fin 1024) (p : EReal) : EReal :=
  Ideal.logistic (g (ix2 r (gcol n l))) * p

/-- The three gated branches, added. -/
def val (g : S4096x3072.Idx → EReal) (oa ob oc : S4096x512.Idx → EReal) (w : S3x512x1024.Idx → EReal) (r : Fin 4096) (l : Fin 1024) : EReal :=
  term g 0 r l (∑ k : Fin 512, oa (ix2 r k) * w (ix3 0 k l)) + term g 1 r l (∑ k : Fin 512, ob (ix2 r k) * w (ix3 1 k l))
    + term g 2 r l (∑ k : Fin 512, oc (ix2 r k) * w (ix3 2 k l))

theorem pay_at (a0 : Vec Ideal S256x512 .f32) (b0 : Vec Ideal S512x1024 .bf16) (a1 : Vec Ideal S256x512 .f32) (b1 : Vec Ideal S512x1024 .bf16)
    (a2 : Vec Ideal S256x512 .f32) (b2 : Vec Ideal S512x1024 .bf16) (g : Vec Ideal S256x3072 .f32) (x : Fin 256) (y : Fin 1024) :
    k0_pay1 (F := Ideal) a0 b0 a1 b1 a2 b2 g (ix2 x y) = term g 0 x y (prod a0 b0 x y) + term g 1 x y (prod a1 b1 x y) + term g 2 x y (prod a2 b2 x y) := by
  unfold term prod gcol
  unfold_payloads
  pointwise

theorem idx_all : ∀ t : Fin grid0.N, win0_0.index t = ![(grid0.coords t 0).val, 0] ∧ win0_1.index t = ![0, 0]
    ∧ win0_2.index t = ![(grid0.coords t 0).val, 0] ∧ win0_3.index t = ![0, 0] ∧ win0_4.index t = ![(grid0.coords t 0).val, 0]
    ∧ win0_5.index t = ![0, 0] ∧ win0_6.index t = ![(grid0.coords t 0).val, 0] ∧ win0_7.index t = ![(grid0.coords t 0).val, 0] := by
  decide +kernel

def pi (t : Fin cfg0.N) : Fin 16 := grid0.coords t 0
/-- Row `x` of row block `i`. -/
def ati (i : Fin 16) (x : Fin 256) : Fin 4096 := ⟨256 * i.val + x.val, by omega⟩

theorem v1_at (c : Dev nD) (k : Fin 512) (l : Fin 1024) : V m c main_v1 (ix2 k l) = m ((c.tc : Thread nD τ).loc main_arg4) (ix3 0 k l) := by
  unfold V
  after_reads_at

theorem iblk0_at (c : Dev nD) (t : Fin cfg0.N) (x : Fin 256) (k : Fin 512) : iblk m c 0 t (ix2 x k)
    = m ((c.tc : Thread nD τ).loc main_arg1) (ix2 (ati (pi t) x) k) := by
  blk_ext [iblk, V_main_arg1, idx_all t, ati, pi]

theorem iblk1_at (c : Dev nD) (t : Fin cfg0.N) (k : Fin 512) (l : Fin 1024) : iblk m c 1 t (ix2 k l)
    = m ((c.tc : Thread nD τ).loc main_arg4) (ix3 0 k l) := by
  refine Eq.trans ?_ (v1_at m c k l)
  blk_ext [iblk, idx_all t]

theorem v3_at (c : Dev nD) (k : Fin 512) (l : Fin 1024) : V m c main_v3 (ix2 k l) = m ((c.tc : Thread nD τ).loc main_arg4) (ix3 1 k l) := by
  unfold V
  after_reads_at

theorem iblk2_at (c : Dev nD) (t : Fin cfg0.N) (x : Fin 256) (k : Fin 512) : iblk m c 2 t (ix2 x k)
    = m ((c.tc : Thread nD τ).loc main_arg2) (ix2 (ati (pi t) x) k) := by
  blk_ext [iblk, V_main_arg2, idx_all t, ati, pi]

theorem iblk3_at (c : Dev nD) (t : Fin cfg0.N) (k : Fin 512) (l : Fin 1024) : iblk m c 3 t (ix2 k l)
    = m ((c.tc : Thread nD τ).loc main_arg4) (ix3 1 k l) := by
  refine Eq.trans ?_ (v3_at m c k l)
  blk_ext [iblk, idx_all t]

theorem v5_at (c : Dev nD) (k : Fin 512) (l : Fin 1024) : V m c main_v5 (ix2 k l) = m ((c.tc : Thread nD τ).loc main_arg4) (ix3 2 k l) := by
  unfold V
  after_reads_at

theorem iblk4_at (c : Dev nD) (t : Fin cfg0.N) (x : Fin 256) (k : Fin 512) : iblk m c 4 t (ix2 x k)
    = m ((c.tc : Thread nD τ).loc main_arg3) (ix2 (ati (pi t) x) k) := by
  blk_ext [iblk, V_main_arg3, idx_all t, ati, pi]

theorem iblk5_at (c : Dev nD) (t : Fin cfg0.N) (k : Fin 512) (l : Fin 1024) : iblk m c 5 t (ix2 k l)
    = m ((c.tc : Thread nD τ).loc main_arg4) (ix3 2 k l) := by
  refine Eq.trans ?_ (v5_at m c k l)
  blk_ext [iblk, idx_all t]

theorem iblk6_at (c : Dev nD) (t : Fin cfg0.N) (x : Fin 256) (y : Fin 3072) : iblk m c 6 t (ix2 x y)
    = m ((c.tc : Thread nD τ).loc main_arg0) (ix2 (ati (pi t) x) y) := by
  blk_ext [iblk, V_main_arg0, idx_all t, ati, pi]

/-- A term of a block is the term of the arrays it was cut from. -/
theorem term_of {g : S256x3072.Idx → EReal} {G : S4096x3072.Idx → EReal} {o : S4096x512.Idx → EReal} {w : S3x512x1024.Idx → EReal}
    {a : S256x512.Idx → EReal} {b : S512x1024.Idx → EReal} (n : Fin 3) {r : Fin 4096} {x : Fin 256} {y : Fin 1024}
    (hg : ∀ l, g (ix2 x l) = G (ix2 r l)) (ha : ∀ k, a (ix2 x k) = o (ix2 r k)) (hb : ∀ k, b (ix2 k y) = w (ix3 n k y)) :
    term g n x y (prod a b x y) = term G n r y (∑ k : Fin 512, o (ix2 r k) * w (ix3 n k y)) := by
  unfold term prod
  rw [hg, Finset.sum_congr rfl fun k _ => congrArg₂ (· * ·) (ha k) (hb k)]

/-- The array, from the arguments. -/
abbrev want (c : Dev nD) : Fin 4096 → Fin 1024 → EReal := val (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4))

theorem out_at (c : Dev nD) (t : Fin cfg0.N) (x : Fin 256) (y : Fin 1024) : out0_7 (F := Ideal) (iblk m c 0 t) (iblk m c 1 t) (iblk m c 2 t) (iblk m c 3 t) (iblk m c 4 t) (iblk m c 5 t) (iblk m c 6 t) (ix2 x y) = want m c (ati (pi t) x) (id y) := by
  unfold out0_7
  rw [View.canon_unit_zero (by decide), View.ld_unit_zero (by decide), View.ld_unit_zero (by decide), View.ld_unit_zero (by decide), View.ld_unit_zero (by decide), View.ld_unit_zero (by decide), View.ld_unit_zero (by decide), View.ld_unit_zero (by decide)]
  exact (pay_at _ _ _ _ _ _ _ x y).trans (congrArg₂ (· + ·) (congrArg₂ (· + ·)
    (term_of 0 (fun l => iblk6_at m c t x l) (fun k => iblk0_at m c t x k) fun k => iblk1_at m c t k y)
    (term_of 1 (fun l => iblk6_at m c t x l) (fun k => iblk2_at m c t x k) fun k => iblk3_at m c t k y))
    (term_of 2 (fun l => iblk6_at m c t x l) (fun k => iblk4_at m c t x k) fun k => iblk5_at m c t k y))

theorem arr (c : Dev nD) : (dats m 0 c).arrAt 7 cfg0.N = fun e : S4096x1024.Idx => want m c (e 0) (e 1) := by
  refine (dats m 0 c).arrAt_eq_of_covers 7 _ (by decide +kernel) fun t hf y => ?_
  rw [after0_7]
  have ho := out_at m c t
  generalize out0_7 (F := Ideal) (iblk m c 0 t) (iblk m c 1 t) (iblk m c 2 t) (iblk m c 3 t) (iblk m c 4 t) (iblk m c 5 t) (iblk m c 6 t) = O at ho ⊢
  generalize want m c = G at ho ⊢
  have hi := (idx_all t).2.2.2.2.2.2.2
  have h0 : win0_7.index t 0 = (grid0.coords t 0).val := by rw [hi]; rfl
  have h1 : win0_7.index t 1 = 0 := by rw [hi]; rfl
  refine at_block ho y ?_ ?_
  · blk_simp
    simp only [ati, pi, h0, Nat.mul_comm]
  · blk_simp
    simp only [id, h1, Nat.mul_zero, Nat.zero_mul, Nat.zero_add]

end Cert.Proof.Kernel24Ideal

namespace Cert.Proof.Reference24Ideal

open Cert.Reference24Ideal Cert.Reference24Ideal.Gen Cert.Reference24Ideal.Read
open Idealize.ShloMosaic Idealize.ShloMosaic.TcCoe Idealize.ShloMosaic.Tactic

variable (x0 : (⟨S4096x3072, .f32⟩ : BufTy).Contents (Elt Ideal)) (x1 x2 x3 : (⟨S4096x512, .f32⟩ : BufTy).Contents (Elt Ideal))
  (x4 : (⟨S3x512x1024, .bf16⟩ : BufTy).Contents (Elt Ideal))

theorem v5_at (r : Fin 4096) (l : Fin 3072) : val_main_v5 (F := Ideal) x0 (ix2 r l) = Ideal.logistic (x0 (ix2 r l)) := by
  have e : val_main_v5 (F := Ideal) x0 (ix2 r l) = Ideal.div (Ideal.ofBits .f32 0x3F800000#32) (Ideal.ofBits .f32 0x3F800000#32 + Ideal.exp (-(x0 (ix2 r l)))) := rfl
  rw [e, Ideal.ofBits_one_f32]
  rfl

theorem gate0_at (r : Fin 4096) (l : Fin 1024) : val_main_v6 (F := Ideal) x0 (ix2 r l) = Ideal.logistic (x0 (ix2 r (Kernel24Ideal.gcol 0 l))) := by
  rw [← v5_at]
  unfold val_main_v6 Kernel24Ideal.gcol
  generalize val_main_v5 (F := Ideal) x0 = A
  pointwise

theorem branch0_at (r : Fin 4096) (l : Fin 1024) : val_main_v12 (F := Ideal) x1 x4 (ix2 r l) = ∑ k : Fin 512, x1 (ix2 r k) * x4 (ix3 0 k l) := by
  unfold val_main_v12 val_main_v11 val_main_v10 val_main_v9
  pointwise

theorem gate1_at (r : Fin 4096) (l : Fin 1024) : val_main_v7 (F := Ideal) x0 (ix2 r l) = Ideal.logistic (x0 (ix2 r (Kernel24Ideal.gcol 1 l))) := by
  rw [← v5_at]
  unfold val_main_v7 Kernel24Ideal.gcol
  generalize val_main_v5 (F := Ideal) x0 = A
  pointwise

theorem branch1_at (r : Fin 4096) (l : Fin 1024) : val_main_v16 (F := Ideal) x2 x4 (ix2 r l) = ∑ k : Fin 512, x2 (ix2 r k) * x4 (ix3 1 k l) := by
  unfold val_main_v16 val_main_v15 val_main_v14 val_main_v13
  pointwise

theorem gate2_at (r : Fin 4096) (l : Fin 1024) : val_main_v8 (F := Ideal) x0 (ix2 r l) = Ideal.logistic (x0 (ix2 r (Kernel24Ideal.gcol 2 l))) := by
  rw [← v5_at]
  unfold val_main_v8 Kernel24Ideal.gcol
  generalize val_main_v5 (F := Ideal) x0 = A
  pointwise

theorem branch2_at (r : Fin 4096) (l : Fin 1024) : val_main_v20 (F := Ideal) x3 x4 (ix2 r l) = ∑ k : Fin 512, x3 (ix2 r k) * x4 (ix3 2 k l) := by
  unfold val_main_v20 val_main_v19 val_main_v18 val_main_v17
  pointwise

theorem res_at (r : Fin 4096) (l : Fin 1024) : val_main_v26 (F := Ideal) x0 x1 x2 x3 x4 (ix2 r l) = Kernel24Ideal.val x0 x1 x2 x3 x4 r l := by
  have e : val_main_v26 (F := Ideal) x0 x1 x2 x3 x4 (ix2 r l) = val_main_v6 (F := Ideal) x0 (ix2 r l) * val_main_v12 (F := Ideal) x1 x4 (ix2 r l)
      + val_main_v7 (F := Ideal) x0 (ix2 r l) * val_main_v16 (F := Ideal) x2 x4 (ix2 r l)
      + val_main_v8 (F := Ideal) x0 (ix2 r l) * val_main_v20 (F := Ideal) x3 x4 (ix2 r l) := rfl
  rw [e, gate0_at, gate1_at, gate2_at, branch0_at, branch1_at, branch2_at]
  rfl

end Cert.Proof.Reference24Ideal

end
-- ==== Proof.LayerNorm.lean ====
/- The layer norm of a row, and its argument: the residual's share and a product's entry. -/
module

public import proofs.«01_k».proof.Proof.Blocks
public import Idealize.ShloMosaic.Lib.Pointwise

@[expose] public section

noncomputable section

namespace Cert.Proof

open Idealize.ShloMosaic Idealize.ShloMosaic.Tactic

/-- The mean of a row, and a row's entry after the layer norm with gain `g` and offset `b`. -/
def mean (z : Fin 1024 → EReal) : EReal := Ideal.div (∑ k, z k) (Ideal.ofBits .f32 0x44800000#32)
def lnorm (z : Fin 1024 → EReal) (g b : (⟨2, ![1, 1024]⟩ : Shape).Idx → EReal) (l : Fin 1024) : EReal :=
  (z l - mean z) * Ideal.rsqrt (mean (fun k => (z k - mean z) * (z k - mean z)) + Ideal.ofBits .f32 0x3727C5AC#32) * g (ix2 0 l) + b (ix2 0 l)
/-- The residual's share and a product's entry. -/
def resz {M K : ℕ} (a : (⟨2, ![M, K]⟩ : Shape).Idx → EReal) (b : (⟨2, ![K, 1024]⟩ : Shape).Idx → EReal) (h : (⟨2, ![M, 1024]⟩ : Shape).Idx → EReal)
    (r : Fin M) (l : Fin 1024) : EReal :=
  Ideal.ofBits .f32 0x3FD744FD#32 * h (ix2 r l) + prod a b r l

end Cert.Proof

end
-- ==== Proof.PostLn.lean ====
/- The feed-forward's second product with the residual and the layer norm after it: the three arrays the call leaves, and the reference's results. -/
module

public import proofs.«01_k».proof.Proof.Gen.Kernel25Ideal.Value
public import proofs.«01_k».proof.Proof.Gen.Reference25Ideal.Read
public import Idealize.ShloMosaic.Lib.Pipeline.ValueKit
public import Idealize.ShloMosaic.Lib.Pointwise
public import proofs.«01_k».proof.Proof.Blocks
public import proofs.«01_k».proof.Proof.LayerNorm

@[expose] public section

set_option maxRecDepth 16384
set_option maxHeartbeats 4000000

noncomputable section

namespace Cert.Proof.Kernel25Ideal

open Cert.Kernel25Ideal Cert.Kernel25Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay1_at (a : Vec Ideal S256x4096 .bf16) (b : Vec Ideal S4096x1024 .bf16) (h : Vec Ideal S256x1024 .f32) (x : Fin 256) (y : Fin 1024) :
    k0_pay1 (F := Ideal) a b h (ix2 x y) = resz a b h x y := by
  unfold resz prod
  unfold_payloads
  pointwise

theorem pay2_at (a : Vec Ideal S256x4096 .bf16) (b : Vec Ideal S4096x1024 .bf16) (h : Vec Ideal S256x1024 .f32) (g o : Vec Ideal S1x1024 .f32) (x : Fin 256) (y : Fin 1024) :
    k0_pay2 (F := Ideal) a b h g o (ix2 x y) = lnorm (resz a b h x) g o y := by
  have hz : resz a b h x = fun l => k0_pay1 (F := Ideal) a b h (ix2 x l) := funext fun l => (pay1_at a b h x l).symm
  rw [hz]
  unfold lnorm mean k0_pay2
  generalize k0_pay1 (F := Ideal) a b h = A
  pointwise

theorem pay3_at (a : Vec Ideal S256x4096 .bf16) (b : Vec Ideal S4096x1024 .bf16) (h : Vec Ideal S256x1024 .f32) (g o : Vec Ideal S1x1024 .f32) (x : Fin 256) (y : Fin 1024) :
    k0_pay3 (F := Ideal) a b h g o (ix2 x y) = lnorm (resz a b h x) g o y := by
  rw [← pay2_at]
  unfold k0_pay3
  generalize k0_pay2 (F := Ideal) a b h g o = A
  pointwise

theorem idx_all : ∀ t : Fin grid0.N, win0_0.index t = ![(grid0.coords t 0).val, 0] ∧ win0_1.index t = ![0, 0] ∧ win0_2.index t = ![(grid0.coords t 0).val, 0]
    ∧ win0_3.index t = ![0, 0] ∧ win0_4.index t = ![0, 0] ∧ win0_5.index t = ![(grid0.coords t 0).val, 0] ∧ win0_6.index t = ![(grid0.coords t 0).val, 0]
    ∧ win0_7.index t = ![(grid0.coords t 0).val, 0] := by
  decide +kernel

/-- Row `x` of the block of the step `t`. -/
def ati (t : Fin cfg0.N) (x : Fin 256) : Fin 4096 := ⟨256 * (grid0.coords t 0).val + x.val, by have : (grid0.coords t 0).val < 16 := (grid0.coords t 0).isLt; omega⟩

theorem iblk0_at (c : Dev nD) (t : Fin cfg0.N) (x : Fin 256) (k : Fin 4096) : iblk m c 0 t (ix2 x k) = (m ((c.tc : Thread nD τ).loc main_arg0)) (ix2 (ati t x) k) := by
  blk_ext [iblk, V_main_arg0, idx_all t, ati]

theorem iblk1_at (c : Dev nD) (t : Fin cfg0.N) (k : Fin 4096) (y : Fin 1024) : iblk m c 1 t (ix2 k y) = (m ((c.tc : Thread nD τ).loc main_arg1)) (ix2 k y) := by
  blk_ext [iblk, V_main_arg1, idx_all t]

theorem iblk2_at (c : Dev nD) (t : Fin cfg0.N) (x : Fin 256) (y : Fin 1024) : iblk m c 2 t (ix2 x y) = (m ((c.tc : Thread nD τ).loc main_arg2)) (ix2 (ati t x) y) := by
  blk_ext [iblk, V_main_arg2, idx_all t, ati]

theorem iblk3_at (c : Dev nD) (t : Fin cfg0.N) (y : Fin 1024) : iblk m c 3 t (ix2 0 y) = (m ((c.tc : Thread nD τ).loc main_arg3)) (ix2 0 y) := by
  blk_ext [iblk, V_main_arg3, idx_all t]

theorem iblk4_at (c : Dev nD) (t : Fin cfg0.N) (y : Fin 1024) : iblk m c 4 t (ix2 0 y) = (m ((c.tc : Thread nD τ).loc main_arg4)) (ix2 0 y) := by
  blk_ext [iblk, V_main_arg4, idx_all t]

/-- The layer norm's argument and its result, over the call's own arrays. -/
def zG (c : Dev nD) (r : Fin 4096) (l : Fin 1024) : EReal := resz (m ((c.tc : Thread nD τ).loc main_arg0)) (m ((c.tc : Thread nD τ).loc main_arg1)) (m ((c.tc : Thread nD τ).loc main_arg2)) r l
def yG (c : Dev nD) (r : Fin 4096) (l : Fin 1024) : EReal := lnorm (resz (m ((c.tc : Thread nD τ).loc main_arg0)) (m ((c.tc : Thread nD τ).loc main_arg1)) (m ((c.tc : Thread nD τ).loc main_arg2)) r) (m ((c.tc : Thread nD τ).loc main_arg3)) (m ((c.tc : Thread nD τ).loc main_arg4)) l

theorem z_at (c : Dev nD) (t : Fin cfg0.N) (x : Fin 256) (y : Fin 1024) : resz (iblk m c 0 t) (iblk m c 1 t) (iblk m c 2 t) x y = zG m c (ati t x) y :=
  congrArg₂ (· + ·) (congrArg (_ * ·) (iblk2_at m c t x y)) (Finset.sum_congr rfl fun k _ => congrArg₂ (· * ·) (iblk0_at m c t x k) (iblk1_at m c t k y))

theorem y_at (c : Dev nD) (t : Fin cfg0.N) (x : Fin 256) (y : Fin 1024) :
    lnorm (resz (iblk m c 0 t) (iblk m c 1 t) (iblk m c 2 t) x) (iblk m c 3 t) (iblk m c 4 t) y = yG m c (ati t x) y := by
  have hz : resz (iblk m c 0 t) (iblk m c 1 t) (iblk m c 2 t) x = resz (m ((c.tc : Thread nD τ).loc main_arg0)) (m ((c.tc : Thread nD τ).loc main_arg1)) (m ((c.tc : Thread nD τ).loc main_arg2)) (ati t x) := funext fun l => z_at m c t x l
  rw [hz]
  exact congrArg₂ (· + ·) (congrArg (_ * ·) (iblk3_at m c t y)) (iblk4_at m c t y)

theorem out5_at (c : Dev nD) (t : Fin cfg0.N) (x : Fin 256) (y : Fin 1024) :
    out0_5 (F := Ideal) (iblk m c 0 t) (iblk m c 1 t) (iblk m c 2 t) (iblk m c 3 t) (iblk m c 4 t) (ix2 x y) = zG m c (ati t x) y := by
  unfold out0_5
  rw [View.canon_unit_zero (by decide), View.ld_unit_zero (by decide), View.ld_unit_zero (by decide), View.ld_unit_zero (by decide)]
  exact (pay1_at _ _ _ x y).trans (z_at m c t x y)

theorem out6_at (c : Dev nD) (t : Fin cfg0.N) (x : Fin 256) (y : Fin 1024) :
    out0_6 (F := Ideal) (iblk m c 0 t) (iblk m c 1 t) (iblk m c 2 t) (iblk m c 3 t) (iblk m c 4 t) (ix2 x y) = yG m c (ati t x) y := by
  unfold out0_6
  rw [View.canon_unit_zero (by decide), View.ld_unit_zero (by decide), View.ld_unit_zero (by decide), View.ld_unit_zero (by decide), View.ld_unit_zero (by decide), View.ld_unit_zero (by decide)]
  exact (pay2_at _ _ _ _ _ x y).trans (y_at m c t x y)

theorem out7_at (c : Dev nD) (t : Fin cfg0.N) (x : Fin 256) (y : Fin 1024) :
    out0_7 (F := Ideal) (iblk m c 0 t) (iblk m c 1 t) (iblk m c 2 t) (iblk m c 3 t) (iblk m c 4 t) (ix2 x y) = yG m c (ati t x) y := by
  unfold out0_7
  rw [View.canon_unit_zero (by decide), View.ld_unit_zero (by decide), View.ld_unit_zero (by decide), View.ld_unit_zero (by decide), View.ld_unit_zero (by decide), View.ld_unit_zero (by decide)]
  exact (pay3_at _ _ _ _ _ x y).trans (y_at m c t x y)

theorem arr5 (c : Dev nD) : (dats m 0 c).arrAt 5 cfg0.N = fun e : S4096x1024.Idx => zG m c (e 0) (e 1) := by
  refine (dats m 0 c).arrAt_eq_of_covers 5 _ (by decide +kernel) fun t hf y => ?_
  rw [after0_5]
  have ho := out5_at m c t
  generalize out0_5 (F := Ideal) (iblk m c 0 t) (iblk m c 1 t) (iblk m c 2 t) (iblk m c 3 t) (iblk m c 4 t) = O at ho ⊢
  generalize zG m c = G at ho ⊢
  have hi := (idx_all t).2.2.2.2.2.1
  have h0 : win0_5.index t 0 = (grid0.coords t 0).val := by rw [hi]; rfl
  have h1 : win0_5.index t 1 = 0 := by rw [hi]; rfl
  refine at_block (s := id) ho y ?_ ?_
  · blk_simp
    simp only [ati, h0, Nat.mul_comm]
  · blk_simp
    simp only [id, h1, Nat.zero_mul, Nat.zero_add]

theorem arr6 (c : Dev nD) : (dats m 0 c).arrAt 6 cfg0.N = fun e : S4096x1024.Idx => yG m c (e 0) (e 1) := by
  refine (dats m 0 c).arrAt_eq_of_covers 6 _ (by decide +kernel) fun t hf y => ?_
  rw [after0_6]
  have ho := out6_at m c t
  generalize out0_6 (F := Ideal) (iblk m c 0 t) (iblk m c 1 t) (iblk m c 2 t) (iblk m c 3 t) (iblk m c 4 t) = O at ho ⊢
  generalize yG m c = G at ho ⊢
  have hi := (idx_all t).2.2.2.2.2.2.1
  have h0 : win0_6.index t 0 = (grid0.coords t 0).val := by rw [hi]; rfl
  have h1 : win0_6.index t 1 = 0 := by rw [hi]; rfl
  refine at_block (s := id) ho y ?_ ?_
  · blk_simp
    simp only [ati, h0, Nat.mul_comm]
  · blk_simp
    simp only [id, h1, Nat.zero_mul, Nat.zero_add]

theorem arr7 (c : Dev nD) : (dats m 0 c).arrAt 7 cfg0.N = fun e : S4096x1024.Idx => yG m c (e 0) (e 1) := by
  refine (dats m 0 c).arrAt_eq_of_covers 7 _ (by decide +kernel) fun t hf y => ?_
  rw [after0_7]
  have ho := out7_at m c t
  generalize out0_7 (F := Ideal) (iblk m c 0 t) (iblk m c 1 t) (iblk m c 2 t) (iblk m c 3 t) (iblk m c 4 t) = O at ho ⊢
  generalize yG m c = G at ho ⊢
  have hi := (idx_all t).2.2.2.2.2.2.2
  have h0 : win0_7.index t 0 = (grid0.coords t 0).val := by rw [hi]; rfl
  have h1 : win0_7.index t 1 = 0 := by rw [hi]; rfl
  refine at_block (s := id) ho y ?_ ?_
  · blk_simp
    simp only [ati, h0, Nat.mul_comm]
  · blk_simp
    simp only [id, h1, Nat.zero_mul, Nat.zero_add]

end Cert.Proof.Kernel25Ideal

namespace Cert.Proof.Reference25Ideal

open Cert.Reference25Ideal Cert.Reference25Ideal.Gen Cert.Reference25Ideal.Read
open Idealize.ShloMosaic Idealize.ShloMosaic.TcCoe Idealize.ShloMosaic.Tactic

variable (x0 : (⟨S4096x4096, .bf16⟩ : BufTy).Contents (Elt Ideal)) (x1 : (⟨S4096x1024, .bf16⟩ : BufTy).Contents (Elt Ideal)) (x2 : (⟨S4096x1024, .f32⟩ : BufTy).Contents (Elt Ideal))
  (x3 x4 : (⟨S1x1024, .f32⟩ : BufTy).Contents (Elt Ideal))

theorem v5_at (r : Fin 4096) (l : Fin 1024) : val_main_v5 (F := Ideal) x0 x1 x2 (ix2 r l) = resz x0 x1 x2 r l := by
  unfold resz prod val_main_v5 val_main_v4 val_main_v3 val_main_v2 val_main_v1 val_main_v0 val_main_cst
  pointwise

theorem v27_at (r : Fin 4096) (l : Fin 1024) : val_main_v27 (F := Ideal) x0 x1 x2 x3 x4 (ix2 r l) = lnorm (resz x0 x1 x2 r) x3 x4 l := by
  have hz : resz x0 x1 x2 r = fun l => val_main_v5 (F := Ideal) x0 x1 x2 (ix2 r l) := funext fun l => (v5_at x0 x1 x2 r l).symm
  rw [hz]
  unfold lnorm mean val_main_v27 val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6
    val_main_cst_4 val_main_cst_3 val_main_cst_2 val_main_cst_1 val_main_cst_0
  generalize val_main_v5 (F := Ideal) x0 x1 x2 = A
  pointwise

theorem v28_at (r : Fin 4096) (l : Fin 1024) : val_main_v28 (F := Ideal) x0 x1 x2 x3 x4 (ix2 r l) = lnorm (resz x0 x1 x2 r) x3 x4 l := by
  rw [← v27_at]
  unfold val_main_v28
  generalize val_main_v27 (F := Ideal) x0 x1 x2 x3 x4 = A
  pointwise

end Cert.Proof.Reference25Ideal

end
-- ==== Proof.OutLn.lean ====
/- The output projection with the residual and the layer norm after it: the three arrays the call leaves, and the reference's results. -/
module

public import proofs.«01_k».proof.Proof.Gen.Kernel26Ideal.Value
public import proofs.«01_k».proof.Proof.Gen.Reference26Ideal.Read
public import Idealize.ShloMosaic.Lib.Pipeline.ValueKit
public import Idealize.ShloMosaic.Lib.Pointwise
public import proofs.«01_k».proof.Proof.Blocks
public import proofs.«01_k».proof.Proof.LayerNorm

@[expose] public section

set_option maxRecDepth 16384
set_option maxHeartbeats 4000000

noncomputable section

namespace Cert.Proof.Kernel26Ideal

open Cert.Kernel26Ideal Cert.Kernel26Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay1_at (a : Vec Ideal S256x1024 .bf16) (b : Vec Ideal S1024x1024 .bf16) (h : Vec Ideal S256x1024 .f32) (x : Fin 256) (y : Fin 1024) :
    k0_pay1 (F := Ideal) a b h (ix2 x y) = resz a b h x y := by
  unfold resz prod
  unfold_payloads
  pointwise

theorem pay2_at (a : Vec Ideal S256x1024 .bf16) (b : Vec Ideal S1024x1024 .bf16) (h : Vec Ideal S256x1024 .f32) (g o : Vec Ideal S1x1024 .f32) (x : Fin 256) (y : Fin 1024) :
    k0_pay2 (F := Ideal) a b h g o (ix2 x y) = lnorm (resz a b h x) g o y := by
  have hz : resz a b h x = fun l => k0_pay1 (F := Ideal) a b h (ix2 x l) := funext fun l => (pay1_at a b h x l).symm
  rw [hz]
  unfold lnorm mean k0_pay2
  generalize k0_pay1 (F := Ideal) a b h = A
  pointwise

theorem pay3_at (a : Vec Ideal S256x1024 .bf16) (b : Vec Ideal S1024x1024 .bf16) (h : Vec Ideal S256x1024 .f32) (g o : Vec Ideal S1x1024 .f32) (x : Fin 256) (y : Fin 1024) :
    k0_pay3 (F := Ideal) a b h g o (ix2 x y) = lnorm (resz a b h x) g o y := by
  rw [← pay2_at]
  unfold k0_pay3
  generalize k0_pay2 (F := Ideal) a b h g o = A
  pointwise

theorem idx_all : ∀ t : Fin grid0.N, win0_0.index t = ![(grid0.coords t 0).val, 0] ∧ win0_1.index t = ![0, 0] ∧ win0_2.index t = ![(grid0.coords t 0).val, 0]
    ∧ win0_3.index t = ![0, 0] ∧ win0_4.index t = ![0, 0] ∧ win0_5.index t = ![(grid0.coords t 0).val, 0] ∧ win0_6.index t = ![(grid0.coords t 0).val, 0]
    ∧ win0_7.index t = ![(grid0.coords t 0).val, 0] := by
  decide +kernel

/-- Row `x` of the block of the step `t`. -/
def ati (t : Fin cfg0.N) (x : Fin 256) : Fin 4096 := ⟨256 * (grid0.coords t 0).val + x.val, by have : (grid0.coords t 0).val < 16 := (grid0.coords t 0).isLt; omega⟩

theorem iblk0_at (c : Dev nD) (t : Fin cfg0.N) (x : Fin 256) (k : Fin 1024) : iblk m c 0 t (ix2 x k) = (m ((c.tc : Thread nD τ).loc main_arg0)) (ix2 (ati t x) k) := by
  blk_ext [iblk, V_main_arg0, idx_all t, ati]

theorem iblk1_at (c : Dev nD) (t : Fin cfg0.N) (k : Fin 1024) (y : Fin 1024) : iblk m c 1 t (ix2 k y) = (m ((c.tc : Thread nD τ).loc main_arg1)) (ix2 k y) := by
  blk_ext [iblk, V_main_arg1, idx_all t]

theorem iblk2_at (c : Dev nD) (t : Fin cfg0.N) (x : Fin 256) (y : Fin 1024) : iblk m c 2 t (ix2 x y) = (m ((c.tc : Thread nD τ).loc main_arg2)) (ix2 (ati t x) y) := by
  blk_ext [iblk, V_main_arg2, idx_all t, ati]

theorem iblk3_at (c : Dev nD) (t : Fin cfg0.N) (y : Fin 1024) : iblk m c 3 t (ix2 0 y) = (m ((c.tc : Thread nD τ).loc main_arg3)) (ix2 0 y) := by
  blk_ext [iblk, V_main_arg3, idx_all t]

theorem iblk4_at (c : Dev nD) (t : Fin cfg0.N) (y : Fin 1024) : iblk m c 4 t (ix2 0 y) = (m ((c.tc : Thread nD τ).loc main_arg4)) (ix2 0 y) := by
  blk_ext [iblk, V_main_arg4, idx_all t]

/-- The layer norm's argument and its result, over the call's own arrays. -/
def zG (c : Dev nD) (r : Fin 4096) (l : Fin 1024) : EReal := resz (m ((c.tc : Thread nD τ).loc main_arg0)) (m ((c.tc : Thread nD τ).loc main_arg1)) (m ((c.tc : Thread nD τ).loc main_arg2)) r l
def yG (c : Dev nD) (r : Fin 4096) (l : Fin 1024) : EReal := lnorm (resz (m ((c.tc : Thread nD τ).loc main_arg0)) (m ((c.tc : Thread nD τ).loc main_arg1)) (m ((c.tc : Thread nD τ).loc main_arg2)) r) (m ((c.tc : Thread nD τ).loc main_arg3)) (m ((c.tc : Thread nD τ).loc main_arg4)) l

theorem z_at (c : Dev nD) (t : Fin cfg0.N) (x : Fin 256) (y : Fin 1024) : resz (iblk m c 0 t) (iblk m c 1 t) (iblk m c 2 t) x y = zG m c (ati t x) y :=
  congrArg₂ (· + ·) (congrArg (_ * ·) (iblk2_at m c t x y)) (Finset.sum_congr rfl fun k _ => congrArg₂ (· * ·) (iblk0_at m c t x k) (iblk1_at m c t k y))

theorem y_at (c : Dev nD) (t : Fin cfg0.N) (x : Fin 256) (y : Fin 1024) :
    lnorm (resz (iblk m c 0 t) (iblk m c 1 t) (iblk m c 2 t) x) (iblk m c 3 t) (iblk m c 4 t) y = yG m c (ati t x) y := by
  have hz : resz (iblk m c 0 t) (iblk m c 1 t) (iblk m c 2 t) x = resz (m ((c.tc : Thread nD τ).loc main_arg0)) (m ((c.tc : Thread nD τ).loc main_arg1)) (m ((c.tc : Thread nD τ).loc main_arg2)) (ati t x) := funext fun l => z_at m c t x l
  rw [hz]
  exact congrArg₂ (· + ·) (congrArg (_ * ·) (iblk3_at m c t y)) (iblk4_at m c t y)

theorem out5_at (c : Dev nD) (t : Fin cfg0.N) (x : Fin 256) (y : Fin 1024) :
    out0_5 (F := Ideal) (iblk m c 0 t) (iblk m c 1 t) (iblk m c 2 t) (iblk m c 3 t) (iblk m c 4 t) (ix2 x y) = zG m c (ati t x) y := by
  unfold out0_5
  rw [View.canon_unit_zero (by decide), View.ld_unit_zero (by decide), View.ld_unit_zero (by decide), View.ld_unit_zero (by decide)]
  exact (pay1_at _ _ _ x y).trans (z_at m c t x y)

theorem out6_at (c : Dev nD) (t : Fin cfg0.N) (x : Fin 256) (y : Fin 1024) :
    out0_6 (F := Ideal) (iblk m c 0 t) (iblk m c 1 t) (iblk m c 2 t) (iblk m c 3 t) (iblk m c 4 t) (ix2 x y) = yG m c (ati t x) y := by
  unfold out0_6
  rw [View.canon_unit_zero (by decide), View.ld_unit_zero (by decide), View.ld_unit_zero (by decide), View.ld_unit_zero (by decide), View.ld_unit_zero (by decide), View.ld_unit_zero (by decide)]
  exact (pay2_at _ _ _ _ _ x y).trans (y_at m c t x y)

theorem out7_at (c : Dev nD) (t : Fin cfg0.N) (x : Fin 256) (y : Fin 1024) :
    out0_7 (F := Ideal) (iblk m c 0 t) (iblk m c 1 t) (iblk m c 2 t) (iblk m c 3 t) (iblk m c 4 t) (ix2 x y) = yG m c (ati t x) y := by
  unfold out0_7
  rw [View.canon_unit_zero (by decide), View.ld_unit_zero (by decide), View.ld_unit_zero (by decide), View.ld_unit_zero (by decide), View.ld_unit_zero (by decide), View.ld_unit_zero (by decide)]
  exact (pay3_at _ _ _ _ _ x y).trans (y_at m c t x y)

theorem arr5 (c : Dev nD) : (dats m 0 c).arrAt 5 cfg0.N = fun e : S4096x1024.Idx => zG m c (e 0) (e 1) := by
  refine (dats m 0 c).arrAt_eq_of_covers 5 _ (by decide +kernel) fun t hf y => ?_
  rw [after0_5]
  have ho := out5_at m c t
  generalize out0_5 (F := Ideal) (iblk m c 0 t) (iblk m c 1 t) (iblk m c 2 t) (iblk m c 3 t) (iblk m c 4 t) = O at ho ⊢
  generalize zG m c = G at ho ⊢
  have hi := (idx_all t).2.2.2.2.2.1
  have h0 : win0_5.index t 0 = (grid0.coords t 0).val := by rw [hi]; rfl
  have h1 : win0_5.index t 1 = 0 := by rw [hi]; rfl
  refine at_block (s := id) ho y ?_ ?_
  · blk_simp
    simp only [ati, h0, Nat.mul_comm]
  · blk_simp
    simp only [id, h1, Nat.zero_mul, Nat.zero_add]

theorem arr6 (c : Dev nD) : (dats m 0 c).arrAt 6 cfg0.N = fun e : S4096x1024.Idx => yG m c (e 0) (e 1) := by
  refine (dats m 0 c).arrAt_eq_of_covers 6 _ (by decide +kernel) fun t hf y => ?_
  rw [after0_6]
  have ho := out6_at m c t
  generalize out0_6 (F := Ideal) (iblk m c 0 t) (iblk m c 1 t) (iblk m c 2 t) (iblk m c 3 t) (iblk m c 4 t) = O at ho ⊢
  generalize yG m c = G at ho ⊢
  have hi := (idx_all t).2.2.2.2.2.2.1
  have h0 : win0_6.index t 0 = (grid0.coords t 0).val := by rw [hi]; rfl
  have h1 : win0_6.index t 1 = 0 := by rw [hi]; rfl
  refine at_block (s := id) ho y ?_ ?_
  · blk_simp
    simp only [ati, h0, Nat.mul_comm]
  · blk_simp
    simp only [id, h1, Nat.zero_mul, Nat.zero_add]

theorem arr7 (c : Dev nD) : (dats m 0 c).arrAt 7 cfg0.N = fun e : S4096x1024.Idx => yG m c (e 0) (e 1) := by
  refine (dats m 0 c).arrAt_eq_of_covers 7 _ (by decide +kernel) fun t hf y => ?_
  rw [after0_7]
  have ho := out7_at m c t
  generalize out0_7 (F := Ideal) (iblk m c 0 t) (iblk m c 1 t) (iblk m c 2 t) (iblk m c 3 t) (iblk m c 4 t) = O at ho ⊢
  generalize yG m c = G at ho ⊢
  have hi := (idx_all t).2.2.2.2.2.2.2
  have h0 : win0_7.index t 0 = (grid0.coords t 0).val := by rw [hi]; rfl
  have h1 : win0_7.index t 1 = 0 := by rw [hi]; rfl
  refine at_block (s := id) ho y ?_ ?_
  · blk_simp
    simp only [ati, h0, Nat.mul_comm]
  · blk_simp
    simp only [id, h1, Nat.zero_mul, Nat.zero_add]

end Cert.Proof.Kernel26Ideal

namespace Cert.Proof.Reference26Ideal

open Cert.Reference26Ideal Cert.Reference26Ideal.Gen Cert.Reference26Ideal.Read
open Idealize.ShloMosaic Idealize.ShloMosaic.TcCoe Idealize.ShloMosaic.Tactic

variable (x0 : (⟨S4096x1024, .bf16⟩ : BufTy).Contents (Elt Ideal)) (x1 : (⟨S1024x1024, .bf16⟩ : BufTy).Contents (Elt Ideal)) (x2 : (⟨S4096x1024, .f32⟩ : BufTy).Contents (Elt Ideal))
  (x3 x4 : (⟨S1x1024, .f32⟩ : BufTy).Contents (Elt Ideal))

theorem v5_at (r : Fin 4096) (l : Fin 1024) : val_main_v5 (F := Ideal) x0 x1 x2 (ix2 r l) = resz x0 x1 x2 r l := by
  unfold resz prod val_main_v5 val_main_v4 val_main_v3 val_main_v2 val_main_v1 val_main_v0 val_main_cst
  pointwise

theorem v27_at (r : Fin 4096) (l : Fin 1024) : val_main_v27 (F := Ideal) x0 x1 x2 x3 x4 (ix2 r l) = lnorm (resz x0 x1 x2 r) x3 x4 l := by
  have hz : resz x0 x1 x2 r = fun l => val_main_v5 (F := Ideal) x0 x1 x2 (ix2 r l) := funext fun l => (v5_at x0 x1 x2 r l).symm
  rw [hz]
  unfold lnorm mean val_main_v27 val_main_v26 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6
    val_main_cst_4 val_main_cst_3 val_main_cst_2 val_main_cst_1 val_main_cst_0
  generalize val_main_v5 (F := Ideal) x0 x1 x2 = A
  pointwise

theorem v28_at (r : Fin 4096) (l : Fin 1024) : val_main_v28 (F := Ideal) x0 x1 x2 x3 x4 (ix2 r l) = lnorm (resz x0 x1 x2 r) x3 x4 l := by
  rw [← v27_at]
  unfold val_main_v28
  generalize val_main_v27 (F := Ideal) x0 x1 x2 x3 x4 = A
  pointwise

end Cert.Proof.Reference26Ideal

end
-- ==== Proof.Mem.lean ====
/- The memory's projection and its gradient: the arrays the calls leave, and the references' results. -/
module

public import proofs.«01_k».proof.Proof.Gen.Kernel27Ideal.Value
public import proofs.«01_k».proof.Proof.Gen.Reference27Ideal.Read
public import proofs.«01_k».proof.Proof.Gen.Kernel28Ideal.Value
public import proofs.«01_k».proof.Proof.Gen.Reference28Ideal.Read
public import Idealize.ShloMosaic.Lib.Pipeline.ValueKit
public import Idealize.ShloMosaic.Lib.Pointwise
public import proofs.«01_k».proof.Proof.Blocks

@[expose] public section

set_option maxRecDepth 16384
set_option maxHeartbeats 4000000

noncomputable section

/-! The projection. -/

namespace Cert.Proof.Kernel27Ideal

open Cert.Kernel27Ideal Cert.Kernel27Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S512x1024 .bf16) (b : Vec Ideal S1024x1024 .bf16) (x : Fin 512) (y : Fin 1024) :
    k0_pay1 (F := Ideal) a b (ix2 x y) = prod a b x y := by
  unfold prod
  unfold_payloads
  pointwise

theorem idx_all : ∀ t : Fin grid0.N, win0_0.index t = ![(grid0.coords t 0).val, 0] ∧ win0_1.index t = ![0, (grid0.coords t 1).val]
    ∧ win0_2.index t = ![(grid0.coords t 0).val, (grid0.coords t 1).val] := by decide +kernel

def pi (t : Fin cfg0.N) : Fin 1 := grid0.coords t 0
def pj (t : Fin cfg0.N) : Fin 1 := grid0.coords t 1
/-- Row `x` of row block `i`, column `y` of column block `j`. -/
def ati (i : Fin 1) (x : Fin 512) : Fin 512 := ⟨512 * i.val + x.val, by omega⟩
def atj (j : Fin 1) (y : Fin 1024) : Fin 1024 := ⟨1024 * j.val + y.val, by omega⟩

theorem iblk0_at (c : Dev nD) (t : Fin cfg0.N) (x : Fin 512) (k : Fin 1024) : iblk m c 0 t (ix2 x k)
    = m ((c.tc : Thread nD τ).loc main_arg0) (ix2 (ati (pi t) x) k) := by
  blk_ext [iblk, V_main_arg0, idx_all t, ati, pi]

theorem iblk1_at (c : Dev nD) (t : Fin cfg0.N) (y : Fin 1024) (k : Fin 1024) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 512) (y : Fin 1024) : out0_2 (F := Ideal) (iblk m c 0 t) (iblk m c 1 t) (ix2 x y)
    = prod (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S512x1024.Idx => prod (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize prod (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel27Ideal

namespace Cert.Proof.Reference27Ideal

open Cert.Reference27Ideal Cert.Reference27Ideal.Gen Cert.Reference27Ideal.Read
open Idealize.ShloMosaic Idealize.ShloMosaic.TcCoe Idealize.ShloMosaic.Tactic

theorem res_at (x0 : (⟨S512x1024, .bf16⟩ : BufTy).Contents (Elt Ideal)) (x1 : (⟨S1024x1024, .bf16⟩ : BufTy).Contents (Elt Ideal)) (r : Fin 512) (l : Fin 1024) :
    val_main_v3 (F := Ideal) x0 x1 (ix2 r l) = prod x0 x1 r l := by
  unfold prod val_main_v3 val_main_v2 val_main_v1 val_main_v0
  pointwise

end Cert.Proof.Reference27Ideal

/-! Its weights. -/

namespace Cert.Proof.Kernel28Ideal

open Cert.Kernel28Ideal Cert.Kernel28Ideal.Gen
open Idealize.ShloMosaic Idealize.ShloMosaic.TcCoe Idealize.ShloMosaic.Tactic Idealize.ShloMosaic.Pipeline
open Idealize.SL Idealize.SL.Sem

variable (m : (ℓ : Loc nD τ sig) → Buf (Elt Ideal) ℓ)

theorem pay_at (a : Vec Ideal S512x1024 .bf16) (b : Vec Ideal S512x1024 .bf16) (x : Fin 1024) (y : Fin 1024) :
    k0_pay1 (F := Ideal) a b (ix2 x y) = cols a b x y := by
  unfold cols
  unfold_payloads
  pointwise

theorem idx_all : ∀ t : Fin grid0.N, win0_0.index t = ![0, (grid0.coords t 0).val] ∧ win0_1.index t = ![0, (grid0.coords t 1).val]
    ∧ win0_2.index t = ![(grid0.coords t 0).val, (grid0.coords t 1).val] := by decide +kernel

def pi (t : Fin cfg0.N) : Fin 1 := grid0.coords t 0
def pj (t : Fin cfg0.N) : Fin 1 := grid0.coords t 1
/-- Row `x` of row block `i`, column `y` of column block `j`. -/
def ati (i : Fin 1) (x : Fin 1024) : Fin 1024 := ⟨1024 * i.val + x.val, by omega⟩
def atj (j : Fin 1) (y : Fin 1024) : Fin 1024 := ⟨1024 * j.val + y.val, by omega⟩

theorem iblk0_at (c : Dev nD) (t : Fin cfg0.N) (x : Fin 1024) (k : Fin 512) : iblk m c 0 t (ix2 k x)
    = m ((c.tc : Thread nD τ).loc main_arg0) (ix2 k (ati (pi t) x)) := by
  blk_ext [iblk, V_main_arg0, idx_all t, ati, pi]

theorem iblk1_at (c : Dev nD) (t : Fin cfg0.N) (y : Fin 1024) (k : Fin 512) : iblk m c 1 t (ix2 k y)
    = m ((c.tc : Thread nD τ).loc main_arg1) (ix2 k (atj (pj t) y)) := by
  blk_ext [iblk, V_main_arg1, idx_all t, atj, pj]

theorem out_at (c : Dev nD) (t : Fin cfg0.N) (x : Fin 1024) (y : Fin 1024) : out0_2 (F := Ideal) (iblk m c 0 t) (iblk m c 1 t) (ix2 x y)
    = cols (m ((c.tc : Thread nD τ).loc main_arg0)) (m ((c.tc : Thread nD τ).loc main_arg1)) (ati (pi t) x) (atj (pj t) y) := by
  unfold out0_2
  rw [View.canon_unit_zero (by decide), View.ld_unit_zero (by decide), View.ld_unit_zero (by decide)]
  exact (pay_at _ _ x y).trans (Finset.sum_congr rfl fun k _ => congrArg₂ (· * ·) (iblk0_at m c t x k) (iblk1_at m c t y k))

theorem arr (c : Dev nD) : (dats m 0 c).arrAt 2 cfg0.N = fun e : S1024x1024.Idx => cols (m ((c.tc : Thread nD τ).loc main_arg0)) (m ((c.tc : Thread nD τ).loc main_arg1)) (e 0) (e 1) := by
  refine (dats m 0 c).arrAt_eq_of_covers 2 _ (by decide +kernel) fun t hf y => ?_
  rw [after0_2]
  have ho := out_at m c t
  generalize out0_2 (F := Ideal) (iblk m c 0 t) (iblk m c 1 t) = O at ho ⊢
  generalize cols (m ((c.tc : Thread nD τ).loc main_arg0)) (m ((c.tc : Thread nD τ).loc main_arg1)) = G at ho ⊢
  have hi := (idx_all t).2.2
  have h0 : win0_2.index t 0 = (grid0.coords t 0).val := by rw [hi]; rfl
  have h1 : win0_2.index t 1 = (grid0.coords t 1).val := by rw [hi]; rfl
  refine at_block ho y ?_ ?_
  · blk_simp
    simp only [ati, pi, h0, Nat.mul_comm]
  · blk_simp
    simp only [atj, pj, h1, Nat.mul_comm]

end Cert.Proof.Kernel28Ideal

namespace Cert.Proof.Reference28Ideal

open Cert.Reference28Ideal Cert.Reference28Ideal.Gen Cert.Reference28Ideal.Read
open Idealize.ShloMosaic Idealize.ShloMosaic.TcCoe Idealize.ShloMosaic.Tactic

theorem res_at (x0 : (⟨S512x1024, .bf16⟩ : BufTy).Contents (Elt Ideal)) (x1 : (⟨S512x1024, .bf16⟩ : BufTy).Contents (Elt Ideal)) (r : Fin 1024) (l : Fin 1024) :
    val_main_v6 (F := Ideal) x0 x1 (ix2 r l) = cols x0 x1 r l := by
  unfold cols val_main_v6 val_main_v5 val_main_v4 val_main_v1 val_main_v3
  pointwise
  exact Finset.sum_congr rfl fun k _ => mul_comm _ _

end Cert.Proof.Reference28Ideal

end
-- ==== Proof.Calls.lean ====
/- The calls made of matrix products: their references' runs, and their results against the references'. -/
module

public import proofs.«01_k».proof.Defs
public import proofs.«01_k».proof.Proof.Ff2x
public import proofs.«01_k».proof.Proof.Gen.Reference2Ideal.Run
public import proofs.«01_k».proof.Proof.Bwd
public import proofs.«01_k».proof.Proof.Gen.Reference3Ideal.Run
public import proofs.«01_k».proof.Proof.Gen.Reference4Ideal.Run
public import proofs.«01_k».proof.Proof.Gen.Reference5Ideal.Run
public import proofs.«01_k».proof.Proof.ProjX
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Merge
public import proofs.«01_k».proof.Proof.Gen.Reference13Ideal.Run
public import proofs.«01_k».proof.Proof.MlaW
public import proofs.«01_k».proof.Proof.Gen.Reference14Ideal.Run
public import proofs.«01_k».proof.Proof.Gen.Reference15Ideal.Run
public import proofs.«01_k».proof.Proof.Gen.Reference16Ideal.Run
public import proofs.«01_k».proof.Proof.Gen.Reference17Ideal.Run
public import proofs.«01_k».proof.Proof.MlaKv
public import proofs.«01_k».proof.Proof.Gen.Reference18Ideal.Run
public import proofs.«01_k».proof.Proof.Fwd
public import proofs.«01_k».proof.Proof.Gen.Reference19Ideal.Run
public import proofs.«01_k».proof.Proof.Gen.Reference20Ideal.Run
public import proofs.«01_k».proof.Proof.Gen.Reference21Ideal.Run
public import proofs.«01_k».proof.Proof.Ff1
public import proofs.«01_k».proof.Proof.Gen.Reference22Ideal.Run
public import proofs.«01_k».proof.Proof.Gen.Reference23Ideal.Run
public import proofs.«01_k».proof.Proof.MergeF
public import proofs.«01_k».proof.Proof.Gen.Reference24Ideal.Run
public import proofs.«01_k».proof.Proof.PostLn
public import proofs.«01_k».proof.Proof.Gen.Reference25Ideal.Run
public import proofs.«01_k».proof.Proof.OutLn
public import proofs.«01_k».proof.Proof.Gen.Reference26Ideal.Run
public import proofs.«01_k».proof.Proof.Mem
public import proofs.«01_k».proof.Proof.Gen.Reference27Ideal.Run
public import proofs.«01_k».proof.Proof.Gen.Reference28Ideal.Run

@[expose] public section

namespace Cert.Proof

open Idealize.ShloMosaic Idealize.SL.Sem

theorem algebraic2 : Cert.algebraic_Kernel2Ideal_Reference2Ideal (hKernel2Ideal := Cert.Kernel2Ideal.Gen.facts) (hReference2Ideal := Cert.Reference2Ideal.Gen.facts) := by
  intro m ρ m' ρ' _ hag
  refine ⟨_, (θ_run _ _ _).mono (fun r h c => ⟨(h c).1.trans (Kernel2Ideal.arr3 m c), (h c).2⟩)
      (Cert.Kernel2Ideal.Value.run_blocks m ρ),
    (θ_run _ _ _).mono (fun r h c => ⟨(h c).1.trans ?_, (h c).2⟩) (Cert.Reference2Ideal.Value.run m' ρ')⟩
  rw [Cert.Reference2Ideal.Read.val_main_v15_eq, (hag c).1, (hag c).2.1, (hag c).2.2]
  funext e
  obtain ⟨r, l, rfl⟩ := ix2_ex e
  exact Reference2Ideal.v15_at _ _ _ r l

theorem algebraic3 : Cert.algebraic_Kernel3Ideal_Reference3Ideal (hKernel3Ideal := Cert.Kernel3Ideal.Gen.facts) (hReference3Ideal := Cert.Reference3Ideal.Gen.facts) := by
  intro m ρ m' ρ' _ hag
  refine ⟨_, (θ_run _ _ _).mono (fun r h c => ⟨(h c).1.trans (Kernel3Ideal.arr m c), (h c).2⟩)
      (Cert.Kernel3Ideal.Value.run_blocks m ρ),
    (θ_run _ _ _).mono (fun r h c => ⟨(h c).1.trans ?_, (h c).2⟩) (Cert.Reference3Ideal.Value.run m' ρ')⟩
  rw [Cert.Reference3Ideal.Read.val_main_v6_eq, (hag c).1, (hag c).2]
  funext e
  obtain ⟨r, l, rfl⟩ := ix2_ex e
  exact Reference3Ideal.res_at _ _ r l

theorem algebraic4 : Cert.algebraic_Kernel4Ideal_Reference4Ideal (hKernel4Ideal := Cert.Kernel4Ideal.Gen.facts) (hReference4Ideal := Cert.Reference4Ideal.Gen.facts) := by
  intro m ρ m' ρ' _ hag
  refine ⟨_, (θ_run _ _ _).mono (fun r h c => ⟨(h c).1.trans (Kernel4Ideal.arr m c), (h c).2⟩)
      (Cert.Kernel4Ideal.Value.run_blocks m ρ),
    (θ_run _ _ _).mono (fun r h c => ⟨(h c).1.trans ?_, (h c).2⟩) (Cert.Reference4Ideal.Value.run m' ρ')⟩
  rw [Cert.Reference4Ideal.Read.val_main_v6_eq, (hag c).1, (hag c).2]
  funext e
  obtain ⟨r, l, rfl⟩ := ix2_ex e
  exact Reference4Ideal.res_at _ _ r l

theorem algebraic5 : Cert.algebraic_Kernel5Ideal_Reference5Ideal (hKernel5Ideal := Cert.Kernel5Ideal.Gen.facts) (hReference5Ideal := Cert.Reference5Ideal.Gen.facts) := by
  intro m ρ m' ρ' _ hag
  refine ⟨_, (θ_run _ _ _).mono (fun r h c => ⟨(h c).1.trans (Kernel5Ideal.arr m c), (h c).2⟩)
      (Cert.Kernel5Ideal.Value.run_blocks m ρ),
    (θ_run _ _ _).mono (fun r h c => ⟨(h c).1.trans ?_, (h c).2⟩) (Cert.Reference5Ideal.Value.run m' ρ')⟩
  rw [Cert.Reference5Ideal.Read.val_main_v4_eq, (hag c).1, (hag c).2]
  funext e
  obtain ⟨r, l, rfl⟩ := ix2_ex e
  exact Reference5Ideal.res_at _ _ r l

theorem algebraic6 : Cert.algebraic_Kernel6Ideal_Reference6Ideal (hKernel6Ideal := Cert.Kernel6Ideal.Gen.facts) (hReference6Ideal := Cert.Reference6Ideal.Gen.facts) := by
  intro m ρ m' ρ' _ hag
  refine ⟨_, (θ_run _ _ _).mono (fun r h c => ⟨(h c).1.trans (Kernel6Ideal.arr m c), (h c).2⟩)
      (Cert.Kernel6Ideal.Value.run_blocks m ρ),
    (θ_run _ _ _).mono (fun r h c => ⟨(h c).1.trans ?_, (h c).2⟩) (Cert.Reference6Ideal.Value.run m' ρ')⟩
  rw [Cert.Reference6Ideal.Read.val_main_v6_eq, (hag c).1, (hag c).2.1, (hag c).2.2.1, (hag c).2.2.2.1, (hag c).2.2.2.2.1, (hag c).2.2.2.2.2.1, (hag c).2.2.2.2.2.2.1, (hag c).2.2.2.2.2.2.2]
  funext e
  obtain ⟨r, l, rfl⟩ := ix2_ex e
  exact Reference6Ideal.res_at _ _ _ _ _ _ _ _ r l

theorem algebraic7 : Cert.algebraic_Kernel7Ideal_Reference7Ideal (hKernel7Ideal := Cert.Kernel7Ideal.Gen.facts) (hReference7Ideal := Cert.Reference7Ideal.Gen.facts) := by
  intro m ρ m' ρ' _ hag
  refine ⟨_, (θ_run _ _ _).mono (fun r h c => ⟨(h c).1.trans (Kernel7Ideal.arr m c), (h c).2⟩)
      (Cert.Kernel7Ideal.Value.run_blocks m ρ),
    (θ_run _ _ _).mono (fun r h c => ⟨(h c).1.trans ?_, (h c).2⟩) (Cert.Reference7Ideal.Value.run m' ρ')⟩
  rw [Cert.Reference7Ideal.Read.val_main_v6_eq, (hag c).1, (hag c).2]
  funext e
  obtain ⟨r, l, rfl⟩ := ix2_ex e
  exact Reference7Ideal.res_at _ _ r l

theorem algebraic8 : Cert.algebraic_Kernel8Ideal_Reference8Ideal (hKernel8Ideal := Cert.Kernel8Ideal.Gen.facts) (hReference8Ideal := Cert.Reference8Ideal.Gen.facts) := by
  intro m ρ m' ρ' _ hag
  refine ⟨_, (θ_run _ _ _).mono (fun r h c => ⟨(h c).1.trans (Kernel8Ideal.arr m c), (h c).2⟩)
      (Cert.Kernel8Ideal.Value.run_blocks m ρ),
    (θ_run _ _ _).mono (fun r h c => ⟨(h c).1.trans ?_, (h c).2⟩) (Cert.Reference8Ideal.Value.run m' ρ')⟩
  rw [Cert.Reference8Ideal.Read.val_main_v6_eq, (hag c).1, (hag c).2]
  funext e
  obtain ⟨r, l, rfl⟩ := ix2_ex e
  exact Reference8Ideal.res_at _ _ r l

theorem algebraic9 : Cert.algebraic_Kernel9Ideal_Reference9Ideal (hKernel9Ideal := Cert.Kernel9Ideal.Gen.facts) (hReference9Ideal := Cert.Reference9Ideal.Gen.facts) := by
  intro m ρ m' ρ' _ hag
  refine ⟨_, (θ_run _ _ _).mono (fun r h c => ⟨(h c).1.trans (Kernel9Ideal.arr m c), (h c).2⟩)
      (Cert.Kernel9Ideal.Value.run_blocks m ρ),
    (θ_run _ _ _).mono (fun r h c => ⟨(h c).1.trans ?_, (h c).2⟩) (Cert.Reference9Ideal.Value.run m' ρ')⟩
  rw [Cert.Reference9Ideal.Read.val_main_v4_eq, (hag c).1, (hag c).2]
  funext e
  obtain ⟨r, l, rfl⟩ := ix2_ex e
  exact Reference9Ideal.res_at _ _ r l

theorem algebraic10 : Cert.algebraic_Kernel10Ideal_Reference10Ideal (hKernel10Ideal := Cert.Kernel10Ideal.Gen.facts) (hReference10Ideal := Cert.Reference10Ideal.Gen.facts) := by
  intro m ρ m' ρ' _ hag
  refine ⟨_, (θ_run _ _ _).mono (fun r h c => ⟨(h c).1.trans (Kernel10Ideal.arr m c), (h c).2⟩)
      (Cert.Kernel10Ideal.Value.run_blocks m ρ),
    (θ_run _ _ _).mono (fun r h c => ⟨(h c).1.trans ?_, (h c).2⟩) (Cert.Reference10Ideal.Value.run m' ρ')⟩
  rw [Cert.Reference10Ideal.Read.val_main_v5_eq, (hag c).1, (hag c).2]
  funext e
  obtain ⟨r, l, rfl⟩ := ix2_ex e
  exact Reference10Ideal.res_at _ _ r l

theorem algebraic11 : Cert.algebraic_Kernel11Ideal_Reference11Ideal (hKernel11Ideal := Cert.Kernel11Ideal.Gen.facts) (hReference11Ideal := Cert.Reference11Ideal.Gen.facts) := by
  intro m ρ m' ρ' _ hag
  refine ⟨_, (θ_run _ _ _).mono (fun r h c => ⟨(h c).1.trans (Kernel11Ideal.arr m c), (h c).2⟩)
      (Cert.Kernel11Ideal.Value.run_blocks m ρ),
    (θ_run _ _ _).mono (fun r h c => ⟨(h c).1.trans ?_, (h c).2⟩) (Cert.Reference11Ideal.Value.run m' ρ')⟩
  rw [Cert.Reference11Ideal.Read.val_main_v5_eq, (hag c).1, (hag c).2]
  funext e
  obtain ⟨r, l, rfl⟩ := ix2_ex e
  exact Reference11Ideal.res_at _ _ r l

theorem algebraic12 : Cert.algebraic_Kernel12Ideal_Reference12Ideal (hKernel12Ideal := Cert.Kernel12Ideal.Gen.facts) (hReference12Ideal := Cert.Reference12Ideal.Gen.facts) := by
  intro m ρ m' ρ' _ hag
  refine ⟨_, (θ_run _ _ _).mono (fun r h c => ⟨(h c).1.trans (Kernel12Ideal.arr m c), (h c).2⟩)
      (Cert.Kernel12Ideal.Value.run_blocks m ρ),
    (θ_run _ _ _).mono (fun r h c => ⟨(h c).1.trans ?_, (h c).2⟩) (Cert.Reference12Ideal.Value.run m' ρ')⟩
  rw [Cert.Reference12Ideal.Read.val_main_v6_eq, (hag c).1, (hag c).2]
  funext e
  obtain ⟨r, l, rfl⟩ := ix2_ex e
  exact Reference12Ideal.res_at _ _ r l

theorem algebraic13 : Cert.algebraic_Kernel13Ideal_Reference13Ideal (hKernel13Ideal := Cert.Kernel13Ideal.Gen.facts) (hReference13Ideal := Cert.Reference13Ideal.Gen.facts) := by
  intro m ρ m' ρ' _ hag
  refine ⟨_, _, _, _, _, _, (θ_run _ _ _).mono (fun r h c => ⟨(h c).1.trans (Kernel13Ideal.arr8 m c), (h c).2.1.trans (Kernel13Ideal.arr9 m c), (h c).2.2.1.trans (Kernel13Ideal.arr10 m c), (h c).2.2.2.1.trans (Kernel13Ideal.arr11 m c), (h c).2.2.2.2.1.trans (Kernel13Ideal.arr12 m c), (h c).2.2.2.2.2.1.trans (Kernel13Ideal.arr13 m c), (h c).2.2.2.2.2.2⟩)
      (Cert.Kernel13Ideal.Value.run_blocks m ρ),
    (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.Reference13Ideal.Value.run m' ρ')⟩
  · rw [Cert.Reference13Ideal.Read.val_main_v58_eq, (hag c).1, (hag c).2.1, (hag c).2.2.1, (hag c).2.2.2.2.2]
    funext e
    obtain ⟨r, l, rfl⟩ := ix2_ex e
    exact Reference13Ideal.v58_at _ _ _ _ r l
  · rw [Cert.Reference13Ideal.Read.val_main_v59_eq, (hag c).1, (hag c).2.1, (hag c).2.2.2.1, (hag c).2.2.2.2.2]
    funext e
    obtain ⟨r, l, rfl⟩ := ix2_ex e
    exact Reference13Ideal.v59_at _ _ _ _ r l
  · rw [Cert.Reference13Ideal.Read.val_main_v60_eq, (hag c).1, (hag c).2.1, (hag c).2.2.2.2.1, (hag c).2.2.2.2.2]
    funext e
    obtain ⟨r, l, rfl⟩ := ix2_ex e
    exact Reference13Ideal.v60_at _ _ _ _ r l
  · rw [Cert.Reference13Ideal.Read.val_main_v61_eq, (hag c).1, (hag c).2.1]
    funext e
    obtain ⟨r, l, rfl⟩ := ix2_ex e
    exact Reference13Ideal.v61_at _ _ r l
  · rw [Cert.Reference13Ideal.Read.val_main_v62_eq, (hag c).1, (hag c).2.1]
    funext e
    obtain ⟨r, l, rfl⟩ := ix2_ex e
    exact Reference13Ideal.v62_at _ _ r l
  · rw [Cert.Reference13Ideal.Read.val_main_v63_eq, (hag c).1, (hag c).2.1]
    funext e
    obtain ⟨r, l, rfl⟩ := ix2_ex e
    exact Reference13Ideal.v63_at _ _ r l

theorem algebraic14 : Cert.algebraic_Kernel14Ideal_Reference14Ideal (hKernel14Ideal := Cert.Kernel14Ideal.Gen.facts) (hReference14Ideal := Cert.Reference14Ideal.Gen.facts) := by
  intro m ρ m' ρ' _ hag
  refine ⟨_, (θ_run _ _ _).mono (fun r h c => ⟨(h c).1.trans (Kernel14Ideal.arr m c), (h c).2⟩)
      (Cert.Kernel14Ideal.Value.run_blocks m ρ),
    (θ_run _ _ _).mono (fun r h c => ⟨(h c).1.trans ?_, (h c).2⟩) (Cert.Reference14Ideal.Value.run m' ρ')⟩
  rw [Cert.Reference14Ideal.Read.val_main_v6_eq, (hag c).1, (hag c).2]
  funext e
  obtain ⟨r, l, rfl⟩ := ix2_ex e
  exact Reference14Ideal.res_at _ _ r l

theorem algebraic15 : Cert.algebraic_Kernel15Ideal_Reference15Ideal (hKernel15Ideal := Cert.Kernel15Ideal.Gen.facts) (hReference15Ideal := Cert.Reference15Ideal.Gen.facts) := by
  intro m ρ m' ρ' _ hag
  refine ⟨_, (θ_run _ _ _).mono (fun r h c => ⟨(h c).1.trans (Kernel15Ideal.arr m c), (h c).2⟩)
      (Cert.Kernel15Ideal.Value.run_blocks m ρ),
    (θ_run _ _ _).mono (fun r h c => ⟨(h c).1.trans ?_, (h c).2⟩) (Cert.Reference15Ideal.Value.run m' ρ')⟩
  rw [Cert.Reference15Ideal.Read.val_main_v4_eq, (hag c).1, (hag c).2]
  funext e
  obtain ⟨r, l, rfl⟩ := ix2_ex e
  exact Reference15Ideal.res_at _ _ r l

theorem algebraic16 : Cert.algebraic_Kernel16Ideal_Reference16Ideal (hKernel16Ideal := Cert.Kernel16Ideal.Gen.facts) (hReference16Ideal := Cert.Reference16Ideal.Gen.facts) := by
  intro m ρ m' ρ' _ hag
  refine ⟨_, (θ_run _ _ _).mono (fun r h c => ⟨(h c).1.trans (Kernel16Ideal.arr m c), (h c).2⟩)
      (Cert.Kernel16Ideal.Value.run_blocks m ρ),
    (θ_run _ _ _).mono (fun r h c => ⟨(h c).1.trans ?_, (h c).2⟩) (Cert.Reference16Ideal.Value.run m' ρ')⟩
  rw [Cert.Reference16Ideal.Read.val_main_v6_eq, (hag c).1, (hag c).2]
  funext e
  obtain ⟨r, l, rfl⟩ := ix2_ex e
  exact Reference16Ideal.res_at _ _ r l

theorem algebraic17 : Cert.algebraic_Kernel17Ideal_Reference17Ideal (hKernel17Ideal := Cert.Kernel17Ideal.Gen.facts) (hReference17Ideal := Cert.Reference17Ideal.Gen.facts) := by
  intro m ρ m' ρ' _ hag
  refine ⟨_, (θ_run _ _ _).mono (fun r h c => ⟨(h c).1.trans (Kernel17Ideal.arr m c), (h c).2⟩)
      (Cert.Kernel17Ideal.Value.run_blocks m ρ),
    (θ_run _ _ _).mono (fun r h c => ⟨(h c).1.trans ?_, (h c).2⟩) (Cert.Reference17Ideal.Value.run m' ρ')⟩
  rw [Cert.Reference17Ideal.Read.val_main_v6_eq, (hag c).1, (hag c).2]
  funext e
  obtain ⟨r, l, rfl⟩ := ix2_ex e
  exact Reference17Ideal.res_at _ _ r l

theorem algebraic18 : Cert.algebraic_Kernel18Ideal_Reference18Ideal (hKernel18Ideal := Cert.Kernel18Ideal.Gen.facts) (hReference18Ideal := Cert.Reference18Ideal.Gen.facts) := by
  intro m ρ m' ρ' _ hag
  refine ⟨_, (θ_run _ _ _).mono (fun r h c => ⟨(h c).1.trans (Kernel18Ideal.arr m c), (h c).2⟩)
      (Cert.Kernel18Ideal.Value.run_blocks m ρ),
    (θ_run _ _ _).mono (fun r h c => ⟨(h c).1.trans ?_, (h c).2⟩) (Cert.Reference18Ideal.Value.run m' ρ')⟩
  rw [Cert.Reference18Ideal.Read.val_main_v9_eq, (hag c).1, (hag c).2.1, (hag c).2.2.1, (hag c).2.2.2]
  funext e
  obtain ⟨r, l, rfl⟩ := ix2_ex e
  exact Reference18Ideal.res_at _ _ _ _ r l

theorem algebraic19 : Cert.algebraic_Kernel19Ideal_Reference19Ideal (hKernel19Ideal := Cert.Kernel19Ideal.Gen.facts) (hReference19Ideal := Cert.Reference19Ideal.Gen.facts) := by
  intro m ρ m' ρ' _ hag
  refine ⟨_, (θ_run _ _ _).mono (fun r h c => ⟨(h c).1.trans (Kernel19Ideal.arr m c), (h c).2⟩)
      (Cert.Kernel19Ideal.Value.run_blocks m ρ),
    (θ_run _ _ _).mono (fun r h c => ⟨(h c).1.trans ?_, (h c).2⟩) (Cert.Reference19Ideal.Value.run m' ρ')⟩
  rw [Cert.Reference19Ideal.Read.val_main_v3_eq, (hag c).1, (hag c).2]
  funext e
  obtain ⟨r, l, rfl⟩ := ix2_ex e
  exact Reference19Ideal.res_at _ _ r l

theorem algebraic20 : Cert.algebraic_Kernel20Ideal_Reference20Ideal (hKernel20Ideal := Cert.Kernel20Ideal.Gen.facts) (hReference20Ideal := Cert.Reference20Ideal.Gen.facts) := by
  intro m ρ m' ρ' _ hag
  refine ⟨_, (θ_run _ _ _).mono (fun r h c => ⟨(h c).1.trans (Kernel20Ideal.arr m c), (h c).2⟩)
      (Cert.Kernel20Ideal.Value.run_blocks m ρ),
    (θ_run _ _ _).mono (fun r h c => ⟨(h c).1.trans ?_, (h c).2⟩) (Cert.Reference20Ideal.Value.run m' ρ')⟩
  rw [Cert.Reference20Ideal.Read.val_main_v2_eq, (hag c).1, (hag c).2]
  funext e
  obtain ⟨r, l, rfl⟩ := ix2_ex e
  exact Reference20Ideal.res_at _ _ r l

theorem algebraic21 : Cert.algebraic_Kernel21Ideal_Reference21Ideal (hKernel21Ideal := Cert.Kernel21Ideal.Gen.facts) (hReference21Ideal := Cert.Reference21Ideal.Gen.facts) := by
  intro m ρ m' ρ' _ hag
  refine ⟨_, (θ_run _ _ _).mono (fun r h c => ⟨(h c).1.trans (Kernel21Ideal.arr m c), (h c).2⟩)
      (Cert.Kernel21Ideal.Value.run_blocks m ρ),
    (θ_run _ _ _).mono (fun r h c => ⟨(h c).1.trans ?_, (h c).2⟩) (Cert.Reference21Ideal.Value.run m' ρ')⟩
  rw [Cert.Reference21Ideal.Read.val_main_v2_eq, (hag c).1, (hag c).2]
  funext e
  obtain ⟨r, l, rfl⟩ := ix2_ex e
  exact Reference21Ideal.res_at _ _ r l

theorem algebraic22 : Cert.algebraic_Kernel22Ideal_Reference22Ideal (hKernel22Ideal := Cert.Kernel22Ideal.Gen.facts) (hReference22Ideal := Cert.Reference22Ideal.Gen.facts) := by
  intro m ρ m' ρ' _ hag
  refine ⟨_, _, (θ_run _ _ _).mono (fun r h c => ⟨(h c).1.trans (Kernel22Ideal.arr2 m c), (h c).2.1.trans (Kernel22Ideal.arr3 m c), (h c).2.2⟩)
      (Cert.Kernel22Ideal.Value.run_blocks m ρ),
    (θ_run _ _ _).mono (fun r h c => ⟨(h c).1.trans ?_, (h c).2.1.trans ?_, (h c).2.2⟩) (Cert.Reference22Ideal.Value.run m' ρ')⟩
  · rw [Cert.Reference22Ideal.Read.val_main_v3_eq, (hag c).1, (hag c).2]
    funext e
    obtain ⟨r, l, rfl⟩ := ix2_ex e
    exact Reference22Ideal.v3_at _ _ r l
  · rw [Cert.Reference22Ideal.Read.val_main_v6_eq, (hag c).1, (hag c).2]
    funext e
    obtain ⟨r, l, rfl⟩ := ix2_ex e
    exact Reference22Ideal.v6_at _ _ r l

theorem algebraic23 : Cert.algebraic_Kernel23Ideal_Reference23Ideal (hKernel23Ideal := Cert.Kernel23Ideal.Gen.facts) (hReference23Ideal := Cert.Reference23Ideal.Gen.facts) := by
  intro m ρ m' ρ' _ hag
  refine ⟨_, (θ_run _ _ _).mono (fun r h c => ⟨(h c).1.trans (Kernel23Ideal.arr m c), (h c).2⟩)
      (Cert.Kernel23Ideal.Value.run_blocks m ρ),
    (θ_run _ _ _).mono (fun r h c => ⟨(h c).1.trans ?_, (h c).2⟩) (Cert.Reference23Ideal.Value.run m' ρ')⟩
  rw [Cert.Reference23Ideal.Read.val_main_v3_eq, (hag c).1, (hag c).2]
  funext e
  obtain ⟨r, l, rfl⟩ := ix2_ex e
  exact Reference23Ideal.res_at _ _ r l

theorem algebraic24 : Cert.algebraic_Kernel24Ideal_Reference24Ideal (hKernel24Ideal := Cert.Kernel24Ideal.Gen.facts) (hReference24Ideal := Cert.Reference24Ideal.Gen.facts) := by
  intro m ρ m' ρ' _ hag
  refine ⟨_, (θ_run _ _ _).mono (fun r h c => ⟨(h c).1.trans (Kernel24Ideal.arr m c), (h c).2⟩)
      (Cert.Kernel24Ideal.Value.run_blocks m ρ),
    (θ_run _ _ _).mono (fun r h c => ⟨(h c).1.trans ?_, (h c).2⟩) (Cert.Reference24Ideal.Value.run m' ρ')⟩
  rw [Cert.Reference24Ideal.Read.val_main_v26_eq, (hag c).1, (hag c).2.1, (hag c).2.2.1, (hag c).2.2.2.1, (hag c).2.2.2.2]
  funext e
  obtain ⟨r, l, rfl⟩ := ix2_ex e
  exact Reference24Ideal.res_at _ _ _ _ _ r l

theorem algebraic25 : Cert.algebraic_Kernel25Ideal_Reference25Ideal (hKernel25Ideal := Cert.Kernel25Ideal.Gen.facts) (hReference25Ideal := Cert.Reference25Ideal.Gen.facts) := by
  intro m ρ m' ρ' _ hag
  refine ⟨_, _, _, (θ_run _ _ _).mono (fun r h c => ⟨(h c).1.trans (Kernel25Ideal.arr5 m c), (h c).2.1.trans (Kernel25Ideal.arr6 m c), (h c).2.2.1.trans (Kernel25Ideal.arr7 m c), (h c).2.2.2⟩)
      (Cert.Kernel25Ideal.Value.run_blocks m ρ),
    (θ_run _ _ _).mono (fun r h c => ⟨(h c).1.trans ?_, (h c).2.1.trans ?_, (h c).2.2.1.trans ?_, (h c).2.2.2⟩) (Cert.Reference25Ideal.Value.run m' ρ')⟩
  · rw [Cert.Reference25Ideal.Read.val_main_v5_eq, (hag c).1, (hag c).2.1, (hag c).2.2.1]
    funext e
    obtain ⟨r, l, rfl⟩ := ix2_ex e
    exact Reference25Ideal.v5_at _ _ _ r l
  · rw [Cert.Reference25Ideal.Read.val_main_v27_eq, (hag c).1, (hag c).2.1, (hag c).2.2.1, (hag c).2.2.2.1, (hag c).2.2.2.2]
    funext e
    obtain ⟨r, l, rfl⟩ := ix2_ex e
    exact Reference25Ideal.v27_at _ _ _ _ _ r l
  · rw [Cert.Reference25Ideal.Read.val_main_v28_eq, (hag c).1, (hag c).2.1, (hag c).2.2.1, (hag c).2.2.2.1, (hag c).2.2.2.2]
    funext e
    obtain ⟨r, l, rfl⟩ := ix2_ex e
    exact Reference25Ideal.v28_at _ _ _ _ _ r l

theorem algebraic26 : Cert.algebraic_Kernel26Ideal_Reference26Ideal (hKernel26Ideal := Cert.Kernel26Ideal.Gen.facts) (hReference26Ideal := Cert.Reference26Ideal.Gen.facts) := by
  intro m ρ m' ρ' _ hag
  refine ⟨_, _, _, (θ_run _ _ _).mono (fun r h c => ⟨(h c).1.trans (Kernel26Ideal.arr5 m c), (h c).2.1.trans (Kernel26Ideal.arr6 m c), (h c).2.2.1.trans (Kernel26Ideal.arr7 m c), (h c).2.2.2⟩)
      (Cert.Kernel26Ideal.Value.run_blocks m ρ),
    (θ_run _ _ _).mono (fun r h c => ⟨(h c).1.trans ?_, (h c).2.1.trans ?_, (h c).2.2.1.trans ?_, (h c).2.2.2⟩) (Cert.Reference26Ideal.Value.run m' ρ')⟩
  · rw [Cert.Reference26Ideal.Read.val_main_v5_eq, (hag c).1, (hag c).2.1, (hag c).2.2.1]
    funext e
    obtain ⟨r, l, rfl⟩ := ix2_ex e
    exact Reference26Ideal.v5_at _ _ _ r l
  · rw [Cert.Reference26Ideal.Read.val_main_v27_eq, (hag c).1, (hag c).2.1, (hag c).2.2.1, (hag c).2.2.2.1, (hag c).2.2.2.2]
    funext e
    obtain ⟨r, l, rfl⟩ := ix2_ex e
    exact Reference26Ideal.v27_at _ _ _ _ _ r l
  · rw [Cert.Reference26Ideal.Read.val_main_v28_eq, (hag c).1, (hag c).2.1, (hag c).2.2.1, (hag c).2.2.2.1, (hag c).2.2.2.2]
    funext e
    obtain ⟨r, l, rfl⟩ := ix2_ex e
    exact Reference26Ideal.v28_at _ _ _ _ _ r l

theorem algebraic27 : Cert.algebraic_Kernel27Ideal_Reference27Ideal (hKernel27Ideal := Cert.Kernel27Ideal.Gen.facts) (hReference27Ideal := Cert.Reference27Ideal.Gen.facts) := by
  intro m ρ m' ρ' _ hag
  refine ⟨_, (θ_run _ _ _).mono (fun r h c => ⟨(h c).1.trans (Kernel27Ideal.arr m c), (h c).2⟩)
      (Cert.Kernel27Ideal.Value.run_blocks m ρ),
    (θ_run _ _ _).mono (fun r h c => ⟨(h c).1.trans ?_, (h c).2⟩) (Cert.Reference27Ideal.Value.run m' ρ')⟩
  rw [Cert.Reference27Ideal.Read.val_main_v3_eq, (hag c).1, (hag c).2]
  funext e
  obtain ⟨r, l, rfl⟩ := ix2_ex e
  exact Reference27Ideal.res_at _ _ r l

theorem algebraic28 : Cert.algebraic_Kernel28Ideal_Reference28Ideal (hKernel28Ideal := Cert.Kernel28Ideal.Gen.facts) (hReference28Ideal := Cert.Reference28Ideal.Gen.facts) := by
  intro m ρ m' ρ' _ hag
  refine ⟨_, (θ_run _ _ _).mono (fun r h c => ⟨(h c).1.trans (Kernel28Ideal.arr m c), (h c).2⟩)
      (Cert.Kernel28Ideal.Value.run_blocks m ρ),
    (θ_run _ _ _).mono (fun r h c => ⟨(h c).1.trans ?_, (h c).2⟩) (Cert.Reference28Ideal.Value.run m' ρ')⟩
  rw [Cert.Reference28Ideal.Read.val_main_v6_eq, (hag c).1, (hag c).2]
  funext e
  obtain ⟨r, l, rfl⟩ := ix2_ex e
  exact Reference28Ideal.res_at _ _ r l

end Cert.Proof

end
-- ==== Proof.lean ====
module

public import proofs.«01_k».proof.Defs
public import proofs.«01_k».proof.Proof.FoxArr
public import proofs.«01_k».proof.Proof.FoxFrameBits
public import proofs.«01_k».proof.Proof.FoxRef
public import proofs.«01_k».proof.Proof.Gen.ReferenceIdeal.Run
public import proofs.«01_k».proof.Proof.Calls
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame
public import proofs.«01_k».proof.Proof.Gen.Kernel24.Frame
public import proofs.«01_k».proof.Proof.Gen.Kernel25.Frame
public import proofs.«01_k».proof.Proof.Gen.Kernel26.Frame
public import proofs.«01_k».proof.Proof.Gen.Kernel27.Frame
public import proofs.«01_k».proof.Proof.Gen.Kernel28.Frame
public import Idealize.ShloMosaic.Lib.ReduceAll

@[expose] public section

namespace Cert.Proof

open Idealize.ShloMosaic Idealize.SL.Sem

/-- The reference, host operations only, has no counters: its run, with the results dropped. -/
theorem reference_quiescent (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2, sem_eq_zero_of_no_sems rfl r.2⟩) (Cert.ReferenceIdeal.Value.run m ρ)

/-- An extended real whose absolute value compares less than infinity is a real. -/
theorem real_of_cmp (x : EReal) (h : Ideal.cmp .olt (max x (-x)) (Ideal.ofBits .f32 0x7F800000#32) = 1#1) : ∃ r : ℝ, x = (r : EReal) := by
  have e : Ideal.ofBits .f32 0x7F800000#32 = (⊤ : EReal) := by simp [Ideal.ofBits, Ideal.ieee, -EReal.coe_mul]
  rw [e] at h
  induction x using EReal.rec with
  | bot => simp [Ideal.cmp] at h
  | coe r => exact ⟨r, rfl⟩
  | top => simp [Ideal.cmp] at h

/-- What the precondition's operations state. -/
theorem preFacts : Cert.Pre_finite.Facts where
  bitsLt_bf16_f32 := by decide
  bcast_S_S4096x2048 := by decide
  reducesTo_S4096x2048_S_d0_1 := by decide
  h_S_ := by decide
  bcast_S_S2x8x2048 := by decide
  reducesTo_S2x8x2048_S_d0_1_2 := by decide

/-- Under the precondition the projections and the gates are reals. -/
theorem reals (m : (ℓ : Loc Cert.KernelIdeal.nD Cert.KernelIdeal.τ Cert.KernelIdeal.sig) → Buf (Elt Ideal) ℓ)
    (h : Cert.Pre_KernelIdeal_finite (hPre_finite := preFacts) m) (c : Dev Cert.KernelIdeal.nD) :
    (∀ r l, ∃ x : ℝ, KernelIdeal.fa m c r l = (x : EReal)) ∧ ∀ b g y, ∃ x : ℝ, KernelIdeal.fc m c b g y = (x : EReal) := by
  haveI : Subsingleton Cert.Pre_finite.S_.Idx := ⟨fun a b => funext fun x => x.elim0⟩
  have e := congrFun (h c) ValueIdx.ix0
  dsimp only [Cert.Pre_finite.fn] at e
  obtain ⟨e0, e1⟩ := IntOp.andi_eq_one.1 e
  exact ⟨fun r l => real_of_cmp _ (Host.reduce_andi_all _ _ _ _ _ e0 (ValueIdx.ix2 r l)),
    fun b g y => real_of_cmp _ (Host.reduce_andi_all _ _ _ _ _ e1 (ValueIdx.ix3 b g y))⟩

theorem algebraic : Cert.algebraic_KernelIdeal_ReferenceIdeal_pre_finite (hKernelIdeal := Cert.KernelIdeal.Gen.facts) (hReferenceIdeal := Cert.ReferenceIdeal.Gen.facts) (hPre_finite := preFacts) := by
  intro m ρ m' ρ' hpre hag
  choose ar ha using fun c => (reals m hpre c).1
  choose cr hc using fun c => (reals m hpre c).2
  refine ⟨_, KernelIdeal.runV m ρ ha hc, (θ_run _ _ _).mono (fun r h c => ⟨(h c).1.trans ?_, (h c).2⟩) (Cert.ReferenceIdeal.Value.run m' ρ')⟩
  rw [Cert.ReferenceIdeal.Read.val_main_v90_eq, (hag c).1, (hag c).2.1, (hag c).2.2]
  funext e
  obtain ⟨r, l, rfl⟩ : ∃ (r : Fin 4096) (l : Fin 512), e = ValueIdx.ix2 r l := ⟨e 0, e 1, funext fun a => match a with
    | ⟨0, _⟩ => rfl
    | ⟨1, _⟩ => rfl⟩
  exact ReferenceIdeal.v90_at _ _ _ r l

/-- The frames of the kernels, over words and over the reals, and of the references; the two named constants; the gradient of
    the values; and the results of the calls made of matrix products. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel21.Gen.facts, Cert.Kernel21Ideal.Gen.facts, Cert.Reference21Ideal.Gen.facts, Cert.Kernel22.Gen.facts, Cert.Kernel22Ideal.Gen.facts, Cert.Reference22Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Kernel28.Gen.facts, Cert.Kernel28Ideal.Gen.facts, Cert.Reference28Ideal.Gen.facts, preFacts,
  fun m ρ _ => Cert.Proof.Kernel.quiescent m ρ,
  fun m ρ _ => Cert.Proof.KernelIdeal.quiescent m ρ,
  fun m ρ _ => Cert.Proof.KernelIdeal.quiescent m ρ,
  fun m ρ _ => reference_quiescent m ρ,
  fun m ρ _ => reference_quiescent m ρ,
  fun m ρ _ => Cert.Kernel2.Gen.frame m ρ, fun m ρ _ => Cert.Kernel2Ideal.Gen.frame m ρ, fun m ρ _ => (θ_run _ _ _).mono (fun r h => ⟨fun c => (h c).2, sem_eq_zero_of_no_sems rfl r.2⟩) (Cert.Reference2Ideal.Value.run m ρ),
  fun m ρ _ => Cert.Kernel3.Gen.frame m ρ, fun m ρ _ => Cert.Kernel3Ideal.Gen.frame m ρ, fun m ρ _ => (θ_run _ _ _).mono (fun r h => ⟨fun c => (h c).2, sem_eq_zero_of_no_sems rfl r.2⟩) (Cert.Reference3Ideal.Value.run m ρ),
  fun m ρ _ => Cert.Kernel4.Gen.frame m ρ, fun m ρ _ => Cert.Kernel4Ideal.Gen.frame m ρ, fun m ρ _ => (θ_run _ _ _).mono (fun r h => ⟨fun c => (h c).2, sem_eq_zero_of_no_sems rfl r.2⟩) (Cert.Reference4Ideal.Value.run m ρ),
  fun m ρ _ => Cert.Kernel5.Gen.frame m ρ, fun m ρ _ => Cert.Kernel5Ideal.Gen.frame m ρ, fun m ρ _ => (θ_run _ _ _).mono (fun r h => ⟨fun c => (h c).2, sem_eq_zero_of_no_sems rfl r.2⟩) (Cert.Reference5Ideal.Value.run m ρ),
  fun m ρ _ => Cert.Kernel6.Gen.frame m ρ, fun m ρ _ => Cert.Kernel6Ideal.Gen.frame m ρ, fun m ρ _ => (θ_run _ _ _).mono (fun r h => ⟨fun c => (h c).2, sem_eq_zero_of_no_sems rfl r.2⟩) (Cert.Reference6Ideal.Value.run m ρ),
  fun m ρ _ => Cert.Kernel7.Gen.frame m ρ, fun m ρ _ => Cert.Kernel7Ideal.Gen.frame m ρ, fun m ρ _ => (θ_run _ _ _).mono (fun r h => ⟨fun c => (h c).2, sem_eq_zero_of_no_sems rfl r.2⟩) (Cert.Reference7Ideal.Value.run m ρ),
  fun m ρ _ => Cert.Kernel8.Gen.frame m ρ, fun m ρ _ => Cert.Kernel8Ideal.Gen.frame m ρ, fun m ρ _ => (θ_run _ _ _).mono (fun r h => ⟨fun c => (h c).2, sem_eq_zero_of_no_sems rfl r.2⟩) (Cert.Reference8Ideal.Value.run m ρ),
  fun m ρ _ => Cert.Kernel9.Gen.frame m ρ, fun m ρ _ => Cert.Kernel9Ideal.Gen.frame m ρ, fun m ρ _ => (θ_run _ _ _).mono (fun r h => ⟨fun c => (h c).2, sem_eq_zero_of_no_sems rfl r.2⟩) (Cert.Reference9Ideal.Value.run m ρ),
  fun m ρ _ => Cert.Kernel10.Gen.frame m ρ, fun m ρ _ => Cert.Kernel10Ideal.Gen.frame m ρ, fun m ρ _ => (θ_run _ _ _).mono (fun r h => ⟨fun c => (h c).2, sem_eq_zero_of_no_sems rfl r.2⟩) (Cert.Reference10Ideal.Value.run m ρ),
  fun m ρ _ => Cert.Kernel11.Gen.frame m ρ, fun m ρ _ => Cert.Kernel11Ideal.Gen.frame m ρ, fun m ρ _ => (θ_run _ _ _).mono (fun r h => ⟨fun c => (h c).2, sem_eq_zero_of_no_sems rfl r.2⟩) (Cert.Reference11Ideal.Value.run m ρ),
  fun m ρ _ => Cert.Kernel12.Gen.frame m ρ, fun m ρ _ => Cert.Kernel12Ideal.Gen.frame m ρ, fun m ρ _ => (θ_run _ _ _).mono (fun r h => ⟨fun c => (h c).2, sem_eq_zero_of_no_sems rfl r.2⟩) (Cert.Reference12Ideal.Value.run m ρ),
  fun m ρ _ => Cert.Kernel13.Gen.frame m ρ, fun m ρ _ => Cert.Kernel13Ideal.Gen.frame m ρ, fun m ρ _ => (θ_run _ _ _).mono (fun r h => ⟨fun c => (h c).2.2.2.2.2.2, sem_eq_zero_of_no_sems rfl r.2⟩) (Cert.Reference13Ideal.Value.run m ρ),
  fun m ρ _ => Cert.Kernel14.Gen.frame m ρ, fun m ρ _ => Cert.Kernel14Ideal.Gen.frame m ρ, fun m ρ _ => (θ_run _ _ _).mono (fun r h => ⟨fun c => (h c).2, sem_eq_zero_of_no_sems rfl r.2⟩) (Cert.Reference14Ideal.Value.run m ρ),
  fun m ρ _ => Cert.Kernel15.Gen.frame m ρ, fun m ρ _ => Cert.Kernel15Ideal.Gen.frame m ρ, fun m ρ _ => (θ_run _ _ _).mono (fun r h => ⟨fun c => (h c).2, sem_eq_zero_of_no_sems rfl r.2⟩) (Cert.Reference15Ideal.Value.run m ρ),
  fun m ρ _ => Cert.Kernel16.Gen.frame m ρ, fun m ρ _ => Cert.Kernel16Ideal.Gen.frame m ρ, fun m ρ _ => (θ_run _ _ _).mono (fun r h => ⟨fun c => (h c).2, sem_eq_zero_of_no_sems rfl r.2⟩) (Cert.Reference16Ideal.Value.run m ρ),
  fun m ρ _ => Cert.Kernel17.Gen.frame m ρ, fun m ρ _ => Cert.Kernel17Ideal.Gen.frame m ρ, fun m ρ _ => (θ_run _ _ _).mono (fun r h => ⟨fun c => (h c).2, sem_eq_zero_of_no_sems rfl r.2⟩) (Cert.Reference17Ideal.Value.run m ρ),
  fun m ρ _ => Cert.Kernel18.Gen.frame m ρ, fun m ρ _ => Cert.Kernel18Ideal.Gen.frame m ρ, fun m ρ _ => (θ_run _ _ _).mono (fun r h => ⟨fun c => (h c).2, sem_eq_zero_of_no_sems rfl r.2⟩) (Cert.Reference18Ideal.Value.run m ρ),
  fun m ρ _ => Cert.Kernel19.Gen.frame m ρ, fun m ρ _ => Cert.Kernel19Ideal.Gen.frame m ρ, fun m ρ _ => (θ_run _ _ _).mono (fun r h => ⟨fun c => (h c).2, sem_eq_zero_of_no_sems rfl r.2⟩) (Cert.Reference19Ideal.Value.run m ρ),
  fun m ρ _ => Cert.Kernel20.Gen.frame m ρ, fun m ρ _ => Cert.Kernel20Ideal.Gen.frame m ρ, fun m ρ _ => (θ_run _ _ _).mono (fun r h => ⟨fun c => (h c).2, sem_eq_zero_of_no_sems rfl r.2⟩) (Cert.Reference20Ideal.Value.run m ρ),
  fun m ρ _ => Cert.Kernel21.Gen.frame m ρ, fun m ρ _ => Cert.Kernel21Ideal.Gen.frame m ρ, fun m ρ _ => (θ_run _ _ _).mono (fun r h => ⟨fun c => (h c).2, sem_eq_zero_of_no_sems rfl r.2⟩) (Cert.Reference21Ideal.Value.run m ρ),
  fun m ρ _ => Cert.Kernel22.Gen.frame m ρ, fun m ρ _ => Cert.Kernel22Ideal.Gen.frame m ρ, fun m ρ _ => (θ_run _ _ _).mono (fun r h => ⟨fun c => (h c).2.2, sem_eq_zero_of_no_sems rfl r.2⟩) (Cert.Reference22Ideal.Value.run m ρ),
  fun m ρ _ => Cert.Kernel23.Gen.frame m ρ, fun m ρ _ => Cert.Kernel23Ideal.Gen.frame m ρ, fun m ρ _ => (θ_run _ _ _).mono (fun r h => ⟨fun c => (h c).2, sem_eq_zero_of_no_sems rfl r.2⟩) (Cert.Reference23Ideal.Value.run m ρ),
  fun m ρ _ => Cert.Kernel24.Gen.frame m ρ, fun m ρ _ => Cert.Kernel24Ideal.Gen.frame m ρ, fun m ρ _ => (θ_run _ _ _).mono (fun r h => ⟨fun c => (h c).2, sem_eq_zero_of_no_sems rfl r.2⟩) (Cert.Reference24Ideal.Value.run m ρ),
  fun m ρ _ => Cert.Kernel25.Gen.frame m ρ, fun m ρ _ => Cert.Kernel25Ideal.Gen.frame m ρ, fun m ρ _ => (θ_run _ _ _).mono (fun r h => ⟨fun c => (h c).2.2.2, sem_eq_zero_of_no_sems rfl r.2⟩) (Cert.Reference25Ideal.Value.run m ρ),
  fun m ρ _ => Cert.Kernel26.Gen.frame m ρ, fun m ρ _ => Cert.Kernel26Ideal.Gen.frame m ρ, fun m ρ _ => (θ_run _ _ _).mono (fun r h => ⟨fun c => (h c).2.2.2, sem_eq_zero_of_no_sems rfl r.2⟩) (Cert.Reference26Ideal.Value.run m ρ),
  fun m ρ _ => Cert.Kernel27.Gen.frame m ρ, fun m ρ _ => Cert.Kernel27Ideal.Gen.frame m ρ, fun m ρ _ => (θ_run _ _ _).mono (fun r h => ⟨fun c => (h c).2, sem_eq_zero_of_no_sems rfl r.2⟩) (Cert.Reference27Ideal.Value.run m ρ),
  fun m ρ _ => Cert.Kernel28.Gen.frame m ρ, fun m ρ _ => Cert.Kernel28Ideal.Gen.frame m ρ, fun m ρ _ => (θ_run _ _ _).mono (fun r h => ⟨fun c => (h c).2, sem_eq_zero_of_no_sems rfl r.2⟩) (Cert.Reference28Ideal.Value.run m ρ),
  ⟨IdealRules.named_const.statement Cert.KernelIdeal.κ "scale_log2e" .f32 0x3E38AA3B#32 _ rfl,
   IdealRules.named_const.statement Cert.KernelIdeal.κ "mask" .f32 0xF149F2CA#32 _ rfl⟩,
  algebraic,
   trivial, algebraic2,
   trivial, algebraic3,
   trivial, algebraic4,
   trivial, algebraic5,
   trivial, algebraic6,
   trivial, algebraic7,
   trivial, algebraic8,
   trivial, algebraic9,
   trivial, algebraic10,
   trivial, algebraic11,
   trivial, algebraic12,
   trivial, algebraic13,
   trivial, algebraic14,
   trivial, algebraic15,
   trivial, algebraic16,
   trivial, algebraic17,
   trivial, algebraic18,
   trivial, algebraic19,
   trivial, algebraic20,
   trivial, algebraic21,
   trivial, algebraic22,
   trivial, algebraic23,
   trivial, algebraic24,
   trivial, algebraic25,
   trivial, algebraic26,
   trivial, algebraic27,
   trivial, algebraic28⟩

end Cert.Proof

end
